-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v142) = v0 c
          ∧ r.2.mem ((c.tc : Thread Cert.Reference4Ideal.nD Cert.Reference4Ideal.τ).loc Cert.Reference4Ideal.main_v143) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x2048x512 : Shape := ⟨3, ![16, 2048, 512]⟩
abbrev S32x4 : Shape := ⟨2, ![32, 4]⟩
abbrev S4 : Shape := ⟨1, ![4]⟩
abbrev S256 : Shape := ⟨1, ![256]⟩
abbrev S16x2048x384 : Shape := ⟨3, ![16, 2048, 384]⟩
abbrev S_ : Shape := ⟨0, ![]⟩

class Facts : Prop where
  slices_S16x2048x512_S16x2048x384_0_0_0 : S16x2048x512.Slices ![0, 0, 0] S16x2048x384
  bcast_S_S16x2048x384 : S_.BroadcastsInDim S16x2048x384 (![] : Fin 0 → Fin S16x2048x384.rank)
  reducesTo_S16x2048x384_S_d0_1_2 : S16x2048x384.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S16x2048x512 .f32) (main_arg1 : FVec F S32x4 .f32) (main_arg2 : FVec F S4 .f32) (main_arg3 : FVec F S256 .f32) : IVec S_ 1 :=
  let main_v0 : FVec F S16x2048x384 .f32 := (extractStridedSlice S16x2048x384 ![0, 0, 0] · slices_S16x2048x512_S16x2048x384_0_0_0) main_arg0
  let main_v1 : FVec F S16x2048x384 .f32 := Host.absf main_v0
  let main_cst : FVec F S_ .f32 := constant S_ .f32 0x7F800000#32
  let main_v2 : FVec F S16x2048x384 .f32 := broadcastInDim S16x2048x384 ![] bcast_S_S16x2048x384 main_cst
  let main_v3 : IVec S16x2048x384 1 := cmpf .olt main_v1 main_v2
  let main_c : IVec S_ 1 := constantI S_ 1 1#1
  let main_v4 : IVec S_ 1 := (fun x v => Host.reduce IntOp.andi x v reducesTo_S16x2048x384_S_d0_1_2 h_S_) main_v3 main_c
  let main_v5 : FVec F S32x4 .f32 := Host.absf main_arg1
  let main_cst_0 : FVec F S_ .f32 := constant S_ .f32 0x7F800000#32
  let main_v6 : FVec F S32x4 .f32 := broadcastInDim S32x4 ![] bcast_S_S32x4 main_cst_0
  let main_v7 : IVec S32x4 1 := cmpf .olt main_v5 main_v6
  let main_c_1 : IVec S_ 1 := constantI S_ 1 1#1
  let main_v8 : IVec S_ 1 := (fun x v => Host.reduce IntOp.andi x v reducesTo_S32x4_S_d0_1 h_S_) main_v7 main_c_1
  let main_v9 : IVec S_ 1 := andi main_v4 main_v8
  let main_v10 : FVec F S4 .f32 := Host.absf main_arg2
  let main_cst_2 : FVec F S_ .f32 := constant S_ .f32 0x7F800000#32
  let main_v11 : FVec F S4 .f32 := broadcastInDim S4 ![] bcast_S_S4 main_cst_2
  let main_v12 : IVec S4 1 := cmpf .olt main_v10 main_v11
  let main_c_3 : IVec S_ 1 := constantI S_ 1 1#1
  let main_v13 : IVec S_ 1 := (fun x v => Host.reduce IntOp.andi x v reducesTo_S4_S_d0 h_S_) main_v12 main_c_3
  let main_v14 : IVec S_ 1 := andi main_v9 main_v13
  main_v14
-- ==== Kernel.lean ====
abbrev S16x2048x512 : Shape := ⟨3, ![16, 2048, 512]⟩
abbrev S32x4 : Shape := ⟨2, ![32, 4]⟩
abbrev S4 : Shape := ⟨1, ![4]⟩
abbrev S256 : Shape := ⟨1, ![256]⟩
abbrev S128x256 : Shape := ⟨2, ![128, 256]⟩
abbrev S1x128x256 : Shape := ⟨3, ![1, 128, 256]⟩
abbrev S_ : Shape := ⟨0, ![]⟩
abbrev S4x128x256 : Shape := ⟨3, ![4, 128, 256]⟩
abbrev S1x4 : Shape := ⟨2, ![1, 4]⟩
abbrev S4x1x1 : Shape := ⟨3, ![4, 1, 1]⟩
abbrev S512x256 : Shape := ⟨2, ![512, 256]⟩
abbrev S1x16x2048x512 : Shape := ⟨4, ![1, 16, 2048, 512]⟩
abbrev S1x256 : Shape := ⟨2, ![1, 256]⟩
abbrev S16x2048x256 : Shape := ⟨3, ![16, 2048, 256]⟩
abbrev S16x128x256 : Shape := ⟨3, ![16, 128, 256]⟩
abbrev S16x128x128 : Shape := ⟨3, ![16, 128, 128]⟩
abbrev S1x16x128x128 : Shape := ⟨4, ![1, 16, 128, 128]⟩
abbrev S1x128 : Shape := ⟨2, ![1, 128]⟩
abbrev S512x1 : Shape := ⟨2, ![512, 1]⟩
abbrev S1x1 : Shape := ⟨2, ![1, 1]⟩
abbrev S128x128 : Shape := ⟨2, ![128, 128]⟩
abbrev S512x128 : Shape := ⟨2, ![512, 128]⟩
abbrev S1x1x128x128 : Shape := ⟨4, ![1, 1, 128, 128]⟩
abbrev S1x128x128 : Shape := ⟨3, ![1, 128, 128]⟩
abbrev S256x128 : Shape := ⟨2, ![256, 128]⟩
abbrev S512 : Shape := ⟨1, ![512]⟩
abbrev S128 : Shape := ⟨1, ![128]⟩
abbrev S128x1 : Shape := ⟨2, ![128, 1]⟩

abbrev nBuf : Space → Nat
  | .hbm => 301
  | .vmem => 15
  | .smem => 0
  | _ => 0

abbrev hbmTy0_0 (i : Nat) : BufTy := match i % 128 with
  | 0 => ⟨S16x2048x512, .f32⟩
  | 1 => ⟨S32x4, .f32⟩
  | 2 => ⟨S4, .f32⟩
  | 3 => ⟨S256, .f32⟩
  | 4 => ⟨S128x256, .i32⟩
  | 5 => ⟨S1x128x256, .i32⟩
  | 6 => ⟨S_, .f32⟩
  | 7 => ⟨S4x128x256, .f32⟩
  | 8 => ⟨S_, .i32⟩
  | 9 => ⟨S1x128x256, .i32⟩
  | 10 => ⟨S1x128x256, .i1⟩
  | 11 => ⟨S1x4, .f32⟩
  | 12 => ⟨S4, .f32⟩
  | 13 => ⟨S4x1x1, .f32⟩
  | 14 => ⟨S4x128x256, .i1⟩
  | 15 => ⟨S4x128x256, .f32⟩
  | 16 => ⟨S4x128x256, .f32⟩
  | 17 => ⟨S_, .i32⟩
  | 18 => ⟨S1x128x256, .i32⟩
  | 19 => ⟨S1x128x256, .i1⟩
  | 20 => ⟨S1x4, .f32⟩
  | 21 => ⟨S4, .f32⟩
  | 22 => ⟨S4x1x1, .f32⟩
  | 23 => ⟨S4x128x256, .i1⟩
  | 24 => ⟨S4x128x256, .f32⟩
  | 25 => ⟨S4x128x256, .f32⟩
  | 26 => ⟨S_, .i32⟩
  | 27 => ⟨S1x128x256, .i32⟩
  | 28 => ⟨S1x128x256, .i1⟩
  | 29 => ⟨S1x4, .f32⟩
  | 30 => ⟨S4, .f32⟩
  | 31 => ⟨S4x1x1, .f32⟩
  | 32 => ⟨S4x128x256, .i1⟩
  | 33 => ⟨S4x128x256, .f32⟩
  | 34 => ⟨S4x128x256, .f32⟩
  | 35 => ⟨S_, .i32⟩
  | 36 => ⟨S1x128x256, .i32⟩
  | 37 => ⟨S1x128x256, .i1⟩
  | 38 => ⟨S1x4, .f32⟩
  | 39 => ⟨S4, .f32⟩
  | 40 => ⟨S4x1x1, .f32⟩
  | 41 => ⟨S4x128x256, .i1⟩
  | 42 => ⟨S4x128x256, .f32⟩
  | 43 => ⟨S4x128x256, .f32⟩
  | 44 => ⟨S_, .i32⟩
  | 45 => ⟨S1x128x256, .i32⟩
  | 46 => ⟨S1x128x256, .i1⟩
  | 47 => ⟨S1x4, .f32⟩
  | 48 => ⟨S4, .f32⟩
  | 49 => ⟨S4x1x1, .f32⟩
  | 50 => ⟨S4x128x256, .i1⟩
  | 51 => ⟨S4x128x256, .f32⟩
  | 52 => ⟨S4x128x256, .f32⟩
  | 53 => ⟨S_, .i32⟩
  | 54 => ⟨S1x128x256, .i32⟩
  | 55 => ⟨S1x128x256, .i1⟩
  | 56 => ⟨S1x4, .f32⟩
  | 57 => ⟨S4, .f32⟩
  | 58 => ⟨S4x1x1, .f32⟩
  | 59 => ⟨S4x128x256, .i1⟩
  | 60 => ⟨S4x128x256, .f32⟩
  | 61 => ⟨S4x128x256, .f32⟩
  | 62 => ⟨S_, .i32⟩
  | 63 => ⟨S1x128x256, .i32⟩
  | 64 => ⟨S1x128x256, .i1⟩
  | 65 => ⟨S1x4, .f32⟩
  | 66 => ⟨S4, .f32⟩
  | 67 => ⟨S4x1x1, .f32⟩
  | 68 => ⟨S4x128x256, .i1⟩
  | 69 => ⟨S4x128x256, .f32⟩
  | 70 => ⟨S4x128x256, .f32⟩
  | 71 => ⟨S_, .i32⟩
  | 72 => ⟨S1x128x256, .i32⟩
  | 73 => ⟨S1x128x256, .i1⟩
  | 74 => ⟨S1x4, .f32⟩
  | 75 => ⟨S4, .f32⟩
  | 76 => ⟨S4x1x1, .f32⟩
  | 77 => ⟨S4x128x256, .i1⟩
  | 78 => ⟨S4x128x256, .f32⟩
  | 79 => ⟨S4x128x256, .f32⟩
  | 80 => ⟨S_, .i32⟩
  | 81 => ⟨S1x128x256, .i32⟩
  | 82 => ⟨S1x128x256, .i1⟩
  | 83 => ⟨S1x4, .f32⟩
  | 84 => ⟨S4, .f32⟩
  | 85 => ⟨S4x1x1, .f32⟩
  | 86 => ⟨S4x128x256, .i1⟩
  | 87 => ⟨S4x128x256, .f32⟩
  | 88 => ⟨S4x128x256, .f32⟩
  | 89 => ⟨S_, .i32⟩
  | 90 => ⟨S1x128x256, .i32⟩
  | 91 => ⟨S1x128x256, .i1⟩
  | 92 => ⟨S1x4, .f32⟩
  | 93 => ⟨S4, .f32⟩
  | 94 => ⟨S4x1x1, .f32⟩
  | 95 => ⟨S4x128x256, .i1⟩
  | 96 => ⟨S4x128x256, .f32⟩
  | 97 => ⟨S4x128x256, .f32⟩
  | 98 => ⟨S_, .i32⟩
  | 99 => ⟨S1x128x256, .i32⟩
  | 100 => ⟨S1x128x256, .i1⟩
  | 101 => ⟨S1x4, .f32⟩
  | 102 => ⟨S4, .f32⟩
  | 103 => ⟨S4x1x1, .f32⟩
  | 104 => ⟨S4x128x256, .i1⟩
  | 105 => ⟨S4x128x256, .f32⟩
  | 106 => ⟨S4x128x256, .f32⟩
  | 107 => ⟨S_, .i32⟩
  | 108 => ⟨S1x128x256, .i32⟩
  | 109 => ⟨S1x128x256, .i1⟩
  | 110 => ⟨S1x4, .f32⟩
  | 111 => ⟨S4, .f32⟩
  | 112 => ⟨S4x1x1, .f32⟩
  | 113 => ⟨S4x128x256, .i1⟩
  | 114 => ⟨S4x128x256, .f32⟩
  | 115 => ⟨S4x128x256, .f32⟩
  | 116 => ⟨S_, .i32⟩
  | 117 => ⟨S1x128x256, .i32⟩
  | 118 => ⟨S1x128x256, .i1⟩
  | 119 => ⟨S1x4, .f32⟩
  | 120 => ⟨S4, .f32⟩
  | 121 => ⟨S4x1x1, .f32⟩
  | 122 => ⟨S4x128x256, .i1⟩
  | 123 => ⟨S4x128x256, .f32⟩
  | 124 => ⟨S4x128x256, .f32⟩
  | 125 => ⟨S_, .i32⟩
  | 126 => ⟨S1x128x256, .i32⟩
  | 127 => ⟨S1x128x256, .i1⟩
  | _ => ⟨S16x2048x512, .f32⟩

abbrev hbmTy0_1 (i : Nat) : BufTy := match i % 128 with
  | 0 => ⟨S1x4, .f32⟩
  | 1 => ⟨S4, .f32⟩
  | 2 => ⟨S4x1x1, .f32⟩
  | 3 => ⟨S4x128x256, .i1⟩
  | 4 => ⟨S4x128x256, .f32⟩
  | 5 => ⟨S4x128x256, .f32⟩
  | 6 => ⟨S_, .i32⟩
  | 7 => ⟨S1x128x256, .i32⟩
  | 8 => ⟨S1x128x256, .i1⟩
  | 9 => ⟨S1x4, .f32⟩
  | 10 => ⟨S4, .f32⟩
  | 11 => ⟨S4x1x1, .f32⟩
  | 12 => ⟨S4x128x256, .i1⟩
  | 13 => ⟨S4x128x256, .f32⟩
  | 14 => ⟨S4x128x256, .f32⟩
  | 15 => ⟨S_, .i32⟩
  | 16 => ⟨S1x128x256, .i32⟩
  | 17 => ⟨S1x128x256, .i1⟩
  | 18 => ⟨S1x4, .f32⟩
  | 19 => ⟨S4, .f32⟩
  | 20 => ⟨S4x1x1, .f32⟩
  | 21 => ⟨S4x128x256, .i1⟩
  | 22 => ⟨S4x128x256, .f32⟩
  | 23 => ⟨S4x128x256, .f32⟩
  | 24 => ⟨S_, .i32⟩
  | 25 => ⟨S1x128x256, .i32⟩
  | 26 => ⟨S1x128x256, .i1⟩
  | 27 => ⟨S1x4, .f32⟩
  | 28 => ⟨S4, .f32⟩
  | 29 => ⟨S4x1x1, .f32⟩
  | 30 => ⟨S4x128x256, .i1⟩
  | 31 => ⟨S4x128x256, .f32⟩
  | 32 => ⟨S4x128x256, .f32⟩
  | 33 => ⟨S_, .i32⟩
  | 34 => ⟨S1x128x256, .i32⟩
  | 35 => ⟨S1x128x256, .i1⟩
  | 36 => ⟨S1x4, .f32⟩
  | 37 => ⟨S4, .f32⟩
  | 38 => ⟨S4x1x1, .f32⟩
  | 39 => ⟨S4x128x256, .i1⟩
  | 40 => ⟨S4x128x256, .f32⟩
  | 41 => ⟨S4x128x256, .f32⟩
  | 42 => ⟨S_, .i32⟩
  | 43 => ⟨S1x128x256, .i32⟩
  | 44 => ⟨S1x128x256, .i1⟩
  | 45 => ⟨S1x4, .f32⟩
  | 46 => ⟨S4, .f32⟩
  | 47 => ⟨S4x1x1, .f32⟩
  | 48 => ⟨S4x128x256, .i1⟩
  | 49 => ⟨S4x128x256, .f32⟩
  | 50 => ⟨S4x128x256, .f32⟩
  | 51 => ⟨S_, .i32⟩
  | 52 => ⟨S1x128x256, .i32⟩
  | 53 => ⟨S1x128x256, .i1⟩
  | 54 => ⟨S1x4, .f32⟩
  | 55 => ⟨S4, .f32⟩
  | 56 => ⟨S4x1x1, .f32⟩
  | 57 => ⟨S4x128x256, .i1⟩
  | 58 => ⟨S4x128x256, .f32⟩
  | 59 => ⟨S4x128x256, .f32⟩
  | 60 => ⟨S_, .i32⟩
  | 61 => ⟨S1x128x256, .i32⟩
  | 62 => ⟨S1x128x256, .i1⟩
  | 63 => ⟨S1x4, .f32⟩
  | 64 => ⟨S4, .f32⟩
  | 65 => ⟨S4x1x1, .f32⟩
  | 66 => ⟨S4x128x256, .i1⟩
  | 67 => ⟨S4x128x256, .f32⟩
  | 68 => ⟨S4x128x256, .f32⟩
  | 69 => ⟨S_, .i32⟩
  | 70 => ⟨S1x128x256, .i32⟩
  | 71 => ⟨S1x128x256, .i1⟩
  | 72 => ⟨S1x4, .f32⟩
  | 73 => ⟨S4, .f32⟩
  | 74 => ⟨S4x1x1, .f32⟩
  | 75 => ⟨S4x128x256, .i1⟩
  | 76 => ⟨S4x128x256, .f32⟩
  | 77 => ⟨S4x128x256, .f32⟩
  | 78 => ⟨S_, .i32⟩
  | 79 => ⟨S1x128x256, .i32⟩
  | 80 => ⟨S1x128x256, .i1⟩
  | 81 => ⟨S1x4, .f32⟩
  | 82 => ⟨S4, .f32⟩
  | 83 => ⟨S4x1x1, .f32⟩
  | 84 => ⟨S4x128x256, .i1⟩
  | 85 => ⟨S4x128x256, .f32⟩
  | 86 => ⟨S4x128x256, .f32⟩
  | 87 => ⟨S_, .i32⟩
  | 88 => ⟨S1x128x256, .i32⟩
  | 89 => ⟨S1x128x256, .i1⟩
  | 90 => ⟨S1x4, .f32⟩
  | 91 => ⟨S4, .f32⟩
  | 92 => ⟨S4x1x1, .f32⟩
  | 93 => ⟨S4x128x256, .i1⟩
  | 94 => ⟨S4x128x256, .f32⟩
  | 95 => ⟨S4x128x256, .f32⟩
  | 96 => ⟨S_, .i32⟩
  | 97 => ⟨S1x128x256, .i32⟩
  | 98 => ⟨S1x128x256, .i1⟩
  | 99 => ⟨S1x4, .f32⟩
  | 100 => ⟨S4, .f32⟩
  | 101 => ⟨S4x1x1, .f32⟩
  | 102 => ⟨S4x128x256, .i1⟩
  | 103 => ⟨S4x128x256, .f32⟩
  | 104 => ⟨S4x128x256, .f32⟩
  | 105 => ⟨S_, .i32⟩
  | 106 => ⟨S1x128x256, .i32⟩
  | 107 => ⟨S1x128x256, .i1⟩
  | 108 => ⟨S1x4, .f32⟩
  | 109 => ⟨S4, .f32⟩
  | 110 => ⟨S4x1x1, .f32⟩
  | 111 => ⟨S4x128x256, .i1⟩
  | 112 => ⟨S4x128x256, .f32⟩
  | 113 => ⟨S4x128x256, .f32⟩
  | 114 => ⟨S_, .i32⟩
  | 115 => ⟨S1x128x256, .i32⟩
  | 116 => ⟨S1x128x256, .i1⟩
  | 117 => ⟨S1x4, .f32⟩
  | 118 => ⟨S4, .f32⟩
  | 119 => ⟨S4x1x1, .f32⟩
  | 120 => ⟨S4x128x256, .i1⟩
  | 121 => ⟨S4x128x256, .f32⟩
  | 122 => ⟨S4x128x256, .f32⟩
  | 123 => ⟨S_, .i32⟩
  | 124 => ⟨S1x128x256, .i32⟩
  | 125 => ⟨S1x128x256, .i1⟩
  | 126 => ⟨S1x4, .f32⟩
  | 127 => ⟨S4, .f32⟩
  | _ => ⟨S16x2048x512, .f32⟩

abbrev hbmTy0_2 (i : Nat) : BufTy := match i % 128 with
  | 0 => ⟨S4x1x1, .f32⟩
  | 1 => ⟨S4x128x256, .i1⟩
  | 2 => ⟨S4x128x256, .f32⟩
  | 3 => ⟨S4x128x256, .f32⟩
  | 4 => ⟨S_, .i32⟩
  | 5 => ⟨S1x128x256, .i32⟩
  | 6 => ⟨S1x128x256, .i1⟩
  | 7 => ⟨S1x4, .f32⟩
  | 8 => ⟨S4, .f32⟩
  | 9 => ⟨S4x1x1, .f32⟩
  | 10 => ⟨S4x128x256, .i1⟩
  | 11 => ⟨S4x128x256, .f32⟩
  | 12 => ⟨S4x128x256, .f32⟩
  | 13 => ⟨S_, .i32⟩
  | 14 => ⟨S1x128x256, .i32⟩
  | 15 => ⟨S1x128x256, .i1⟩
  | 16 => ⟨S1x4, .f32⟩
  | 17 => ⟨S4, .f32⟩
  | 18 => ⟨S4x1x1, .f32⟩
  | 19 => ⟨S4x128x256, .i1⟩
  | 20 => ⟨S4x128x256, .f32⟩
  | 21 => ⟨S4x128x256, .f32⟩
  | 22 => ⟨S_, .i32⟩
  | 23 => ⟨S1x128x256, .i32⟩
  | 24 => ⟨S1x128x256, .i1⟩
  | 25 => ⟨S1x4, .f32⟩
  | 26 => ⟨S4, .f32⟩
  | 27 => ⟨S4x1x1, .f32⟩
  | 28 => ⟨S4x128x256, .i1⟩
  | 29 => ⟨S4x128x256, .f32⟩
  | 30 => ⟨S4x128x256, .f32⟩
  | 31 => ⟨S_, .i32⟩
  | 32 => ⟨S1x128x256, .i32⟩
  | 33 => ⟨S1x128x256, .i1⟩
  | 34 => ⟨S1x4, .f32⟩
  | 35 => ⟨S4, .f32⟩
  | 36 => ⟨S4x1x1, .f32⟩
  | 37 => ⟨S4x128x256, .i1⟩
  | 38 => ⟨S4x128x256, .f32⟩
  | 39 => ⟨S4x128x256, .f32⟩
  | 40 => ⟨S512x256, .f32⟩
  | 41 => ⟨S1x16x2048x512, .f32⟩
  | 42 => ⟨S1x4, .f32⟩
  | 43 => ⟨S1x256, .f32⟩
  | 44 => ⟨S16x2048x256, .bf16⟩
  | _ => ⟨S16x2048x512, .f32⟩

abbrev hbmTy (i : Nat) : BufTy := match i / 128 with
  | 0 => hbmTy0_0 i
  | 1 => hbmTy0_1 i
  | 2 => hbmTy0_2 i
  | _ => ⟨S16x2048x512, .f32⟩

abbrev bufTy : (tb : Table) → Fin (tcTables nBuf tb) → BufTy
  | .hbm, ⟨i, _⟩ => hbmTy i
  | .local _ .vmem, ⟨0, _⟩ => ⟨S16x128x256, .f32⟩
  | .local _ .vmem, ⟨1, _⟩ => ⟨S16x128x256, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x16x128x128, .f32⟩
  | .local _ .vmem, ⟨9, _⟩ => ⟨S1x16x128x128, .f32⟩
  | .local _ .vmem, ⟨10, _⟩ => ⟨S512x256, .f32⟩
  | .local _ .vmem, ⟨11, _⟩ => ⟨S1x4, .f32⟩
  | .local _ .vmem, ⟨12, _⟩ => ⟨S1x256, .f32⟩
  | .local _ .vmem, ⟨13, _⟩ => ⟨S16x128x256, .bf16⟩
  | .local _ .vmem, ⟨14, _⟩ => ⟨S16x128x256, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call3_v0 : Ref sig .tc := ⟨.hbm, 41, rfl⟩
abbrev main_call3_v1 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call4_v0 : Ref sig .tc := ⟨.hbm, 50, rfl⟩
abbrev main_call4_v1 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call5_v0 : Ref sig .tc := ⟨.hbm, 59, rfl⟩
abbrev main_call5_v1 : Ref sig .tc := ⟨.hbm, 60, rfl⟩
abbrev main_v37 : Ref sig .tc := ⟨.hbm, 61, rfl⟩
abbrev main_c_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call6_v0 : Ref sig .tc := ⟨.hbm, 68, rfl⟩
abbrev main_call6_v1 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call7_v0 : Ref sig .tc := ⟨.hbm, 77, rfl⟩
abbrev main_call7_v1 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call8_v0 : Ref sig .tc := ⟨.hbm, 86, rfl⟩
abbrev main_call8_v1 : Ref sig .tc := ⟨.hbm, 87, rfl⟩
abbrev main_v55 : Ref sig .tc := ⟨.hbm, 88, rfl⟩
abbrev main_c_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call9_v0 : Ref sig .tc := ⟨.hbm, 95, rfl⟩
abbrev main_call9_v1 : Ref sig .tc := ⟨.hbm, 96, rfl⟩
abbrev main_v61 : Ref sig .tc := ⟨.hbm, 97, rfl⟩
abbrev main_c_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call10_v0 : Ref sig .tc := ⟨.hbm, 104, rfl⟩
abbrev main_call10_v1 : Ref sig .tc := ⟨.hbm, 105, rfl⟩
abbrev main_v67 : Ref sig .tc := ⟨.hbm, 106, rfl⟩
abbrev main_c_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call11_v0 : Ref sig .tc := ⟨.hbm, 113, rfl⟩
abbrev main_call11_v1 : Ref sig .tc := ⟨.hbm, 114, rfl⟩
abbrev main_v73 : Ref sig .tc := ⟨.hbm, 115, rfl⟩
abbrev main_c_12 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call12_v0 : Ref sig .tc := ⟨.hbm, 122, rfl⟩
abbrev main_call12_v1 : Ref sig .tc := ⟨.hbm, 123, rfl⟩
abbrev main_v79 : Ref sig .tc := ⟨.hbm, 124, rfl⟩
abbrev main_c_13 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_call13_v0 : Ref sig .tc := ⟨.hbm, 131, rfl⟩
abbrev main_call13_v1 : Ref sig .tc := ⟨.hbm, 132, rfl⟩
abbrev main_v85 : Ref sig .tc := ⟨.hbm, 133, rfl⟩
abbrev main_c_14 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call14_v0 : Ref sig .tc := ⟨.hbm, 140, rfl⟩
abbrev main_call14_v1 : Ref sig .tc := ⟨.hbm, 141, rfl⟩
abbrev main_v91 : Ref sig .tc := ⟨.hbm, 142, rfl⟩
abbrev main_c_15 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_call15_v0 : Ref sig .tc := ⟨.hbm, 149, rfl⟩
abbrev main_call15_v1 : Ref sig .tc := ⟨.hbm, 150, rfl⟩
abbrev main_v97 : Ref sig .tc := ⟨.hbm, 151, rfl⟩
abbrev main_c_16 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call16_v0 : Ref sig .tc := ⟨.hbm, 158, rfl⟩
abbrev main_call16_v1 : Ref sig .tc := ⟨.hbm, 159, rfl⟩
abbrev main_v103 : Ref sig .tc := ⟨.hbm, 160, rfl⟩
abbrev main_c_17 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_call17_v0 : Ref sig .tc := ⟨.hbm, 167, rfl⟩
abbrev main_call17_v1 : Ref sig .tc := ⟨.hbm, 168, rfl⟩
abbrev main_v109 : Ref sig .tc := ⟨.hbm, 169, rfl⟩
abbrev main_c_18 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call18_v0 : Ref sig .tc := ⟨.hbm, 176, rfl⟩
abbrev main_call18_v1 : Ref sig .tc := ⟨.hbm, 177, rfl⟩
abbrev main_v115 : Ref sig .tc := ⟨.hbm, 178, rfl⟩
abbrev main_c_19 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_call19_v0 : Ref sig .tc := ⟨.hbm, 185, rfl⟩
abbrev main_call19_v1 : Ref sig .tc := ⟨.hbm, 186, rfl⟩
abbrev main_v121 : Ref sig .tc := ⟨.hbm, 187, rfl⟩
abbrev main_c_20 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call20_v0 : Ref sig .tc := ⟨.hbm, 194, rfl⟩
abbrev main_call20_v1 : Ref sig .tc := ⟨.hbm, 195, rfl⟩
abbrev main_v127 : Ref sig .tc := ⟨.hbm, 196, rfl⟩
abbrev main_c_21 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_call21_v0 : Ref sig .tc := ⟨.hbm, 203, rfl⟩
abbrev main_call21_v1 : Ref sig .tc := ⟨.hbm, 204, rfl⟩
abbrev main_v133 : Ref sig .tc := ⟨.hbm, 205, rfl⟩
abbrev main_c_22 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_call22_v0 : Ref sig .tc := ⟨.hbm, 212, rfl⟩
abbrev main_call22_v1 : Ref sig .tc := ⟨.hbm, 213, rfl⟩
abbrev main_v139 : Ref sig .tc := ⟨.hbm, 214, rfl⟩
abbrev main_c_23 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_call23_v0 : Ref sig .tc := ⟨.hbm, 221, rfl⟩
abbrev main_call23_v1 : Ref sig .tc := ⟨.hbm, 222, rfl⟩
abbrev main_v145 : Ref sig .tc := ⟨.hbm, 223, rfl⟩
abbrev main_c_24 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_call24_v0 : Ref sig .tc := ⟨.hbm, 230, rfl⟩
abbrev main_call24_v1 : Ref sig .tc := ⟨.hbm, 231, rfl⟩
abbrev main_v151 : Ref sig .tc := ⟨.hbm, 232, rfl⟩
abbrev main_c_25 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_call25_v0 : Ref sig .tc := ⟨.hbm, 239, rfl⟩
abbrev main_call25_v1 : Ref sig .tc := ⟨.hbm, 240, rfl⟩
abbrev main_v157 : Ref sig .tc := ⟨.hbm, 241, rfl⟩
abbrev main_c_26 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_call26_v0 : Ref sig .tc := ⟨.hbm, 248, rfl⟩
abbrev main_call26_v1 : Ref sig .tc := ⟨.hbm, 249, rfl⟩
abbrev main_v163 : Ref sig .tc := ⟨.hbm, 250, rfl⟩
abbrev main_c_27 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_call27_v0 : Ref sig .tc := ⟨.hbm, 257, rfl⟩
abbrev main_call27_v1 : Ref sig .tc := ⟨.hbm, 258, rfl⟩
abbrev main_v169 : Ref sig .tc := ⟨.hbm, 259, rfl⟩
abbrev main_c_28 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_call28_v0 : Ref sig .tc := ⟨.hbm, 266, rfl⟩
abbrev main_call28_v1 : Ref sig .tc := ⟨.hbm, 267, rfl⟩
abbrev main_v175 : Ref sig .tc := ⟨.hbm, 268, rfl⟩
abbrev main_c_29 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_call29_v0 : Ref sig .tc := ⟨.hbm, 275, rfl⟩
abbrev main_call29_v1 : Ref sig .tc := ⟨.hbm, 276, rfl⟩
abbrev main_v181 : Ref sig .tc := ⟨.hbm, 277, rfl⟩
abbrev main_c_30 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_call30_v0 : Ref sig .tc := ⟨.hbm, 284, rfl⟩
abbrev main_call30_v1 : Ref sig .tc := ⟨.hbm, 285, rfl⟩
abbrev main_v187 : Ref sig .tc := ⟨.hbm, 286, rfl⟩
abbrev main_c_31 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_call31_v0 : Ref sig .tc := ⟨.hbm, 293, rfl⟩
abbrev main_call31_v1 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c2_i32 : BitVec 32 := 2#32
  let c0_i32_1 : BitVec 32 := 0#32
  ![c0_i32_0.toNat, arg0.toNat, v1.toNat, c2_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c3_i32 : BitVec 32 := 3#32
  let c0_i32_1 : BitVec 32 := 0#32
  ![c0_i32_0.toNat, arg0.toNat, v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x2048x512 : Shape := ⟨3, ![16, 2048, 512]⟩
abbrev S32x4 : Shape := ⟨2, ![32, 4]⟩
abbrev S4 : Shape := ⟨1, ![4]⟩
abbrev S256 : Shape := ⟨1, ![256]⟩
abbrev S16x2048x256 : Shape := ⟨3, ![16, 2048, 256]⟩
abbrev S16x2048x128 : Shape := ⟨3, ![16, 2048, 128]⟩
abbrev S16x2048x4x64 : Shape := ⟨4, ![16, 2048, 4, 64]⟩
abbrev S16x2048x2x64 : Shape := ⟨4, ![16, 2048, 2, 64]⟩
abbrev S16x16x128x4x64 : Shape := ⟨5, ![16, 16, 128, 4, 64]⟩
abbrev S16x16x128x2x64 : Shape := ⟨5, ![16, 16, 128, 2, 64]⟩
abbrev S_ : Shape := ⟨0, ![]⟩
abbrev S16x17x128x2x64 : Shape := ⟨5, ![16, 17, 128, 2, 64]⟩
abbrev S16x16x256x2x64 : Shape := ⟨5, ![16, 16, 256, 2, 64]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S128x256x1 : Shape := ⟨3, ![128, 256, 1]⟩
abbrev S128x256x4 : Shape := ⟨3, ![128, 256, 4]⟩
abbrev S4x128x256 : Shape := ⟨3, ![4, 128, 256]⟩
abbrev S2x2x128x256 : Shape := ⟨4, ![2, 2, 128, 256]⟩
abbrev S1x2x2x128x256 : Shape := ⟨5, ![1, 2, 2, 128, 256]⟩
abbrev S16x2x2x128x256 : Shape := ⟨5, ![16, 2, 2, 128, 256]⟩
abbrev S16x16x128x2x2x64 : Shape := ⟨6, ![16, 16, 128, 2, 2, 64]⟩
abbrev S16x16x2x256x128x2 : Shape := ⟨6, ![16, 16, 2, 256, 128, 2]⟩
abbrev S16x16x2x2x128x256 : Shape := ⟨6, ![16, 16, 2, 2, 128, 256]⟩
abbrev S1x16x2x2x128x256 : Shape := ⟨6, ![1, 16, 2, 2, 128, 256]⟩
abbrev S2x2x1x1 : Shape := ⟨4, ![2, 2, 1, 1]⟩
abbrev S16x16x2x2x128 : Shape := ⟨5, ![16, 16, 2, 2, 128]⟩
abbrev S16x16x2x2x128x1 : Shape := ⟨6, ![16, 16, 2, 2, 128, 1]⟩
abbrev S1x1x2x2x1x1 : Shape := ⟨6, ![1, 1, 2, 2, 1, 1]⟩
abbrev S16x16x2x64x2x128 : Shape := ⟨6, ![16, 16, 2, 64, 2, 128]⟩
abbrev S16x16x128x256 : Shape := ⟨4, ![16, 16, 128, 256]⟩
abbrev S16x2048 : Shape := ⟨2, ![16, 2048]⟩
abbrev S16x2048x1 : Shape := ⟨3, ![16, 2048, 1]⟩

abbrev nBuf : Space → Nat
  | .hbm => 153
  | .vmem => 0
  | .smem => 0
  | _ => 0

abbrev hbmTy0_0 (i : Nat) : BufTy := match i % 128 with
  | 0 => ⟨S16x2048x512, .f32⟩
  | 1 => ⟨S32x4, .f32⟩
  | 2 => ⟨S4, .f32⟩
  | 3 => ⟨S256, .f32⟩
  | 4 => ⟨S16x2048x256, .f32⟩
  | 5 => ⟨S16x2048x128, .f32⟩
  | 6 => ⟨S16x2048x128, .f32⟩
  | 7 => ⟨S16x2048x4x64, .f32⟩
  | 8 => ⟨S16x2048x2x64, .f32⟩
  | 9 => ⟨S16x2048x2x64, .f32⟩
  | 10 => ⟨S16x16x128x4x64, .f32⟩
  | 11 => ⟨S16x16x128x2x64, .f32⟩
  | 12 => ⟨S16x16x128x2x64, .f32⟩
  | 13 => ⟨S_, .i32⟩
  | 14 => ⟨S_, .f32⟩
  | 15 => ⟨S16x17x128x2x64, .f32⟩
  | 16 => ⟨S16x16x128x2x64, .f32⟩
  | 17 => ⟨S16x16x256x2x64, .f32⟩
  | 18 => ⟨S_, .i32⟩
  | 19 => ⟨S_, .f32⟩
  | 20 => ⟨S16x17x128x2x64, .f32⟩
  | 21 => ⟨S16x16x128x2x64, .f32⟩
  | 22 => ⟨S16x16x256x2x64, .f32⟩
  | 23 => ⟨S128, .i32⟩
  | 24 => ⟨S128x1, .i32⟩
  | 25 => ⟨S256, .i32⟩
  | 26 => ⟨S1x256, .i32⟩
  | 27 => ⟨S_, .i32⟩
  | 28 => ⟨S128x1, .i32⟩
  | 29 => ⟨S128x1, .i32⟩
  | 30 => ⟨S128x256, .i32⟩
  | 31 => ⟨S128x256, .i32⟩
  | 32 => ⟨S128x256, .i32⟩
  | 33 => ⟨S_, .i32⟩
  | 34 => ⟨S128x256, .i32⟩
  | 35 => ⟨S128x256, .i1⟩
  | 36 => ⟨S_, .i32⟩
  | 37 => ⟨S128x256, .i32⟩
  | 38 => ⟨S128x256, .i1⟩
  | 39 => ⟨S128x256, .i1⟩
  | 40 => ⟨S16, .i32⟩
  | 41 => ⟨S16x1x1, .i32⟩
  | 42 => ⟨S1x128x256, .i1⟩
  | 43 => ⟨S_, .i32⟩
  | 44 => ⟨S16x1x1, .i32⟩
  | 45 => ⟨S16x1x1, .i1⟩
  | 46 => ⟨S_, .i32⟩
  | 47 => ⟨S1x256, .i32⟩
  | 48 => ⟨S1x256, .i1⟩
  | 49 => ⟨S1x1x256, .i1⟩
  | 50 => ⟨S16x1x256, .i1⟩
  | 51 => ⟨S16x1x256, .i1⟩
  | 52 => ⟨S16x1x256, .i1⟩
  | 53 => ⟨S16x128x256, .i1⟩
  | 54 => ⟨S16x128x256, .i1⟩
  | 55 => ⟨S16x128x256, .i1⟩
  | 56 => ⟨S16x1x1x128x256, .i1⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S128x256, .f32⟩
  | 64 => ⟨S_, .f32⟩
  | 65 => ⟨S128x256, .f32⟩
  | 66 => ⟨S128x256, .f32⟩
  | 67 => ⟨S128x256, .f32⟩
  | 68 => ⟨S_, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S128x256, .i32⟩
  | 75 => ⟨S_, .i32⟩
  | 76 => ⟨S128x256, .i32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i1⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i32⟩
  | 91 => ⟨S128x256, .i32⟩
  | 92 => ⟨S128x256x1, .i32⟩
  | 93 => ⟨S128x256x4, .f32⟩
  | 94 => ⟨S4x128x256, .f32⟩
  | 95 => ⟨S2x2x128x256, .f32⟩
  | 96 => ⟨S1x2x2x128x256, .f32⟩
  | 97 => ⟨S_, .f32⟩
  | 98 => ⟨S_, .f32⟩
  | 99 => ⟨S16x2x2x128x256, .i1⟩
  | 100 => ⟨S16x2x2x128x256, .f32⟩
  | 101 => ⟨S16x2x2x128x256, .f32⟩
  | 102 => ⟨S16x2x2x128x256, .f32⟩
  | 103 => ⟨S16x16x128x2x2x64, .f32⟩
  | 104 => ⟨S16x16x2x256x128x2, .f32⟩
  | 105 => ⟨S16x16x2x2x128x256, .f32⟩
  | 106 => ⟨S_, .f32⟩
  | 107 => ⟨S16x16x2x2x128x256, .f32⟩
  | 108 => ⟨S16x16x2x2x128x256, .f32⟩
  | 109 => ⟨S1x16x2x2x128x256, .f32⟩
  | 110 => ⟨S16x16x2x2x128x256, .f32⟩
  | 111 => ⟨S16x16x2x2x128x256, .f32⟩
  | 112 => ⟨S2x2x1x1, .f32⟩
  | 113 => ⟨S_, .f32⟩
  | 114 => ⟨S16x16x2x2x128, .f32⟩
  | 115 => ⟨S16x16x2x2x128x1, .f32⟩
  | 116 => ⟨S1x1x2x2x1x1, .f32⟩
  | 117 => ⟨S16x16x2x2x128x1, .f32⟩
  | 118 => ⟨S16x16x2x2x128x1, .f32⟩
  | 119 => ⟨S16x16x2x2x128x256, .f32⟩
  | 120 => ⟨S16x16x2x2x128x256, .f32⟩
  | 121 => ⟨S16x16x2x2x128x256, .f32⟩
  | 122 => ⟨S_, .f32⟩
  | 123 => ⟨S16x16x2x2x128, .f32⟩
  | 124 => ⟨S16x16x2x2x128x1, .f32⟩
  | 125 => ⟨S1x1x2x2x1x1, .f32⟩
  | 126 => ⟨S16x16x2x2x128x1, .f32⟩
  | 127 => ⟨S16x16x2x2x128x1, .f32⟩
  | _ => ⟨S16x2048x512, .f32⟩

abbrev hbmTy0_1 (i : Nat) : BufTy := match i % 128 with
  | 0 => ⟨S16x16x2x2x128x1, .f32⟩
  | 1 => ⟨S16x16x2x2x128x1, .f32⟩
  | 2 => ⟨S16x16x2x2x128x256, .f32⟩
  | 3 => ⟨S16x16x2x2x128x256, .f32⟩
  | 4 => ⟨S16x16x2x64x2x128, .f32⟩
  | 5 => ⟨S16x16x128x2x2x64, .f32⟩
  | 6 => ⟨S16x16x128x256, .f32⟩
  | 7 => ⟨S16x2048x256, .f32⟩
  | 8 => ⟨S16x2048x256, .f32⟩
  | 9 => ⟨S_, .f32⟩
  | 10 => ⟨S16x2048, .f32⟩
  | 11 => ⟨S16x2048x1, .f32⟩
  | 12 => ⟨S_, .f32⟩
  | 13 => ⟨S16x2048x1, .f32⟩
  | 14 => ⟨S16x2048x1, .f32⟩
  | 15 => ⟨S_, .f32⟩
  | 16 => ⟨S16x2048x1, .f32⟩
  | 17 => ⟨S16x2048x1, .f32⟩
  | 18 => ⟨S16x2048x1, .f32⟩
  | 19 => ⟨S16x2048x256, .f32⟩
  | 20 => ⟨S16x2048x256, .f32⟩
  | 21 => ⟨S1x1x256, .f32⟩
  | 22 => ⟨S16x2048x256, .f32⟩
  | 23 => ⟨S16x2048x256, .f32⟩
  | 24 => ⟨S16x2048x256, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_13 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_19 : Ref sig .tc := ⟨.hbm, 137, rfl⟩
abbrev main_v106 : Ref sig .tc := ⟨.hbm, 138, rfl⟩
abbrev main_v107 : Ref sig .tc := ⟨.hbm, 139, rfl⟩
abbrev main_cst_20 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩

abbrev nD : Nat := 1
abbrev τ : Topo := Topo.v7x

variable {F : FTy → Type} [FloatOps F]
-- ==== Kernel2.lean ====
abbrev S16x2048x256 : Shape := ⟨3, ![16, 2048, 256]⟩
abbrev S16x2048x1024 : Shape := ⟨3, ![16, 2048, 1024]⟩
abbrev S2x16x2048x256 : Shape := ⟨4, ![2, 16, 2048, 256]⟩
abbrev S1024x1024 : Shape := ⟨2, ![1024, 1024]⟩
abbrev S1024 : Shape := ⟨1, ![1024]⟩
abbrev S256x1024 : Shape := ⟨2, ![256, 1024]⟩
abbrev S32768x256 : Shape := ⟨2, ![32768, 256]⟩
abbrev S32768x1024 : Shape := ⟨2, ![32768, 1024]⟩
abbrev S2x32768x256 : Shape := ⟨3, ![2, 32768, 256]⟩
abbrev S1x1024 : Shape := ⟨2, ![1, 1024]⟩
abbrev S1024x256 : Shape := ⟨2, ![1024, 256]⟩
abbrev S1x1024x256 : Shape := ⟨3, ![1, 1024, 256]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 23
  | .vmem => 20
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .bf16⟩
  | .hbm, ⟨5, _⟩ => ⟨S16x2048x1024, .f32⟩
  | .hbm, ⟨6, _⟩ => ⟨S2x16x2048x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S32768x1024, .bf16⟩
  | .hbm, ⟨16, _⟩ => ⟨S32768x1024, .f32⟩
  | .hbm, ⟨17, _⟩ => ⟨S2x32768x256, .f32⟩
  | .hbm, ⟨18, _⟩ => ⟨S1024x1024, .bf16⟩
  | .hbm, ⟨19, _⟩ => ⟨S1x1024, .f32⟩
  | .hbm, ⟨20, _⟩ => ⟨S256x1024, .bf16⟩
  | .hbm, ⟨21, _⟩ => ⟨S1024x1024, .bf16⟩
  | .hbm, ⟨22, _⟩ => ⟨S32768x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024x256, .f32⟩
  | .local _ .vmem, ⟨13, _⟩ => ⟨S1x1024x256, .f32⟩
  | .local _ .vmem, ⟨14, _⟩ => ⟨S1024x1024, .bf16⟩
  | .local _ .vmem, ⟨15, _⟩ => ⟨S1x1024, .f32⟩
  | .local _ .vmem, ⟨16, _⟩ => ⟨S256x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16x2048x256 : Shape := ⟨3, ![16, 2048, 256]⟩
abbrev S16x2048x1024 : Shape := ⟨3, ![16, 2048, 1024]⟩
abbrev S2x16x2048x256 : Shape := ⟨4, ![2, 16, 2048, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x16x2048x256 : Shape := ⟨4, ![1, 16, 2048, 256]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x256, .bf16⟩
  | .hbm, ⟨3, _⟩ => ⟨S16x2048x256, .bf16⟩
  | .hbm, ⟨4, _⟩ => ⟨S16x2048x1024, .bf16⟩
  | .hbm, ⟨5, _⟩ => ⟨S16x2048x1024, .f32⟩
  | .hbm, ⟨6, _⟩ => ⟨S2x16x2048x256, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S16x2048x1024, .bf16⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S1x16x2048x256, .f32⟩
  | .hbm, ⟨43, _⟩ => ⟨S16x2048x256, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S32768x1024, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3152 : Shape := ⟨2, ![1024, 3152]⟩
abbrev S_ : Shape := ⟨0, ![]⟩
abbrev S1024x48 : Shape := ⟨2, ![1024, 48]⟩
abbrev S1024x1280 : Shape := ⟨2, ![1024, 1280]⟩
abbrev S1024x832 : Shape := ⟨2, ![1024, 832]⟩
abbrev S1024x16 : Shape := ⟨2, ![1024, 16]⟩
abbrev S1024x1024 : Shape := ⟨2, ![1024, 1024]⟩
abbrev S1024x3200 : Shape := ⟨2, ![1024, 3200]⟩
abbrev S32768x1024 : Shape := ⟨2, ![32768, 1024]⟩
abbrev S1x1024 : Shape := ⟨2, ![1, 1024]⟩
abbrev S32768x256 : Shape := ⟨2, ![32768, 256]⟩
abbrev S32768x512 : Shape := ⟨2, ![32768, 512]⟩
abbrev S32768x896 : Shape := ⟨2, ![32768, 896]⟩
abbrev S1024x256 : Shape := ⟨2, ![1024, 256]⟩
abbrev S1024x512 : Shape := ⟨2, ![1024, 512]⟩
abbrev S1024x896 : Shape := ⟨2, ![1024, 896]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3152, .f32⟩
  | .hbm, ⟨3, _⟩ => ⟨S_, .f32⟩
  | .hbm, ⟨4, _⟩ => ⟨S1024x48, .f32⟩
  | .hbm, ⟨5, _⟩ => ⟨S1024x1280, .f32⟩
  | .hbm, ⟨6, _⟩ => ⟨S1024x832, .f32⟩
  | .hbm, ⟨7, _⟩ => ⟨S1024x16, .f32⟩
  | .hbm, ⟨8, _⟩ => ⟨S1024x1024, .f32⟩
  | .hbm, ⟨9, _⟩ => ⟨S1024x3200, .f32⟩
  | .hbm, ⟨10, _⟩ => ⟨S32768x1024, .f32⟩
  | .hbm, ⟨11, _⟩ => ⟨S1x1024, .f32⟩
  | .hbm, ⟨12, _⟩ => ⟨S1024x3200, .bf16⟩
  | .hbm, ⟨13, _⟩ => ⟨S32768x256, .f32⟩
  | .hbm, ⟨14, _⟩ => ⟨S32768x512, .f32⟩
  | .hbm, ⟨15, _⟩ => ⟨S32768x512, .f32⟩
  | .hbm, ⟨16, _⟩ => ⟨S32768x896, .f32⟩
  | .hbm, ⟨17, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x896, .f32⟩
  | .local _ .vmem, ⟨11, _⟩ => ⟨S1024x896, .f32⟩
  | .local _ .vmem, ⟨12, _⟩ => ⟨S1024x1024, .bf16⟩
  | .local _ .vmem, ⟨13, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x2048x1024 : Shape := ⟨3, ![16, 2048, 1024]⟩
abbrev S1024 : Shape := ⟨1, ![1024]⟩
abbrev S1024x3152 : Shape := ⟨2, ![1024, 3152]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3152 : Shape := ⟨3, ![16, 2048, 3152]⟩
abbrev S16x2048x256 : Shape := ⟨3, ![16, 2048, 256]⟩
abbrev S16x2048x128 : Shape := ⟨3, ![16, 2048, 128]⟩
abbrev S16x2048x16 : Shape := ⟨3, ![16, 2048, 16]⟩
abbrev S16x2048x832 : Shape := ⟨3, ![16, 2048, 832]⟩
abbrev S16x2048x48 : Shape := ⟨3, ![16, 2048, 48]⟩
abbrev S32768x256 : Shape := ⟨2, ![32768, 256]⟩
abbrev S16x2048x512 : Shape := ⟨3, ![16, 2048, 512]⟩
abbrev S32768x512 : Shape := ⟨2, ![32768, 512]⟩
abbrev S16x2048x896 : Shape := ⟨3, ![16, 2048, 896]⟩
abbrev S32768x896 : Shape := ⟨2, ![32768, 896]⟩
abbrev S32768x1024 : Shape := ⟨2, ![32768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3152, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3152, .f32⟩
  | .hbm, ⟨20, _⟩ => ⟨S16x2048x256, .f32⟩
  | .hbm, ⟨21, _⟩ => ⟨S16x2048x256, .f32⟩
  | .hbm, ⟨22, _⟩ => ⟨S16x2048x128, .f32⟩
  | .hbm, ⟨23, _⟩ => ⟨S16x2048x128, .f32⟩
  | .hbm, ⟨24, _⟩ => ⟨S16x2048x128, .f32⟩
  | .hbm, ⟨25, _⟩ => ⟨S16x2048x128, .f32⟩
  | .hbm, ⟨26, _⟩ => ⟨S16x2048x256, .f32⟩
  | .hbm, ⟨27, _⟩ => ⟨S16x2048x16, .f32⟩
  | .hbm, ⟨28, _⟩ => ⟨S16x2048x832, .f32⟩
  | .hbm, ⟨29, _⟩ => ⟨S16x2048x1024, .f32⟩
  | .hbm, ⟨30, _⟩ => ⟨S_, .f32⟩
  | .hbm, ⟨31, _⟩ => ⟨S16x2048x48, .f32⟩
  | .hbm, ⟨32, _⟩ => ⟨S32768x256, .f32⟩
  | .hbm, ⟨33, _⟩ => ⟨S16x2048x512, .f32⟩
  | .hbm, ⟨34, _⟩ => ⟨S32768x512, .f32⟩
  | .hbm, ⟨35, _⟩ => ⟨S16x2048x512, .f32⟩
  | .hbm, ⟨36, _⟩ => ⟨S32768x512, .f32⟩
  | .hbm, ⟨37, _⟩ => ⟨S16x2048x896, .f32⟩
  | .hbm, ⟨38, _⟩ => ⟨S32768x896, .f32⟩
  | .hbm, ⟨39, _⟩ => ⟨S32768x1024, .f32⟩
  | .hbm, ⟨40, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel4.lean ====
abbrev S128x8x256 : Shape := ⟨3, ![128, 8, 256]⟩
abbrev S128x3x256 : Shape := ⟨3, ![128, 3, 256]⟩
abbrev S128x256 : Shape := ⟨2, ![128, 256]⟩
abbrev S4x256 : Shape := ⟨2, ![4, 256]⟩
abbrev S256 : Shape := ⟨1, ![256]⟩
abbrev S4x64x64 : Shape := ⟨3, ![4, 64, 64]⟩
abbrev S128x1x256 : Shape := ⟨3, ![128, 1, 256]⟩
abbrev S_ : Shape := ⟨0, ![]⟩
abbrev S1x256 : Shape := ⟨2, ![1, 256]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S32x8x256 : Shape := ⟨3, ![32, 8, 256]⟩
abbrev S32x1x256 : Shape := ⟨3, ![32, 1, 256]⟩
abbrev S1x8x256 : Shape := ⟨3, ![1, 8, 256]⟩
abbrev S1x1x256 : Shape := ⟨3, ![1, 1, 256]⟩
abbrev S8x256 : Shape := ⟨2, ![8, 256]⟩
abbrev S256x1 : Shape := ⟨2, ![256, 1]⟩

abbrev nBuf : Space → Nat
  | .hbm => 90
  | .vmem => 20
  | .smem => 0
  | _ => 0

abbrev bufTy : (tb : Table) → Fin (tcTables nBuf tb) → BufTy
  | .hbm, ⟨0, _⟩ => ⟨S128x8x256, .f32⟩
  | .hbm, ⟨1, _⟩ => ⟨S128x3x256, .f32⟩
  | .hbm, ⟨2, _⟩ => ⟨S128x256, .f32⟩
  | .hbm, ⟨3, _⟩ => ⟨S4x256, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S4x64x64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S128x1x256, .f32⟩
  | .hbm, ⟨12, _⟩ => ⟨S_, .i32⟩
  | .hbm, ⟨13, _⟩ => ⟨S_, .f32⟩
  | .hbm, ⟨14, _⟩ => ⟨S128x8x256, .f32⟩
  | .hbm, ⟨15, _⟩ => ⟨S1x256, .f32⟩
  | .hbm, ⟨16, _⟩ => ⟨S_, .f32⟩
  | .hbm, ⟨17, _⟩ => ⟨S256x256, .f32⟩
  | .hbm, ⟨18, _⟩ => ⟨S1x64x64, .f32⟩
  | .hbm, ⟨19, _⟩ => ⟨S64x64, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S256x256, .f32⟩
  | .hbm, ⟨26, _⟩ => ⟨S1x64x64, .f32⟩
  | .hbm, ⟨27, _⟩ => ⟨S64x64, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S256x256, .f32⟩
  | .hbm, ⟨42, _⟩ => ⟨S1x64x64, .f32⟩
  | .hbm, ⟨43, _⟩ => ⟨S64x64, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S256x256, .f32⟩
  | .hbm, ⟨50, _⟩ => ⟨S1x256, .f32⟩
  | .hbm, ⟨51, _⟩ => ⟨S_, .f32⟩
  | .hbm, ⟨52, _⟩ => ⟨S256x256, .f32⟩
  | .hbm, ⟨53, _⟩ => ⟨S1x64x64, .f32⟩
  | .hbm, ⟨54, _⟩ => ⟨S64x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S256x256, .f32⟩
  | .hbm, ⟨61, _⟩ => ⟨S1x64x64, .f32⟩
  | .hbm, ⟨62, _⟩ => ⟨S64x64, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S256x256, .f32⟩
  | .hbm, ⟨69, _⟩ => ⟨S1x64x64, .f32⟩
  | .hbm, ⟨70, _⟩ => ⟨S64x64, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S256x256, .f32⟩
  | .hbm, ⟨77, _⟩ => ⟨S1x64x64, .f32⟩
  | .hbm, ⟨78, _⟩ => ⟨S64x64, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S256x256, .f32⟩
  | .hbm, ⟨85, _⟩ => ⟨S1x256, .f32⟩
  | .hbm, ⟨86, _⟩ => ⟨S1x256, .f32⟩
  | .hbm, ⟨87, _⟩ => ⟨S1x256, .f32⟩
  | .hbm, ⟨88, _⟩ => ⟨S128x8x256, .f32⟩
  | .hbm, ⟨89, _⟩ => ⟨S128x1x256, .f32⟩
  | .local _ .vmem, ⟨0, _⟩ => ⟨S32x8x256, .f32⟩
  | .local _ .vmem, ⟨1, _⟩ => ⟨S32x8x256, .f32⟩
  | .local _ .vmem, ⟨2, _⟩ => ⟨S32x8x256, .f32⟩
  | .local _ .vmem, ⟨3, _⟩ => ⟨S32x8x256, .f32⟩
  | .local _ .vmem, ⟨4, _⟩ => ⟨S32x1x256, .f32⟩
  | .local _ .vmem, ⟨5, _⟩ => ⟨S32x1x256, .f32⟩
  | .local _ .vmem, ⟨6, _⟩ => ⟨S4x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S32x8x256, .f32⟩
  | .local _ .vmem, ⟨15, _⟩ => ⟨S32x8x256, .f32⟩
  | .local _ .vmem, ⟨16, _⟩ => ⟨S32x1x256, .f32⟩
  | .local _ .vmem, ⟨17, _⟩ => ⟨S32x1x256, .f32⟩
  | .local _ .vmem, ⟨18, _⟩ => ⟨S32x8x256, .f32⟩
  | .local _ .vmem, ⟨19, _⟩ => ⟨S32x1x256, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_c_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_13 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_15 : Ref sig .tc := ⟨.hbm, 79, rfl⟩
abbrev main_v50 : Ref sig .tc := ⟨.hbm, 80, rfl⟩
abbrev main_c_16 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57_0 : Ref sig .tc := ⟨.hbm, 88, rfl⟩
abbrev main_v57_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_697 : BitVec 32 := 0#32
  let v1257 : BitVec 1 := Scalar.cmpi .eq arg1 c0_i32_697
  let v1258 : BitVec 32 := Scalar.extui v1257
  let c0_i32_698 : BitVec 32 := 0#32
  let v1259 : BitVec 1 := Scalar.cmpi .ne v1258 c0_i32_698
  v1259

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference4Ideal.lean ====
abbrev S128x8x256 : Shape := ⟨3, ![128, 8, 256]⟩
abbrev S128x3x256 : Shape := ⟨3, ![128, 3, 256]⟩
abbrev S128x256 : Shape := ⟨2, ![128, 256]⟩
abbrev S4x256 : Shape := ⟨2, ![4, 256]⟩
abbrev S256 : Shape := ⟨1, ![256]⟩
abbrev S4x64x64 : Shape := ⟨3, ![4, 64, 64]⟩
abbrev S128x11x256 : Shape := ⟨3, ![128, 11, 256]⟩
abbrev S1x256 : Shape := ⟨2, ![1, 256]⟩
abbrev S1x1x256 : Shape := ⟨3, ![1, 1, 256]⟩
abbrev S_ : Shape := ⟨0, ![]⟩
abbrev S128x8x4x64 : Shape := ⟨4, ![128, 8, 4, 64]⟩
abbrev S4x64x128x8 : Shape := ⟨4, ![4, 64, 128, 8]⟩
abbrev S128x1x256 : Shape := ⟨3, ![128, 1, 256]⟩
abbrev S128x8 : Shape := ⟨2, ![128, 8]⟩
abbrev S128x8x1 : Shape := ⟨3, ![128, 8, 1]⟩

abbrev nBuf : Space → Nat
  | .hbm => 178
  | .vmem => 0
  | .smem => 0
  | _ => 0

abbrev hbmTy0_0 (i : Nat) : BufTy := match i % 128 with
  | 0 => ⟨S128x8x256, .f32⟩
  | 1 => ⟨S128x3x256, .f32⟩
  | 2 => ⟨S128x256, .f32⟩
  | 3 => ⟨S4x256, .f32⟩
  | 4 => ⟨S256, .f32⟩
  | 5 => ⟨S4x64x64, .f32⟩
  | 6 => ⟨S256, .f32⟩
  | 7 => ⟨S4x64x64, .f32⟩
  | 8 => ⟨S256, .f32⟩
  | 9 => ⟨S256, .f32⟩
  | 10 => ⟨S256, .f32⟩
  | 11 => ⟨S128x11x256, .f32⟩
  | 12 => ⟨S128x8x256, .f32⟩
  | 13 => ⟨S1x256, .f32⟩
  | 14 => ⟨S256, .f32⟩
  | 15 => ⟨S1x1x256, .f32⟩
  | 16 => ⟨S128x8x256, .f32⟩
  | 17 => ⟨S128x8x256, .f32⟩
  | 18 => ⟨S_, .f32⟩
  | 19 => ⟨S128x8x256, .f32⟩
  | 20 => ⟨S128x8x256, .f32⟩
  | 21 => ⟨S128x8x256, .f32⟩
  | 22 => ⟨S1x256, .f32⟩
  | 23 => ⟨S256, .f32⟩
  | 24 => ⟨S1x1x256, .f32⟩
  | 25 => ⟨S128x8x256, .f32⟩
  | 26 => ⟨S128x8x256, .f32⟩
  | 27 => ⟨S128x8x256, .f32⟩
  | 28 => ⟨S128x8x256, .f32⟩
  | 29 => ⟨S1x256, .f32⟩
  | 30 => ⟨S256, .f32⟩
  | 31 => ⟨S1x1x256, .f32⟩
  | 32 => ⟨S128x8x256, .f32⟩
  | 33 => ⟨S128x8x256, .f32⟩
  | 34 => ⟨S128x8x256, .f32⟩
  | 35 => ⟨S128x8x256, .f32⟩
  | 36 => ⟨S1x256, .f32⟩
  | 37 => ⟨S256, .f32⟩
  | 38 => ⟨S1x1x256, .f32⟩
  | 39 => ⟨S128x8x256, .f32⟩
  | 40 => ⟨S128x8x256, .f32⟩
  | 41 => ⟨S128x8x256, .f32⟩
  | 42 => ⟨S1x1x256, .f32⟩
  | 43 => ⟨S128x8x256, .f32⟩
  | 44 => ⟨S128x8x256, .f32⟩
  | 45 => ⟨S128x8x4x64, .f32⟩
  | 46 => ⟨S4x64x128x8, .f32⟩
  | 47 => ⟨S128x8x4x64, .f32⟩
  | 48 => ⟨S128x8x256, .f32⟩
  | 49 => ⟨S1x1x256, .f32⟩
  | 50 => ⟨S128x8x256, .f32⟩
  | 51 => ⟨S128x8x256, .f32⟩
  | 52 => ⟨S4x64x128x8, .f32⟩
  | 53 => ⟨S128x8x4x64, .f32⟩
  | 54 => ⟨S128x8x256, .f32⟩
  | 55 => ⟨S1x1x256, .f32⟩
  | 56 => ⟨S128x8x256, .f32⟩
  | 57 => ⟨S128x8x256, .f32⟩
  | 58 => ⟨S128x8x256, .f32⟩
  | 59 => ⟨S128x8x256, .f32⟩
  | 60 => ⟨S_, .f32⟩
  | 61 => ⟨S128x8x256, .f32⟩
  | 62 => ⟨S128x8x256, .f32⟩
  | 63 => ⟨S_, .f32⟩
  | 64 => ⟨S128x8x256, .f32⟩
  | 65 => ⟨S128x8x256, .f32⟩
  | 66 => ⟨S_, .f32⟩
  | 67 => ⟨S128x8x256, .f32⟩
  | 68 => ⟨S128x8x256, .f32⟩
  | 69 => ⟨S256, .f32⟩
  | 70 => ⟨S_, .f32⟩
  | 71 => ⟨S256, .f32⟩
  | 72 => ⟨S256, .f32⟩
  | 73 => ⟨S256, .f32⟩
  | 74 => ⟨S256, .f32⟩
  | 75 => ⟨S256, .i1⟩
  | 76 => ⟨S256, .f32⟩
  | 77 => ⟨S256, .f32⟩
  | 78 => ⟨S256, .f32⟩
  | 79 => ⟨S256, .f32⟩
  | 80 => ⟨S256, .f32⟩
  | 81 => ⟨S256, .f32⟩
  | 82 => ⟨S256, .f32⟩
  | 83 => ⟨S256, .f32⟩
  | 84 => ⟨S1x1x256, .f32⟩
  | 85 => ⟨S128x8x256, .f32⟩
  | 86 => ⟨S128x8x256, .f32⟩
  | 87 => ⟨S128x8x256, .f32⟩
  | 88 => ⟨S_, .f32⟩
  | 89 => ⟨S128x8x256, .f32⟩
  | 90 => ⟨S128x8x256, .f32⟩
  | 91 => ⟨S128x8x256, .f32⟩
  | 92 => ⟨S128x8x256, .f32⟩
  | 93 => ⟨S128x8x256, .f32⟩
  | 94 => ⟨S128x8x256, .f32⟩
  | 95 => ⟨S128x8x256, .f32⟩
  | 96 => ⟨S_, .f32⟩
  | 97 => ⟨S128x8x256, .f32⟩
  | 98 => ⟨S128x8x256, .f32⟩
  | 99 => ⟨S_, .f32⟩
  | 100 => ⟨S128x8x256, .f32⟩
  | 101 => ⟨S128x8x256, .f32⟩
  | 102 => ⟨S128x8x256, .f32⟩
  | 103 => ⟨S128x8x256, .f32⟩
  | 104 => ⟨S128x1x256, .f32⟩
  | 105 => ⟨S128x256, .f32⟩
  | 106 => ⟨S128x256, .f32⟩
  | 107 => ⟨S128x1x256, .f32⟩
  | 108 => ⟨S128x256, .f32⟩
  | 109 => ⟨S128x256, .f32⟩
  | 110 => ⟨S128x1x256, .f32⟩
  | 111 => ⟨S128x256, .f32⟩
  | 112 => ⟨S128x256, .f32⟩
  | 113 => ⟨S128x1x256, .f32⟩
  | 114 => ⟨S128x256, .f32⟩
  | 115 => ⟨S128x256, .f32⟩
  | 116 => ⟨S128x1x256, .f32⟩
  | 117 => ⟨S128x256, .f32⟩
  | 118 => ⟨S128x256, .f32⟩
  | 119 => ⟨S128x1x256, .f32⟩
  | 120 => ⟨S128x256, .f32⟩
  | 121 => ⟨S128x256, .f32⟩
  | 122 => ⟨S128x1x256, .f32⟩
  | 123 => ⟨S128x256, .f32⟩
  | 124 => ⟨S128x256, .f32⟩
  | 125 => ⟨S128x1x256, .f32⟩
  | 126 => ⟨S128x256, .f32⟩
  | 127 => ⟨S128x256, .f32⟩
  | _ => ⟨S128x8x256, .f32⟩

abbrev hbmTy0_1 (i : Nat) : BufTy := match i % 128 with
  | 0 => ⟨S128x1x256, .f32⟩
  | 1 => ⟨S128x256, .f32⟩
  | 2 => ⟨S128x256, .f32⟩
  | 3 => ⟨S128x1x256, .f32⟩
  | 4 => ⟨S128x256, .f32⟩
  | 5 => ⟨S128x256, .f32⟩
  | 6 => ⟨S128x1x256, .f32⟩
  | 7 => ⟨S128x256, .f32⟩
  | 8 => ⟨S128x256, .f32⟩
  | 9 => ⟨S128x1x256, .f32⟩
  | 10 => ⟨S128x256, .f32⟩
  | 11 => ⟨S128x256, .f32⟩
  | 12 => ⟨S128x1x256, .f32⟩
  | 13 => ⟨S128x256, .f32⟩
  | 14 => ⟨S128x256, .f32⟩
  | 15 => ⟨S128x1x256, .f32⟩
  | 16 => ⟨S128x256, .f32⟩
  | 17 => ⟨S128x256, .f32⟩
  | 18 => ⟨S128x1x256, .f32⟩
  | 19 => ⟨S128x256, .f32⟩
  | 20 => ⟨S128x256, .f32⟩
  | 21 => ⟨S128x1x256, .f32⟩
  | 22 => ⟨S128x256, .f32⟩
  | 23 => ⟨S128x256, .f32⟩
  | 24 => ⟨S128x1x256, .f32⟩
  | 25 => ⟨S128x1x256, .f32⟩
  | 26 => ⟨S128x1x256, .f32⟩
  | 27 => ⟨S128x1x256, .f32⟩
  | 28 => ⟨S128x1x256, .f32⟩
  | 29 => ⟨S128x1x256, .f32⟩
  | 30 => ⟨S128x1x256, .f32⟩
  | 31 => ⟨S128x1x256, .f32⟩
  | 32 => ⟨S128x8x256, .f32⟩
  | 33 => ⟨S128x8x256, .f32⟩
  | 34 => ⟨S_, .f32⟩
  | 35 => ⟨S128x8, .f32⟩
  | 36 => ⟨S128x8x1, .f32⟩
  | 37 => ⟨S_, .f32⟩
  | 38 => ⟨S128x8x1, .f32⟩
  | 39 => ⟨S128x8x1, .f32⟩
  | 40 => ⟨S_, .f32⟩
  | 41 => ⟨S128x8x1, .f32⟩
  | 42 => ⟨S128x8x1, .f32⟩
  | 43 => ⟨S128x8x1, .f32⟩
  | 44 => ⟨S128x8x256, .f32⟩
  | 45 => ⟨S128x8x256, .f32⟩
  | 46 => ⟨S1x1x256, .f32⟩
  | 47 => ⟨S128x8x256, .f32⟩
  | 48 => ⟨S128x8x256, .f32⟩
  | 49 => ⟨S128x1x256, .f32⟩
  | _ => ⟨S128x8x256, .f32⟩

abbrev hbmTy (i : Nat) : BufTy := match i / 128 with
  | 0 => hbmTy0_0 i
  | 1 => hbmTy0_1 i
  | _ => ⟨S128x8x256, .f32⟩

abbrev bufTy : (tb : Table) → Fin (tcTables nBuf tb) → BufTy
  | .hbm, ⟨i, _⟩ => hbmTy i
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_0 : Ref sig .tc := ⟨.hbm, 60, rfl⟩
abbrev main_v48 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_3 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_4 : Ref sig .tc := ⟨.hbm, 96, rfl⟩
abbrev main_v67 : Ref sig .tc := ⟨.hbm, 97, rfl⟩
abbrev main_v68 : Ref sig .tc := ⟨.hbm, 98, rfl⟩
abbrev main_cst_5 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_6 : Ref sig .tc := ⟨.hbm, 162, rfl⟩
abbrev main_v131 : Ref sig .tc := ⟨.hbm, 163, rfl⟩
abbrev main_v132 : Ref sig .tc := ⟨.hbm, 164, rfl⟩
abbrev main_cst_7 : Ref sig .tc := ⟨.hbm, 165, rfl⟩
abbrev main_v133 : Ref sig .tc := ⟨.hbm, 166, rfl⟩
abbrev main_v134 : Ref sig .tc := ⟨.hbm, 167, rfl⟩
abbrev main_cst_8 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩

abbrev nD : Nat := 1
abbrev τ : Topo := Topo.v7x

variable {F : FTy → Type} [FloatOps F]
-- ==== Proof.AttnBlock.lean ====
/- One image's block of the attention kernel: the operations its sixteen stores have in common, and the block of results
   as one function of the image. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic

variable {F : FTy → Type} [FloatOps F]

/-- The result rows of one image from its 512 × 256 bias, its column of sinks, its queries, the two blocks of keys, the two
    blocks of values and the norm's weights: scores, row maxima, weights, weighted values over the denominators, norm. -/
def image (bias : FVec F S512x256 .f32) (sink : FVec F S512x1 .f32) (q : Vec F S1x128x256 .f32)
    (kp : Vec F S1x1x128x128 .f32) (ko : Vec F S1x128x128 .f32) (vp : Vec F S1x1x128x128 .f32)
    (vo : Vec F S1x128x128 .f32) (gn : Vec F S1x256 .f32) : FVec F S1x128x256 .bf16 :=
  let s := k0_pay78 bias (k0_pay56 k0_pay2 q) kp ko
  let m := k0_pay95 sink s
  let e := k0_pay111 s m
  k0_pay181 k0_pay2 (k0_pay147 e (k0_pay128 sink m e) vp vo) gn

/-- The sinks' column: row `h * 128 + r` holds the sink of head `h`. -/
def sinkCol (x6 : Vec F S1x4 .f32) : FVec F S512x1 .f32 :=
  k0_pay5 k0_pay3 (k0_pay4 (View.ld x6 r0_0) (View.ld x6 r0_1)) (View.ld x6 r0_2) (View.ld x6 r0_3)

/-- The bias of grid point `i`: the table, and at the first block minus infinity on the columns before the block. -/
def biasAt (i : grid0.Coords) (x5 : Vec F S512x256 .f32) : FVec F S512x256 .f32 :=
  k0_pay6 (BitVec.ofNat 32 (i 1).val) (View.ld x5 r0_4)

/-- Image `b` of a 16-image block of queries. -/
def qSlab (x0 : Vec F S16x128x256 .f32) (b : Fin 16) : Vec F S1x128x256 .f32 :=
  View.ld x0 (Rect.unit (s := S16x128x256) ![b.val, 0, 0] S1x128x256.size (by revert b; decide))

/-- Image `b` of a 16-image block of own keys or values. -/
def ownSlab (x1 : Vec F S16x128x128 .f32) (b : Fin 16) : Vec F S1x128x128 .f32 :=
  View.ld x1 (Rect.unit (s := S16x128x128) ![b.val, 0, 0] S1x128x128.size (by revert b; decide))

/-- Image `b` of a 16-image block of previous keys or values. -/
def prevSlab (x3 : Vec F S1x16x128x128 .f32) (b : Fin 16) : Vec F S1x1x128x128 .f32 :=
  View.ld x3 (Rect.unit (s := S1x16x128x128) ![0, b.val, 0, 0] S1x1x128x128.size (by revert b; decide))

theorem qSlab_at (x0 : Vec F S16x128x256 .f32) (b : Fin 16) (r : Fin 128) (l : Fin 256) :
    qSlab x0 b (ix3 0 r l) = x0 (ix3 b r l) := by
  unfold qSlab; pointwise

theorem ownSlab_at (x1 : Vec F S16x128x128 .f32) (b : Fin 16) (r : Fin 128) (l : Fin 128) :
    ownSlab x1 b (ix3 0 r l) = x1 (ix3 b r l) := by
  unfold ownSlab; pointwise

theorem prevSlab_at (x3 : Vec F S1x16x128x128 .f32) (b : Fin 16) (r : Fin 128) (l : Fin 128) :
    prevSlab x3 b (ix4 0 0 r l) = x3 (ix4 0 b r l) := by
  unfold prevSlab; pointwise

/-- What a grid point writes for its window is the sixteen images' blocks, one above the other. -/
theorem out_pieces (i : grid0.Coords) (x0 : Vec F S16x128x256 .f32) (x1 x2 : Vec F S16x128x128 .f32)
    (x3 x4 : Vec F S1x16x128x128 .f32) (x5 : Vec F S512x256 .f32) (x6 : Vec F S1x4 .f32) (x7 : Vec F S1x256 .f32) :
    out0_8 i x0 x1 x2 x3 x4 x5 x6 x7 =
      View.canon (List.ofFn fun k : Fin 16 =>
        (⟨Rect.unit (s := S16x128x256) ![k.rev.val, 0, 0] S1x128x256.size (by revert k; decide),
          image (biasAt i x5) (sinkCol x6) (qSlab x0 k.rev) (prevSlab x3 k.rev) (ownSlab x1 k.rev) (prevSlab x4 k.rev)
            (ownSlab x2 k.rev) (View.ld x7 r0_53)⟩ : View.Piece (Elt F) S16x128x256 (.bf16))) := rfl

/-- The block a grid point writes, read at image `b`, row `r`, column `l`. -/
theorem out_at (i : grid0.Coords) (x0 : Vec F S16x128x256 .f32) (x1 x2 : Vec F S16x128x128 .f32)
    (x3 x4 : Vec F S1x16x128x128 .f32) (x5 : Vec F S512x256 .f32) (x6 : Vec F S1x4 .f32) (x7 : Vec F S1x256 .f32)
    (b : Fin 16) (r : Fin 128) (l : Fin 256) :
    out0_8 i x0 x1 x2 x3 x4 x5 x6 x7 (ix3 b r l) =
      image (biasAt i x5) (sinkCol x6) (qSlab x0 b) (prevSlab x3 b) (ownSlab x1 b) (prevSlab x4 b) (ownSlab x2 b)
        (View.ld x7 r0_53) (ix3 0 r l) := by
  rw [out_pieces]
  refine View.canon_ofFn_unit_eq_of_forall _ _ _ _ _ _ ⟨b.rev, ?_⟩ ?_
  · intro a
    fin_cases a <;> simp [ix3] <;> omega
  · intro k x hx
    obtain ⟨x0', x1', x2', rfl⟩ : ∃ (x0' : Fin 1) (x1' : Fin 128) (x2' : Fin 256), x = ix3 x0' x1' x2' := ⟨x 0, x 1, x 2, eq_ix3 x⟩
    have hb : (b : ℕ) = (k.rev : ℕ) + (x0' : ℕ) := hx 0
    have hr : (r : ℕ) = 0 + (x1' : ℕ) := hx 1
    have hl : (l : ℕ) = 0 + (x2' : ℕ) := hx 2
    obtain rfl : b = k.rev := Fin.ext (by omega)
    obtain rfl : r = x1' := Fin.ext (by omega)
    obtain rfl : l = x2' := Fin.ext (by omega)
    obtain rfl : x0' = 0 := Subsingleton.elim _ _
    rfl

end Cert.Attn

end
-- ==== Proof.AttnStages.lean ====
/- The attention kernel's operations read at an index. -/
module

public import proofs.«01_k».proof.Proof.AttnBlock
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic

/-- The stacked row of head `h` and query row `r`. -/
abbrev row (h : Fin 4) (r : Fin 128) : Fin 512 := ⟨h.val * 128 + r.val, by omega⟩
/-- The column of head `h` and lane `d` in the queries and in the result. -/
abbrev col (h : Fin 4) (d : Fin 64) : Fin 256 := ⟨h.val * 64 + d.val, by omega⟩
/-- The column of key head `g` and lane `d` in the keys and the values. -/
abbrev lane (g : Fin 2) (d : Fin 64) : Fin 128 := ⟨g.val * 64 + d.val, by omega⟩
/-- The key head that head `h` reads. -/
abbrev grp (h : Fin 4) : Fin 2 := ⟨h.val / 2, by omega⟩
/-- The scale of the queries. -/
abbrev scale : EReal := Ideal.ofBits .f32 0x3E000000#32
/-- Minus infinity, as it is written in the program. -/
abbrev ninf : EReal := Ideal.ofBits .f32 0xFF800000#32

/-- A choice by «the lane is below 64». -/
theorem sel_lo (x : ℕ) (hx : x < 128) (a b : EReal) :
    Scalar.select (IntOp.cmpi CmpIPredicate.slt (BitVec.ofNat 32 x) 64#32) a b = if x < 64 then a else b := by
  have h : ∀ x : Fin 128, IntOp.cmpi CmpIPredicate.slt (BitVec.ofNat 32 x.val) 64#32 = BitVec.ofBool (decide (x.val < 64)) := by
    decide +kernel
  rw [h ⟨x, hx⟩]
  by_cases hx : x < 64 <;> simp [hx, Scalar.select]

/-- A sum over 128 lanes whose terms vanish off one half is the sum over that half. -/
theorem sum_half (f : Fin 128 → EReal) (g : Fin 2) (hf : ∀ (g' : Fin 2) d, g' ≠ g → f (lane g' d) = 0) :
    ∑ x, f x = ∑ d, f (lane g d) := by
  rw [Fin.sum_univ_two_halves 64 64 rfl f]
  have e0 : ∀ d : Fin 64, (⟨d.val, by omega⟩ : Fin 128) = lane 0 d := fun d => Fin.ext (by simp)
  have e1 : ∀ d : Fin 64, (⟨64 + d.val, by omega⟩ : Fin 128) = lane 1 d := fun d => Fin.ext (by simp)
  fin_cases g
  · rw [Finset.sum_congr rfl fun d _ => congrArg f (e0 d), Finset.sum_congr rfl fun d _ => (congrArg f (e1 d)).trans (hf 1 d (by decide))]
    simp
  · rw [Finset.sum_congr rfl fun d _ => congrArg f (e1 d), Finset.sum_congr rfl fun d _ => (congrArg f (e0 d)).trans (hf 0 d (by decide))]
    simp

/-- The stacked queries: four copies of the scaled rows, each masked to one half of the lanes. -/
theorem query_ladder (q : Vec Ideal S1x128x256 .f32) (R : Fin 512) (l : Fin 128) :
    k0_pay56 k0_pay2 q (ix2 R l) =
      if h : R.val < 128 then if l.val < 64 then q (ix3 0 ⟨R.val, h⟩ ⟨l.val, by omega⟩) * scale else 0
      else if h : R.val - 128 < 128 then
        if l.val < 64 then q (ix3 0 ⟨R.val - 128, h⟩ ⟨(l.val + 128 - 64) % 128, by omega⟩) * scale else 0
      else if h : R.val - 128 - 128 < 128 then
        if l.val < 64 then 0 else q (ix3 0 ⟨R.val - 128 - 128, h⟩ ⟨128 + (l.val + 128 - 64) % 128, by omega⟩) * scale
      else if l.val < 64 then 0 else q (ix3 0 ⟨R.val - 128 - 128 - 128, by omega⟩ ⟨128 + l.val, by omega⟩) * scale := by
  pointwise [k0_pay56, k0_pay2]
  simp only [sel_lo _ l.isLt]

/-- A masked query row: head `h`'s scaled query on its key head's lanes, zero elsewhere. -/
theorem query_at (q : Vec Ideal S1x128x256 .f32) (h : Fin 4) (r : Fin 128) (g : Fin 2) (d : Fin 64) :
    k0_pay56 k0_pay2 q (ix2 (row h r) (lane g d)) = if g = grp h then q (ix3 0 r (col h d)) * scale else 0 := by
  have e : ∀ (a : Fin 128) (b : Fin 256), a.val = r.val → b.val = h.val * 64 + d.val →
      q (ix3 0 a b) * scale = q (ix3 0 r (col h d)) * scale := by
    intro a b ha hb
    obtain rfl : a = r := Fin.ext ha
    obtain rfl : b = col h d := Fin.ext hb
    rfl
  rw [query_ladder]
  simp only [Fin.ext_iff]
  split_ifs <;> first | rfl | (exfalso; omega) | (refine e _ _ ?_ ?_ <;> simp only <;> omega)

theorem score_at (bias : FVec Ideal S512x256 .f32) (q : Vec Ideal S1x128x256 .f32) (kp : Vec Ideal S1x1x128x128 .f32)
    (ko : Vec Ideal S1x128x128 .f32) (h : Fin 4) (r : Fin 128) (j : Fin 256) :
    k0_pay78 bias (k0_pay56 k0_pay2 q) kp ko (ix2 (row h r) j) =
      (∑ d : Fin 64, q (ix3 0 r (col h d)) * scale *
        (if hj : j.val < 128 then kp (ix4 0 0 ⟨j.val, hj⟩ (lane (grp h) d)) else ko (ix3 0 ⟨j.val - 128, by omega⟩ (lane (grp h) d))))
        + bias (ix2 (row h r) j) := by
  pointwise [k0_pay78]
  rw [sum_half _ (grp h)]
  · refine congrArg (· + _) (Finset.sum_congr rfl fun d _ => ?_)
    rw [query_at, if_pos rfl]
  · intro g d hg
    rw [query_at, if_neg hg, zero_mul]

theorem max_at (sink : FVec Ideal S512x1 .f32) (s : FVec Ideal S512x256 .f32) (R : Fin 512) :
    k0_pay95 sink s (ix2 R 0) = max (Finset.fold max ninf (fun x => s (ix2 R x)) Finset.univ) (sink (ix2 R 0)) := by
  pointwise [k0_pay95]

theorem weight_at (s : FVec Ideal S512x256 .f32) (m : FVec Ideal S512x1 .f32) (R : Fin 512) (j : Fin 256) :
    k0_pay111 s m (ix2 R j) = Ideal.exp (s (ix2 R j) - m (ix2 R 0)) := by
  pointwise [k0_pay111]

theorem denom_at (sink : FVec Ideal S512x1 .f32) (m : FVec Ideal S512x1 .f32) (e : FVec Ideal S512x256 .f32) (R : Fin 512) :
    k0_pay128 sink m e (ix2 R 0) = ∑ x, e (ix2 R x) + Ideal.exp (sink (ix2 R 0) - m (ix2 R 0)) := by
  pointwise [k0_pay128]

theorem mixed_at (e : FVec Ideal S512x256 .f32) (den : FVec Ideal S512x1 .f32) (vp : Vec Ideal S1x1x128x128 .f32)
    (vo : Vec Ideal S1x128x128 .f32) (R : Fin 512) (l : Fin 128) :
    k0_pay147 e den vp vo (ix2 R l) =
      Ideal.div (∑ j : Fin 256, e (ix2 R j) * (if hj : j.val < 128 then vp (ix4 0 0 ⟨j.val, hj⟩ l) else vo (ix3 0 ⟨j.val - 128, by omega⟩ l)))
        (den (ix2 R 0)) := by
  pointwise [k0_pay147]

/-- The norm over the four heads' lanes, when the stacked rows hold `o` on their key heads' lanes. -/
theorem norm_at (p : FVec Ideal S512x128 .f32) (gn : Vec Ideal S1x256 .f32) (r : Fin 128) (o : Fin 256 → EReal)
    (ho : ∀ h d, p (ix2 (row h r) (lane (grp h) d)) = o (col h d)) (l : Fin 256) :
    k0_pay181 k0_pay2 p gn (ix3 0 r l) =
      o l * Ideal.rsqrt (Ideal.div (∑ x, o x * o x) (Ideal.ofBits .f32 0x43800000#32) + Ideal.ofBits .f32 0x358637BD#32)
        * gn (ix2 0 l) := by
  have e : ∀ (x : Fin 256) (a : Fin 512) (b : Fin 128), a.val = x.val / 64 * 128 + r.val →
      b.val = x.val / 64 / 2 * 64 + x.val % 64 → p (ix2 a b) = o x := by
    intro x a b ha hb
    obtain ⟨h, d, rfl⟩ : ∃ (h : Fin 4) (d : Fin 64), x = col h d :=
      ⟨⟨x.val / 64, by omega⟩, ⟨x.val % 64, by omega⟩, Fin.ext (by simp only; omega)⟩
    obtain rfl : a = row h r := Fin.ext (by simp only at ha ⊢; omega)
    obtain rfl : b = lane (grp h) d := Fin.ext (by simp only at hb ⊢; omega)
    exact ho h d
  have hs : ∑ x, o x * o x = ∑ x : Fin 128, o ⟨x.val, by omega⟩ * o ⟨x.val, by omega⟩ +
      ∑ x : Fin 128, o ⟨128 + x.val, by omega⟩ * o ⟨128 + x.val, by omega⟩ :=
    Fin.sum_univ_two_halves 128 128 rfl fun x => o x * o x
  pointwise [k0_pay181, k0_pay2]
  have lo : ∀ x : Fin 128, Scalar.select (IntOp.cmpi CmpIPredicate.slt (BitVec.ofNat 32 x.val) 64#32) (p (ix2 ⟨r.val, by omega⟩ x))
      (p (ix2 ⟨128 + r.val, by omega⟩ ⟨(x.val + 128 - 64) % 128, by omega⟩)) = o ⟨x.val, by omega⟩ := by
    intro x
    rw [sel_lo _ x.isLt]
    split_ifs <;> refine e _ _ _ ?_ ?_ <;> simp only <;> omega
  have hi : ∀ x : Fin 128, Scalar.select (IntOp.cmpi CmpIPredicate.slt (BitVec.ofNat 32 x.val) 64#32)
      (p (ix2 ⟨256 + r.val, by omega⟩ ⟨(x.val + 128 - 64) % 128, by omega⟩)) (p (ix2 ⟨384 + r.val, by omega⟩ x)) =
        o ⟨128 + x.val, by omega⟩ := by
    intro x
    rw [sel_lo _ x.isLt]
    split_ifs <;> refine e _ _ _ ?_ ?_ <;> simp only <;> omega
  refine congrArg (· * _) (congrArg₂ (· * ·) ?_ (congrArg (fun t => Ideal.rsqrt (Ideal.div t _ + _)) (Eq.trans (congrArg₂ (· + ·) ?_ ?_) hs.symm)))
  · by_cases h : l.val < 128
    · rw [dif_pos h]
      exact lo ⟨l.val, h⟩
    · rw [dif_neg h]
      exact (hi ⟨l.val - 128, by omega⟩).trans (congrArg o (Fin.ext (by simp only; omega)))
  · exact Finset.sum_congr rfl fun x _ => by rw [lo]
  · exact Finset.sum_congr rfl fun x _ => by rw [hi]

theorem sinkCol_at (x6 : Vec Ideal S1x4 .f32) (h : Fin 4) (r : Fin 128) :
    sinkCol x6 (ix2 (row h r) 0) = x6 (ix2 0 h) := by
  have e : ∀ (h : Fin 4) (r : Fin 128), k0_pay3 (ix2 (row h r) 0) = BitVec.ofNat 32 h.val := by decide +kernel
  pointwise [sinkCol, k0_pay5, k0_pay4]
  rw [e]
  fin_cases h <;> rfl

theorem biasAt_at (i : grid0.Coords) (x5 : Vec Ideal S512x256 .f32) (R : Fin 512) (j : Fin 256) :
    biasAt i x5 (ix2 R j) = if (i 1).val = 0 ∧ j.val < 128 then ninf else x5 (ix2 R j) := by
  pointwise [biasAt, k0_pay6]
  have e : ∀ (a : Fin 16) (j : Fin 256), IntOp.ori (Scalar.cmpi CmpIPredicate.sgt (BitVec.ofNat 32 a.val) 0#32)
        (IntOp.cmpi CmpIPredicate.sge (BitVec.ofNat 32 j.val) 128#32) = BitVec.ofBool (decide (¬ (a.val = 0 ∧ j.val < 128))) := by
    decide +kernel
  rw [e (i 1) j]
  by_cases hx : (i 1).val = 0 ∧ j.val < 128 <;> simp [hx, Scalar.select]

end Cert.Attn

end
-- ==== Proof.AttnMath.lean ====
/- One row of softmax attention with a sink, over the extended reals: the form that divides once at the end and the form that divides every weight agree. The distance buckets of its bias. -/
module

public import Idealize.ShloMosaic.PureOps.Ideal.Laws

@[expose] public section

noncomputable section

namespace Cert.Attn

open Idealize.ShloMosaic

/-- The row's maximum, the sink included. -/
def top {n : ℕ} (s : Fin n → EReal) (sink : EReal) : EReal := max (Finset.fold max ⊥ s Finset.univ) sink

/-- The row's normaliser: the scores' weights and the sink's weight. -/
def mass {n : ℕ} (s : Fin n → EReal) (sink : EReal) : EReal :=
  ∑ j, Ideal.exp (s j - top s sink) + Ideal.exp (sink - top s sink)

/-- Attention that sums the weighted values first and divides once. -/
def attn {n : ℕ} (s v : Fin n → EReal) (sink : EReal) : EReal :=
  Ideal.div (∑ j, Ideal.exp (s j - top s sink) * v j) (mass s sink)

/-- Attention that divides every weight first. -/
def attnRef {n : ℕ} (s v : Fin n → EReal) (sink : EReal) : EReal :=
  ∑ j, v j * Ideal.div (Ideal.exp (s j - top s sink)) (mass s sink)

theorem top_real {n : ℕ} (s : Fin n → EReal) (sink : EReal) (hs : ∀ j, s j ≠ ⊤) (h1 : sink ≠ ⊤) (h0 : sink ≠ ⊥) :
    ∃ M : ℝ, top s sink = M := by
  have hlt : top s sink ≠ ⊤ := by
    refine ne_of_lt (max_lt ?_ (lt_top_iff_ne_top.2 h1))
    rw [Finset.fold_max_lt]
    exact ⟨bot_lt_top, fun j _ => lt_top_iff_ne_top.2 (hs j)⟩
  have hgt : top s sink ≠ ⊥ := fun h => h0 (le_bot_iff.1 (h ▸ le_max_right _ sink))
  exact ⟨(top s sink).toReal, (EReal.coe_toReal hlt hgt).symm⟩

/-- A score below `⊤` has a real, nonnegative weight against a real maximum. -/
theorem weight_real (x : EReal) (M : ℝ) (h : x ≠ ⊤) : ∃ w : ℝ, 0 ≤ w ∧ Ideal.exp (x - M) = w ∧ (x = ⊥ → w = 0) := by
  induction x with
  | bot => exact ⟨0, le_refl _, by rw [EReal.bot_sub]; rfl, fun _ => rfl⟩
  | top => exact absurd rfl h
  | coe r => exact ⟨Real.exp (r - M), (Real.exp_pos _).le, by rw [← EReal.coe_sub]; rfl, fun h => absurd h (EReal.coe_ne_bot r)⟩

theorem sum_coe {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A real, nonnegative factor moves into a sum. -/
theorem sum_mul_coe {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (EReal.coe_nonneg.2 hc) (EReal.coe_ne_top c)]

theorem div_coe_pos (x : EReal) {D : ℝ} (hD : 0 < D) : Ideal.div x D = x * ((D⁻¹ : ℝ) : EReal) := by
  rw [Ideal.div, if_neg (by exact_mod_cast hD.ne'), EReal.coe_inv]

/-- The two forms agree where the values agree wherever the score is above `⊥`. -/
theorem attn_eq_attnRef {n : ℕ} (s v v' : Fin n → EReal) (sink : EReal) (hs : ∀ j, s j ≠ ⊤) (h1 : sink ≠ ⊤) (h0 : sink ≠ ⊥)
    (hv : ∀ j, s j = ⊥ ∨ v j = v' j) : attn s v sink = attnRef s v' sink := by
  obtain ⟨M, hM⟩ := top_real s sink hs h1 h0
  choose w hw0 hw hwb using fun j => weight_real (s j) M (hs j)
  obtain ⟨d, hd⟩ : ∃ r : ℝ, sink = r := ⟨sink.toReal, (EReal.coe_toReal h1 h0).symm⟩
  have hsink : Ideal.exp (sink - M) = (Real.exp (d - M) : ℝ) := by rw [hd, ← EReal.coe_sub]; rfl
  have hmass : mass s sink = ((∑ j, w j + Real.exp (d - M) : ℝ) : EReal) := by
    unfold mass
    rw [hM, hsink, Finset.sum_congr rfl fun j _ => hw j, sum_coe, EReal.coe_add]
  have hD : 0 < ∑ j, w j + Real.exp (d - M) := add_pos_of_nonneg_of_pos (Finset.sum_nonneg fun j _ => hw0 j) (Real.exp_pos _)
  unfold attn attnRef
  rw [hmass, div_coe_pos _ hD, sum_mul_coe _ _ _ (inv_nonneg.2 hD.le)]
  refine Finset.sum_congr rfl fun j _ => ?_
  rw [div_coe_pos _ hD, hM, hw j]
  rcases hv j with h | h
  · rw [hwb j h]; simp
  · rw [h, mul_comm (w j : EReal) (v' j), mul_assoc]

/-- A scaled inner product of real vectors: the scale may stand at the query or at the sum, and the products in either order. -/
theorem score_eq {n : ℕ} (q k : Fin n → EReal) (c : ℝ) (b : EReal) (hq : ∀ d, ∃ r : ℝ, q d = r) (hk : ∀ d, ∃ r : ℝ, k d = r) :
    (∑ d, q d * (c : EReal) * k d) + b = (∑ d, k d * q d) * (c : EReal) + b := by
  choose q' hq using hq
  choose k' hk using hk
  simp only [hq, hk, ← EReal.coe_mul, sum_coe]
  rw [Finset.sum_mul]
  refine congrArg (fun x : ℝ => (x : EReal) + b) (Finset.sum_congr rfl fun d _ => ?_)
  ring

/-- Such a score with a bias below `⊤` is below `⊤`. -/
theorem score_ne_top {n : ℕ} (q k : Fin n → EReal) (c : ℝ) (b : EReal) (hq : ∀ d, ∃ r : ℝ, q d = r) (hk : ∀ d, ∃ r : ℝ, k d = r)
    (hb : b ≠ ⊤) : (∑ d, k d * q d) * (c : EReal) + b ≠ ⊤ := by
  choose q' hq using hq
  choose k' hk using hk
  simp only [hq, hk, ← EReal.coe_mul, sum_coe]
  induction b with
  | bot => simp
  | top => exact absurd rfl hb
  | coe r => rw [← EReal.coe_add]; exact EReal.coe_ne_top _

/-- The bucket of a distance below 16 is the distance itself; above, sixteen buckets share the factor 8 from 16 to 128 evenly on a logarithmic scale.
    `n ^ 16 / 2 ^ 64` is `(n / 16) ^ 16`, and a third of its binary logarithm counts factors of `8 ^ (1 / 16)`. -/
def bucketNat (n : ℕ) : ℕ := if n < 16 then n else min (16 + (Nat.log2 (n ^ 16) - 64) / 3) 31

/-- A key position is in a query's window when it is at most 128 positions back and not ahead. -/
def inBand (r j : ℕ) : Prop := r ≤ j ∧ j ≤ 128 + r

instance (r j : ℕ) : Decidable (inBand r j) := by unfold inBand; infer_instance

theorem bucketNat_lt (n : ℕ) : bucketNat n < 32 := by unfold bucketNat; split <;> omega

theorem ninf_eq : Ideal.ofBits .f32 0xFF800000#32 = ⊥ := by
  simp [Ideal.ofBits, Ideal.ieee]

/-- The bucket of a distance, as an index of the learned table. -/
def bucket (n : ℕ) : Fin 32 := ⟨bucketNat n, bucketNat_lt n⟩

/-- The bias of head `h` between row `r` of a block and column `j` of the previous block and its own, side by side. -/
def bias (T : Fin 32 → Fin 4 → EReal) (h : Fin 4) (r : Fin 128) (j : Fin 256) : EReal :=
  if inBand r.val j.val then T (bucket (128 + r.val - j.val)) h else ⊥

/-- The same in block `n`: the first block has no previous one. -/
def blockBias (T : Fin 32 → Fin 4 → EReal) (n : Fin 16) (h : Fin 4) (r : Fin 128) (j : Fin 256) : EReal :=
  if n.val = 0 ∧ j.val < 128 then ⊥ else bias T h r j

/-- The row of the sequence that column `j` of block `n` stands for. -/
def keyRow (n : Fin 16) (j : Fin 256) : Fin 2048 := ⟨if j.val < 128 then (n.val - 1) * 128 + j.val else n.val * 128 + (j.val - 128), by split <;> omega⟩

/-- Row `r` of block `n`. -/
def seqRow (n : Fin 16) (r : Fin 128) : Fin 2048 := ⟨n.val * 128 + r.val, by omega⟩

end Cert.Attn

end
-- ==== Proof.AttnNorm.lean ====
/- The root-mean-square norm of one row. -/
module

public import Idealize.ShloMosaic.PureOps.Ideal

@[expose] public section

noncomputable section

namespace Cert.Attn

open Idealize.ShloMosaic

/-- A row of 256 over the root of its mean square, a small constant added under the root, times the norm's weights. -/
def normed (o g : Fin 256 → EReal) (l : Fin 256) : EReal :=
  o l * Ideal.rsqrt (Ideal.div (∑ x, o x * o x) (Ideal.ofBits .f32 0x43800000#32) + Ideal.ofBits .f32 0x358637BD#32) * g l

end Cert.Attn

end
-- ==== Proof.AttnImage.lean ====
/- One image's block of results at an index: attention over a row's 256 scores, then the norm. -/
module

public import proofs.«01_k».proof.Proof.AttnStages
public import proofs.«01_k».proof.Proof.AttnMath
public import proofs.«01_k».proof.Proof.AttnNorm

@[expose] public section

set_option maxRecDepth 16384

noncomputable section

namespace Cert.Attn

open Cert.KernelIdeal Cert.KernelIdeal.Gen Idealize.ShloMosaic

/-- Row `j` of the previous block and the block itself, one above the other. -/
def stacked (p : Vec Ideal S1x1x128x128 .f32) (o : Vec Ideal S1x128x128 .f32) (j : Fin 256) (l : Fin 128) : EReal :=
  if hj : j.val < 128 then p (ix4 0 0 ⟨j.val, hj⟩ l) else o (ix3 0 ⟨j.val - 128, by omega⟩ l)

/-- The score of query row `r` of head `h` against column `j`. -/
def scoreOf (bias : FVec Ideal S512x256 .f32) (q : Vec Ideal S1x128x256 .f32) (kp : Vec Ideal S1x1x128x128 .f32)
    (ko : Vec Ideal S1x128x128 .f32) (h : Fin 4) (r : Fin 128) (j : Fin 256) : EReal :=
  (∑ d : Fin 64, q (ix3 0 r (col h d)) * scale * stacked kp ko j (lane (grp h) d)) + bias (ix2 (row h r) j)

/-- The head of a column of the result, and its place in the head. -/
def headOf (x : Fin 256) : Fin 4 := ⟨x.val / 64, by omega⟩
def placeOf (x : Fin 256) : Fin 64 := ⟨x.val % 64, by omega⟩

theorem headOf_col (h : Fin 4) (d : Fin 64) : headOf (col h d) = h := Fin.ext (by simp only [headOf, col]; omega)
theorem placeOf_col (h : Fin 4) (d : Fin 64) : placeOf (col h d) = d := Fin.ext (by simp only [placeOf, col]; omega)

theorem image_at (bias : FVec Ideal S512x256 .f32) (sink : FVec Ideal S512x1 .f32) (q : Vec Ideal S1x128x256 .f32)
    (kp : Vec Ideal S1x1x128x128 .f32) (ko : Vec Ideal S1x128x128 .f32) (vp : Vec Ideal S1x1x128x128 .f32)
    (vo : Vec Ideal S1x128x128 .f32) (gn : Vec Ideal S1x256 .f32) (r : Fin 128) (l : Fin 256) :
    image bias sink q kp ko vp vo gn (ix3 0 r l) =
      normed (fun x => attn (scoreOf bias q kp ko (headOf x) r) (fun j => stacked vp vo j (lane (grp (headOf x)) (placeOf x)))
        (sink (ix2 (row (headOf x) r) 0))) (fun x => gn (ix2 0 x)) l := by
  unfold image
  refine norm_at _ gn r (fun x => attn (scoreOf bias q kp ko (headOf x) r) (fun j => stacked vp vo j (lane (grp (headOf x)) (placeOf x)))
        (sink (ix2 (row (headOf x) r) 0))) (fun h d => ?_) l
  beta_reduce
  rw [headOf_col, placeOf_col, mixed_at]
  have hs : ∀ j, k0_pay78 bias (k0_pay56 k0_pay2 q) kp ko (ix2 (row h r) j) = scoreOf bias q kp ko h r j :=
    fun j => score_at bias q kp ko h r j
  have hm : k0_pay95 sink (k0_pay78 bias (k0_pay56 k0_pay2 q) kp ko) (ix2 (row h r) 0) =
      top (scoreOf bias q kp ko h r) (sink (ix2 (row h r) 0)) := by
    rw [max_at]; simp only [hs]; unfold top; rw [show ninf = ⊥ from ninf_eq]
  rw [denom_at]
  simp only [weight_at, hs, hm]
  rfl

end Cert.Attn

end
-- ==== Proof.AttnTable.lean ====
/- The table of distance buckets that the host carries. -/
module

public import proofs.«01_k».proof.Proof.AttnMath
public import proofs.«01_k».proof.Proof.Gen.KernelIdeal.Launch
public import Idealize.ShloMosaic.Lib.Pointwise

@[expose] public section

set_option maxRecDepth 16384
set_option maxHeartbeats 8000000

namespace Cert.Attn

open Idealize.ShloMosaic

/-- The host's table at `n` is the bucket of the distance of row `n / 256` and column `n % 256` inside the window, and `-1` outside. -/
def TableAt (n : ℕ) : Prop :=
  Cert.KernelIdeal.lit0t n = if inBand (n / 256) (n % 256) then BitVec.ofNat 32 (bucketNat (128 + n / 256 - n % 256)) else -1#32

noncomputable instance (n : ℕ) : Decidable (TableAt n) := by unfold TableAt; infer_instance

/-- The table's entries, in runs of two rows. -/
theorem table_run (b : Fin 64) : ∀ k : Fin 512, TableAt (b.val * 512 + k.val) := by
  fin_cases b <;> decide +kernel

/-- Every entry of the host's table. -/
theorem table (i : Fin 32768) : TableAt i.val := by
  have h := table_run ⟨i.val / 512, by omega⟩ ⟨i.val % 512, by omega⟩
  rwa [show (⟨i.val / 512, by omega⟩ : Fin 64).val * 512 + (⟨i.val % 512, by omega⟩ : Fin 512).val = i.val from by dsimp only; omega] at h

end Cert.Attn
-- ==== Proof.AttnBias.lean ====
/- The attention's bias as the host computes it. -/
module

public import proofs.«01_k».proof.Proof.AttnStages
public import proofs.«01_k».proof.Proof.AttnTable
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe

/-- One value of a table picked by a word, by a chain of selections that starts from `⊥`. -/
def pick (w : BitVec 32) (T : Fin 32 → EReal) : EReal :=
  (List.finRange 32).foldl (fun acc k => Scalar.select (IntOp.cmpi .eq w (BitVec.ofNat 32 k.val)) (T k) acc) ninf

theorem pick_list (w : BitVec 32) (T : Fin 32 → EReal) (l : List (Fin 32)) (z : EReal) (k : Fin 32) (hw : w = BitVec.ofNat 32 k.val) :
    l.foldl (fun acc k => Scalar.select (IntOp.cmpi .eq w (BitVec.ofNat 32 k.val)) (T k) acc) z = if k ∈ l then T k else z := by
  induction l generalizing z with
  | nil => simp
  | cons a l ih =>
    rw [List.foldl_cons, ih]
    by_cases hl : k ∈ l
    · simp [hl]
    · have hc : IntOp.cmpi .eq w (BitVec.ofNat 32 a.val) = 1#1 ↔ k = a := by
        subst hw; clear hl ih; revert k a; decide +kernel
      by_cases h : k = a
      · subst h; simp [hl, Scalar.select, hc.2 rfl]
      · have : ¬ IntOp.cmpi .eq w (BitVec.ofNat 32 a.val) = 1#1 := fun e => h (hc.1 e)
        simp [hl, h, Scalar.select, this]

theorem pick_none (T : Fin 32 → EReal) (l : List (Fin 32)) (z : EReal) :
    l.foldl (fun acc k => Scalar.select (IntOp.cmpi .eq (-1#32) (BitVec.ofNat 32 k.val)) (T k) acc) z = z := by
  induction l generalizing z with
  | nil => rfl
  | cons a l ih =>
    have hc : IntOp.cmpi .eq (-1#32) (BitVec.ofNat 32 a.val) = 0#1 := by revert a; decide +kernel
    rw [List.foldl_cons, ih, hc]; rfl

theorem pick_bucket (T : Fin 32 → EReal) (n : ℕ) : pick (BitVec.ofNat 32 (bucketNat n)) T = T (bucket n) := by
  exact (pick_list (BitVec.ofNat 32 (bucketNat n)) T _ _ (bucket n) rfl).trans (if_pos (List.mem_finRange _))

variable (m : (ℓ : Loc nD τ sig) → Buf (Elt Ideal) ℓ) (c : Dev nD)

/-- The learned bias table, as an argument of the kernel. -/
def relTable (k : Fin 32) (h : Fin 4) : EReal := m (c, Proc.tc.devRef main_arg1) (ix2 k h)

set_option maxHeartbeats 4000000 in
theorem bias_pick (h : Fin 4) (r : Fin 128) (j : Fin 256) :
    V m c main_v194 (ix2 (row h r) j) = pick (lit0 (S128x256.rowMajor (ix2 r j))) (fun k => relTable m c k h) := by
  unfold_abbrev_sides
  after_reads_simp
  simp -implicitDefEqProofs only [StableHlo.TRef.toBuf, StableHlo.TRef.ofBuf, cast_cast, cast_eq]
  clean_types
  pointwise
  have e1 : (h.val * 128 + r.val) / 128 = h.val := by omega
  have e2 : (h.val * 128 + r.val) % 128 = r.val := by omega
  simp only [e1, e2, Fin.eta]
  generalize lit0 (S128x256.rowMajor (ix2 r j)) = w
  rfl

/-- The bias operand of the call. -/
theorem bias_at (h : Fin 4) (r : Fin 128) (j : Fin 256) : V m c main_v194 (ix2 (row h r) j) = bias (relTable m c) h r j := by
  rw [bias_pick]
  have ht := table (S128x256.rowMajor (ix2 r j))
  have hv : (S128x256.rowMajor (ix2 r j)).val = r.val * 256 + j.val := by
    exact Shape.rowMajor_val_two _
  rw [hv] at ht
  have e1 : (r.val * 256 + j.val) / 256 = r.val := by omega
  have e2 : (r.val * 256 + j.val) % 256 = j.val := by omega
  unfold TableAt at ht
  rw [e1, e2] at ht
  have hl : lit0 (S128x256.rowMajor (ix2 r j)) = lit0t (r.val * 256 + j.val) := by rw [← hv]
  rw [hl, ht]
  unfold bias
  split_ifs with hb
  · exact pick_bucket _ _
  · exact (pick_none _ _ _).trans ninf_eq

end Cert.Attn

end
-- ==== Proof.AttnKernel.lean ====
/- The attention kernel's result array after the run, index by index. -/
module

public import proofs.«01_k».proof.Proof.AttnBlock
public import proofs.«01_k».proof.Proof.AttnImage
public import proofs.«01_k».proof.Proof.AttnBias

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ) (c : Dev nD)

/-- The kernel's arguments: the projected rows, the sinks, the norm's weights. -/
def zb (b : Fin 16) (s : Fin 2048) (l : Fin 512) : EReal := m (c, Proc.tc.devRef main_arg0) (ix3 b s l)
def sinks (h : Fin 4) : EReal := m (c, Proc.tc.devRef main_arg2) (ix1 h)
def norm (l : Fin 256) : EReal := m (c, Proc.tc.devRef main_arg3) (ix1 l)

theorem rows_at (b : Fin 16) (s : Fin 2048) (l : Fin 512) : V m c main_v195 (ix4 0 b s l) = zb m c b s l := by
  unfold_abbrev_sides
  after_reads_at
  rfl

theorem sinks_at (h : Fin 4) : V m c main_v196 (ix2 0 h) = sinks m c h := by
  unfold_abbrev_sides
  after_reads_at
  rfl

theorem norm_row_at (l : Fin 256) : V m c main_v197 (ix2 0 l) = norm m c l := by
  unfold_abbrev_sides
  after_reads_at
  rfl

/-- The block of a grid point. -/
def blockOf (t : Fin grid0.N) : Fin 16 := grid0.coords t 1

theorem idx (t : Fin grid0.N) : win0_0.index t = ![0, (blockOf t).val, 0] ∧ win0_1.index t = ![0, (blockOf t).val, 2] ∧
    win0_2.index t = ![0, (blockOf t).val, 3] ∧ win0_3.index t = ![0, 0, (blockOf t).val - 1, 2] ∧
    win0_4.index t = ![0, 0, (blockOf t).val - 1, 3] ∧ win0_5.index t = ![0, 0] ∧ win0_6.index t = ![0, 0] ∧
    win0_7.index t = ![0, 0] ∧ win0_8.index t = ![0, (blockOf t).val, 0] := by
  revert t; decide +kernel

/-- The query's row, the keys' and values' rows, of the projected rows. -/
def qLane (x : Fin 256) : Fin 512 := ⟨x.val, by omega⟩
def kLane (l : Fin 128) : Fin 512 := ⟨256 + l.val, by omega⟩
def vLane (l : Fin 128) : Fin 512 := ⟨384 + l.val, by omega⟩

theorem query_block (t : Fin grid0.N) (b : Fin 16) (r : Fin 128) (x : Fin 256) :
    iblk m c 0 t (ix3 b r x) = zb m c b (seqRow (blockOf t) r) (qLane x) := by
  obtain ⟨e0, -⟩ := idx t
  unfold zb seqRow qLane
  blk_ext [iblk, V, e0]

theorem key_block (t : Fin grid0.N) (b : Fin 16) (r : Fin 128) (l : Fin 128) :
    iblk m c 1 t (ix3 b r l) = zb m c b (seqRow (blockOf t) r) (kLane l) := by
  obtain ⟨-, e0, -⟩ := idx t
  unfold zb seqRow kLane
  blk_ext [iblk, V, e0]

theorem value_block (t : Fin grid0.N) (b : Fin 16) (r : Fin 128) (l : Fin 128) :
    iblk m c 2 t (ix3 b r l) = zb m c b (seqRow (blockOf t) r) (vLane l) := by
  obtain ⟨-, -, e0, -⟩ := idx t
  unfold zb seqRow vLane
  blk_ext [iblk, V, e0]

/-- Row `r` of the block before; the first block is its own. -/
def prevRow (n : Fin 16) (r : Fin 128) : Fin 2048 := ⟨(n.val - 1) * 128 + r.val, by omega⟩

theorem prev_key_block (t : Fin grid0.N) (b : Fin 16) (r : Fin 128) (l : Fin 128) :
    iblk m c 3 t (ix4 0 b r l) = zb m c b (prevRow (blockOf t) r) (kLane l) := by
  obtain ⟨-, -, -, e0, -⟩ := idx t
  rw [← rows_at]
  unfold prevRow kLane
  blk_ext [iblk, e0]

theorem prev_value_block (t : Fin grid0.N) (b : Fin 16) (r : Fin 128) (l : Fin 128) :
    iblk m c 4 t (ix4 0 b r l) = zb m c b (prevRow (blockOf t) r) (vLane l) := by
  obtain ⟨-, -, -, -, e0, -⟩ := idx t
  rw [← rows_at]
  unfold prevRow vLane
  blk_ext [iblk, e0]

theorem bias_block (t : Fin grid0.N) (R : Fin 512) (j : Fin 256) : iblk m c 5 t (ix2 R j) = V m c main_v194 (ix2 R j) := by
  obtain ⟨-, -, -, -, -, e0, -⟩ := idx t
  blk_ext [iblk, e0]

theorem sinks_block (t : Fin grid0.N) (h : Fin 4) : iblk m c 6 t (ix2 0 h) = sinks m c h := by
  obtain ⟨-, -, -, -, -, -, e0, -⟩ := idx t
  rw [← sinks_at]
  blk_ext [iblk, e0]

theorem norm_block (t : Fin grid0.N) (l : Fin 256) : iblk m c 7 t (ix2 0 l) = norm m c l := by
  obtain ⟨-, -, -, -, -, -, -, e0, -⟩ := idx t
  rw [← norm_row_at]
  blk_ext [iblk, e0]

/-- The score of row `r` of block `n` in head `h` against column `j` of the previous block and its own. -/
def score (b n : Fin 16) (h : Fin 4) (r : Fin 128) (j : Fin 256) : EReal :=
  (∑ d : Fin 64, zb m c b (seqRow n r) (qLane (col h d)) * scale * zb m c b (keyRow n j) (kLane (lane (grp h) d))) +
    blockBias (relTable m c) n h r j

/-- The attention's value at column `x` of row `r` of block `n`. -/
def mixed (b n : Fin 16) (r : Fin 128) (x : Fin 256) : EReal :=
  attn (score m c b n (headOf x) r) (fun j => zb m c b (keyRow n j) (vLane (lane (grp (headOf x)) (placeOf x)))) (sinks m c (headOf x))

theorem stacked_at (f : Fin 2048 → Fin 128 → EReal) (n : Fin 16) (p : Vec Ideal S1x1x128x128 .f32) (o : Vec Ideal S1x128x128 .f32)
    (hp : ∀ r l, p (ix4 0 0 r l) = f (prevRow n r) l) (ho : ∀ r l, o (ix3 0 r l) = f (seqRow n r) l) (j : Fin 256) (l : Fin 128) :
    stacked p o j l = f (keyRow n j) l := by
  unfold stacked
  split_ifs with hj
  · rw [hp]; exact congrArg (f · l) (Fin.ext (by simp only [prevRow, keyRow, if_pos hj]))
  · rw [ho]; exact congrArg (f · l) (Fin.ext (by simp only [seqRow, keyRow, if_neg hj]))

/-- What grid point `t` writes. -/
theorem block_at (t : Fin grid0.N) (b : Fin 16) (r : Fin 128) (l : Fin 256) :
    out0_8 (grid0.coords t) (iblk m c 0 t) (iblk m c 1 t) (iblk m c 2 t) (iblk m c 3 t) (iblk m c 4 t) (iblk m c 5 t) (iblk m c 6 t)
      (iblk m c 7 t) (ix3 b r l) = normed (mixed m c b (blockOf t) r) (norm m c) l := by
  rw [out_at, image_at]
  have hk : ∀ j l, stacked (prevSlab (iblk m c 3 t) b) (ownSlab (iblk m c 1 t) b) j l = zb m c b (keyRow (blockOf t) j) (kLane l) :=
    stacked_at (fun s l => zb m c b s (kLane l)) _ _ _ (fun r l => by rw [prevSlab_at, prev_key_block])
      (fun r l => by rw [ownSlab_at, key_block])
  have hv : ∀ j l, stacked (prevSlab (iblk m c 4 t) b) (ownSlab (iblk m c 2 t) b) j l = zb m c b (keyRow (blockOf t) j) (vLane l) :=
    stacked_at (fun s l => zb m c b s (vLane l)) _ _ _ (fun r l => by rw [prevSlab_at, prev_value_block])
      (fun r l => by rw [ownSlab_at, value_block])
  have hs : ∀ h j, scoreOf (biasAt (grid0.coords t) (iblk m c 5 t)) (qSlab (iblk m c 0 t) b) (prevSlab (iblk m c 3 t) b)
      (ownSlab (iblk m c 1 t) b) h r j = score m c b (blockOf t) h r j := by
    intro h j
    unfold scoreOf score
    refine congrArg₂ (· + ·) (Finset.sum_congr rfl fun d _ => by rw [hk, qSlab_at, query_block]) ?_
    rw [biasAt_at, bias_block, bias_at, show ninf = ⊥ from ninf_eq]
    rfl
  have hn : ∀ x, View.ld (iblk m c 7 t) r0_53 (ix2 0 x) = norm m c x := fun x => by
    rw [← norm_block m c t x]; pointwise
  have hf : (fun x => attn (scoreOf (biasAt (grid0.coords t) (iblk m c 5 t)) (qSlab (iblk m c 0 t) b) (prevSlab (iblk m c 3 t) b)
      (ownSlab (iblk m c 1 t) b) (headOf x) r) (fun j => stacked (prevSlab (iblk m c 4 t) b) (ownSlab (iblk m c 2 t) b) j
        (lane (grp (headOf x)) (placeOf x))) (sinkCol (iblk m c 6 t) (ix2 (row (headOf x) r) 0))) = mixed m c b (blockOf t) r := by
    funext x
    unfold mixed
    rw [sinkCol_at, sinks_block, show (scoreOf (biasAt (grid0.coords t) (iblk m c 5 t)) (qSlab (iblk m c 0 t) b)
      (prevSlab (iblk m c 3 t) b) (ownSlab (iblk m c 1 t) b) (headOf x) r) = _ from funext (hs (headOf x)),
      show (fun j => stacked (prevSlab (iblk m c 4 t) b) (ownSlab (iblk m c 2 t) b) j (lane (grp (headOf x)) (placeOf x))) = _
        from funext fun j => hv j _]
  rw [hf, show (fun x => View.ld (iblk m c 7 t) r0_53 (ix2 0 x)) = _ from funext hn]

/-- The result array: every row's attention, normed. -/
def result : Vec Ideal S16x2048x256 .bf16 := fun i =>
  normed (mixed m c (i 0) ⟨(i 1).val / 128, by have := (i 1).isLt; change (i 1).val < 2048 at this; omega⟩
    ⟨(i 1).val % 128, Nat.mod_lt _ (by decide)⟩) (norm m c) (i 2)

theorem result_at (b n : Fin 16) (r : Fin 128) (l : Fin 256) :
    result m c (ix3 b (seqRow n r) l) = normed (mixed m c b n r) (norm m c) l := by
  unfold result
  congr 1
  congr 1
  · refine Fin.ext ?_
    show (n.val * 128 + r.val) / 128 = n.val
    omega
  · refine Fin.ext ?_
    show (n.val * 128 + r.val) % 128 = r.val
    omega

theorem final : (dats m 0 c).arrAt 8 cfg0.N = result m c := by
  refine (dats m 0 c).arrAt_eq_of_covers 8 _ (by decide +kernel) fun t hf y => ?_
  obtain ⟨b, r, l, rfl⟩ : ∃ (b : Fin 16) (r : Fin 128) (l : Fin 256), y = ix3 b r l := ⟨y 0, y 1, y 2, eq_ix3 y⟩
  have e0 : win0_8.index t = ![0, (blockOf t).val, 0] := (idx t).2.2.2.2.2.2.2.2
  blk_simp
  rw [after0_8]
  refine (block_at m c t b r l).trans ?_
  have h0 : (((cfg0.win 8).blk t).view.emb (ix3 b r l) 0 : ℕ) = b.val := by blk_simp [e0]
  have h1 : (((cfg0.win 8).blk t).view.emb (ix3 b r l) 1 : ℕ) = (blockOf t).val * 128 + r.val := by blk_simp [e0]
  have h2 : (((cfg0.win 8).blk t).view.emb (ix3 b r l) 2 : ℕ) = l.val := by blk_simp [e0]
  unfold result
  congr 1
  · congr 1
    · exact Fin.ext h0.symm
    · refine Fin.ext ?_; simp only; rw [h1]; omega
    · refine Fin.ext ?_; simp only; rw [h1]; omega
  · exact Fin.ext h2.symm

end Cert.Attn

end
-- ==== Proof.AttnBucket.lean ====
/- The reference's formula for the bucket of a distance, evaluated. -/
module

public import proofs.«01_k».proof.Proof.AttnMath
public import Mathlib.Analysis.SpecialFunctions.Log.Basic

@[expose] public section

set_option maxRecDepth 16384

noncomputable section

namespace Cert.Attn

open Idealize.ShloMosaic

/-- The reference's bucket of a distance word. -/
def refBucket (w : BitVec 32) : BitVec 32 :=
  Scalar.select (IntOp.cmpi .slt w 16#32) w
    (IntOp.minsi
      (IntOp.addi 16#32
        (FloatOps.fptosi (F := Ideal) (φ := FTy.f32) 32
          (Ideal.div (Ideal.log (Ideal.div (FloatOps.sitofp (F := Ideal) FTy.f32 (IntOp.maxsi w 1#32)) (Ideal.ofBits FTy.f32 0x41800000#32)))
              (Ideal.ofBits FTy.f32 0x40051592#32) * Ideal.ofBits FTy.f32 0x41800000#32)))
      31#32)

theorem sixteen_eq : Ideal.ofBits FTy.f32 0x41800000#32 = ((16 : ℝ) : EReal) := by
  simp [Ideal.ofBits, Ideal.ieee]
  norm_num
  rw [← EReal.coe_mul]
  norm_num

/-- The constant the reference divides by, the 32-bit float nearest the logarithm of 8. -/
def logEight : ℝ := 8721810 / 4194304

theorem logEight_eq : Ideal.ofBits FTy.f32 0x40051592#32 = (logEight : EReal) := by
  unfold logEight
  simp [Ideal.ofBits, Ideal.ieee]
  norm_num
  rw [← EReal.coe_mul]
  norm_num

/-- Bounds of the logarithm of 2, from roots of 2. -/
theorem log_two_lt : Real.log 2 < 0.6935 := by
  have h : (2 : ℝ) ≤ 1.0001693 ^ 4096 := by rw [show 4096 = 64 * 64 from rfl, pow_mul]; norm_num
  have h1 := Real.log_le_log (by norm_num) h
  rw [Real.log_pow] at h1
  have h2 := Real.log_le_sub_one_of_pos (show (0 : ℝ) < 1.0001693 by norm_num)
  push_cast at h1
  linarith

theorem log_two_gt : 0.6928 < Real.log 2 := by
  have h : (1.0001692 : ℝ) ^ 4096 ≤ 2 := by rw [show 4096 = 64 * 64 from rfl, pow_mul]; norm_num
  have h1 := Real.log_le_log (by norm_num) h
  rw [Real.log_pow] at h1
  have h2 := Real.one_sub_inv_le_log_of_pos (show (0 : ℝ) < 1.0001692 by norm_num)
  have h3 : (0.00016917 : ℝ) ≤ 1 - (1.0001692)⁻¹ := by norm_num
  push_cast at h1
  linarith

/-- The step above bucket 16. -/
def stepNat (d : ℕ) : ℕ := min ((Nat.log2 (d ^ 16) - 64) / 3) 15

theorem step_facts : ∀ d : Fin 129, 16 ≤ d.val → (stepNat d.val = 0 ∨ 2 ^ (3 * stepNat d.val + 64) * 51 ≤ d.val ^ 16 * 50)
    ∧ (d.val ^ 16 * 51 ≤ 2 ^ (3 * (stepNat d.val + 1) + 64) * 50 ∨ stepNat d.val = 15 ∧ d.val ^ 16 * 51 ≤ 2 ^ (3 * 17 + 64) * 50) := by
  decide +kernel

theorem scaled_log (d : ℕ) (h16 : 16 ≤ d) : Real.log (d / 16) / logEight * 16 = (16 * Real.log d - 64 * Real.log 2) / logEight := by
  have hd : (16 : ℝ) ≤ d := by exact_mod_cast h16
  rw [Real.log_div (by positivity) (by norm_num), show (16 : ℝ) = 2 ^ 4 by norm_num, Real.log_pow]
  push_cast; ring

theorem scaled_log_lt (d k : ℕ) (h16 : 16 ≤ d) (hk : k ≤ 17) (h : d ^ 16 * 51 ≤ 2 ^ (3 * k + 64) * 50) :
    (16 * Real.log d - 64 * Real.log 2) / logEight < k := by
  have hd : (16 : ℝ) ≤ d := by exact_mod_cast h16
  have l1 := log_two_gt
  have l2 := log_two_lt
  have hL : 0 < logEight := by unfold logEight; norm_num
  have hk' : (k : ℝ) ≤ 17 := by exact_mod_cast hk
  rw [div_lt_iff₀ hL]
  have h' : (d : ℝ) ^ 16 * 1.02 ≤ 2 ^ (3 * k + 64) := by
    have : ((d ^ 16 * 51 : ℕ) : ℝ) ≤ ((2 ^ (3 * k + 64) * 50 : ℕ) : ℝ) := by exact_mod_cast h
    push_cast at this; linarith
  have h2 := Real.log_le_log (by positivity) h'
  rw [Real.log_mul (by positivity) (by norm_num), Real.log_pow, Real.log_pow] at h2
  have h3 := Real.one_sub_inv_le_log_of_pos (show (0 : ℝ) < 1.02 by norm_num)
  have h4 : (0.0196 : ℝ) ≤ 1 - (1.02)⁻¹ := by norm_num
  push_cast at h2
  have h5 : (k : ℝ) * (3 * Real.log 2) ≤ k * (logEight + 0.0011) :=
    mul_le_mul_of_nonneg_left (by unfold logEight; linarith) (Nat.cast_nonneg _)
  linarith

theorem le_scaled_log (d k : ℕ) (h16 : 16 ≤ d) (hk : k ≤ 15) (h : k = 0 ∨ 2 ^ (3 * k + 64) * 51 ≤ d ^ 16 * 50) :
    (k : ℝ) ≤ (16 * Real.log d - 64 * Real.log 2) / logEight := by
  have hd : (16 : ℝ) ≤ d := by exact_mod_cast h16
  have l1 := log_two_gt
  have l2 := log_two_lt
  have hL : 0 < logEight := by unfold logEight; norm_num
  have hk' : (k : ℝ) ≤ 15 := by exact_mod_cast hk
  rw [le_div_iff₀ hL]
  rcases h with h0 | h
  · rw [h0]
    have : Real.log (2 ^ 4 : ℝ) ≤ Real.log d := Real.log_le_log (by norm_num) (by linarith)
    rw [Real.log_pow] at this
    push_cast at this ⊢; linarith
  · have h' : (2 : ℝ) ^ (3 * k + 64) * 1.02 ≤ (d : ℝ) ^ 16 := by
      have : ((2 ^ (3 * k + 64) * 51 : ℕ) : ℝ) ≤ ((d ^ 16 * 50 : ℕ) : ℝ) := by exact_mod_cast h
      push_cast at this; linarith
    have h2 := Real.log_le_log (by positivity) h'
    rw [Real.log_mul (by positivity) (by norm_num), Real.log_pow, Real.log_pow] at h2
    have h3 := Real.one_sub_inv_le_log_of_pos (show (0 : ℝ) < 1.02 by norm_num)
    have h4 : (0.0196 : ℝ) ≤ 1 - (1.02)⁻¹ := by norm_num
    push_cast at h2
    have h5 : (k : ℝ) * logEight ≤ k * (3 * Real.log 2 + 0.0011) :=
      mul_le_mul_of_nonneg_left (by unfold logEight; linarith) (Nat.cast_nonneg _)
    linarith

/-- The scaled logarithm of a distance lies in its step; at the last step it may reach the next, which the formula cuts off. -/
theorem floor_log (d : ℕ) (h16 : 16 ≤ d) (h128 : d ≤ 128) :
    ∃ k : ℕ, ⌊Real.log (d / 16) / logEight * 16⌋ = (k : ℤ) ∧ (k = stepNat d ∨ stepNat d = 15 ∧ k = 16) := by
  obtain ⟨hlo, hhi⟩ := step_facts ⟨d, by omega⟩ h16
  simp only at hlo hhi
  have h1 := le_scaled_log d (stepNat d) h16 (min_le_right _ _) hlo
  rw [scaled_log d h16]
  rcases hhi with h | ⟨h15, h⟩
  · have h2 := scaled_log_lt d (stepNat d + 1) h16 (by have : stepNat d ≤ 15 := min_le_right _ _; omega) h
    push_cast at h2
    exact ⟨stepNat d, Int.floor_eq_iff.2 ⟨by exact_mod_cast h1, by exact_mod_cast h2⟩, Or.inl rfl⟩
  · have h2 := scaled_log_lt d 17 h16 le_rfl h
    by_cases h3 : (16 : ℝ) ≤ (16 * Real.log d - 64 * Real.log 2) / logEight
    · exact ⟨16, Int.floor_eq_iff.2 ⟨by exact_mod_cast h3, by push_cast at h2 ⊢; linarith⟩, Or.inr ⟨h15, rfl⟩⟩
    · refine ⟨stepNat d, Int.floor_eq_iff.2 ⟨by exact_mod_cast h1, ?_⟩, Or.inl rfl⟩
      rw [h15]; push_cast; linarith [not_le.1 h3]

theorem refBucket_eq (d : ℕ) (hd : d ≤ 128) : refBucket (BitVec.ofNat 32 d) = BitVec.ofNat 32 (bucketNat d) := by
  unfold refBucket
  by_cases h : d < 16
  · have hc : ∀ d : Fin 16, IntOp.cmpi .slt (BitVec.ofNat 32 d.val) 16#32 = 1#1 ∧ bucketNat d.val = d.val := by decide +kernel
    obtain ⟨h1, h2⟩ := hc ⟨d, h⟩
    simp only at h1 h2
    rw [h1, h2]; rfl
  · have hc : ∀ d : Fin 129, 16 ≤ d.val → IntOp.cmpi .slt (BitVec.ofNat 32 d.val) 16#32 = 0#1 ∧ (IntOp.maxsi (BitVec.ofNat 32 d.val) 1#32).toInt = d.val
        ∧ (∀ k : Fin 17, k.val = stepNat d.val ∨ stepNat d.val = 15 ∧ k.val = 16 →
          IntOp.minsi (IntOp.addi 16#32 (BitVec.ofInt 32 k.val)) 31#32 = BitVec.ofNat 32 (bucketNat d.val)) := by decide +kernel
    obtain ⟨h1, h2, h3⟩ := hc ⟨d, by omega⟩ (by simpa using h)
    simp only at h1 h2 h3
    have hpos : (0 : ℝ) < d / 16 := by
      have : (0 : ℝ) < d := by exact_mod_cast (by omega : 0 < d)
      positivity
    have hL : 0 < logEight := by unfold logEight; norm_num
    have hs : FloatOps.sitofp (F := Ideal) FTy.f32 (IntOp.maxsi (BitVec.ofNat 32 d) 1#32) = ((d : ℝ) : EReal) := by
      change (((IntOp.maxsi (BitVec.ofNat 32 d) 1#32).toInt : ℝ) : EReal) = _
      rw [h2]; norm_cast
    have hlog : Ideal.log ((d / 16 : ℝ) : EReal) = (Real.log (d / 16) : ℝ) := by
      change (if (d / 16 : ℝ) ≤ 0 then _ else _) = _
      rw [if_neg (not_le.2 hpos)]
    rw [h1, hs, sixteen_eq, logEight_eq, div_coe_pos _ (by norm_num : (0 : ℝ) < 16), ← EReal.coe_mul, ← div_eq_mul_inv, hlog,
      div_coe_pos _ hL, ← EReal.coe_mul, ← EReal.coe_mul, ← div_eq_mul_inv]
    obtain ⟨k, hf, hk⟩ := floor_log d (by omega) hd
    have hs15 : stepNat d ≤ 15 := min_le_right _ _
    have h0 : 0 ≤ Real.log (d / 16) / logEight * 16 := Int.floor_nonneg.1 (by rw [hf]; exact Int.natCast_nonneg k)
    rw [← h3 ⟨k, by omega⟩ hk]
    have hfp : FloatOps.fptosi (F := Ideal) (φ := FTy.f32) 32 ((Real.log (d / 16) / logEight * 16 : ℝ) : EReal) = BitVec.ofInt 32 k := by
      change BitVec.ofInt 32 (max (-(2 ^ 31 : ℕ) : ℤ) (min ((2 ^ 31 : ℕ) - 1 : ℤ) (if 0 ≤ Real.log (d / 16) / logEight * 16 then ⌊Real.log (d / 16) / logEight * 16⌋ else ⌈Real.log (d / 16) / logEight * 16⌉))) = _
      rw [if_pos h0, hf, min_eq_right (by norm_num; omega), max_eq_right (by norm_num)]
    rw [hfp]; rfl

end Cert.Attn

end
-- ==== Proof.AttnRef.lean ====
/- The reference attention, read at an index. -/
module

public import proofs.«01_k».proof.Proof.AttnBucket
public import proofs.«01_k».proof.Proof.Gen.ReferenceIdeal.Run
public import Idealize.ShloMosaic.Lib.Pointwise
public import Idealize.ShloMosaic.Lib.Tactic.CleanTypes

@[expose] public section

set_option maxRecDepth 16384
set_option maxHeartbeats 2000000

noncomputable section

namespace Cert.Attn.Ref

open Cert.ReferenceIdeal Cert.ReferenceIdeal.Value Idealize.ShloMosaic Idealize.ShloMosaic.TcCoe

variable (V0 : Valuation τ sig (Elt Ideal))

/-- The gather of the learned table's rows by an array of bucket words, at a word that is a bucket. -/
theorem gather_at (x : S32x4.Idx → EReal) (idx : IVec S128x256x1 32) (r : Fin 128) (j : Fin 256) (h : Fin 4) (k : Fin 32)
    (hk : idx (ix3 r j 0) = BitVec.ofNat 32 k.val) :
    Host.gather gather_S32x4_S128x256x1_S128x256x4_2_0_n_n_0_2_14 x idx (ix3 r j h) = x (ix2 k h) := by
  unfold Host.gather
  refine congrArg x (funext fun a => Fin.ext ?_)
  show GatherDims.start _ (ix3 r j h) idx a + GatherDims.batchCoord _ (ix3 r j h) a + GatherDims.offCoord _ (ix3 r j h) a = _
  rw [GatherDims.batchCoord_eq_zero _ _ _ (fun h => by cases h)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x4.rank) ∈ GatherDims.startIndexMap gather_S32x4_S128x256x1_S128x256x4_2_0_n_n_0_2_14 from List.mem_singleton.mpr rfl)]
    have hsi : GatherDims.siIdx gather_S32x4_S128x256x1_S128x256x4_2_0_n_n_0_2_14 (ix3 r j h)
        ⟨List.idxOf (0 : Fin 2) [0], List.idxOf_lt_length_iff.2 (List.mem_singleton.mpr rfl)⟩ = ix3 r j 0 := by
      funext b; refine Fin.ext ?_
      match b with
      | ⟨0, _⟩ => rfl
      | ⟨1, _⟩ => rfl
      | ⟨2, _⟩ => rfl
    have hv : ∀ k : Fin 32, min (BitVec.ofNat 32 k.val).toInt.toNat (32 - 1) = k.val := by decide +kernel
    refine Eq.trans ?_ (hv k)
    rw [← hk, ← hsi]
    rfl
  | ⟨1, _⟩ =>
    have h0 : (⟨1, by decide⟩ : Fin S32x4.rank) ∉ GatherDims.startIndexMap gather_S32x4_S128x256x1_S128x256x4_2_0_n_n_0_2_14 :=
      fun h => absurd (congrArg Fin.val (List.mem_singleton.mp h)) (by decide)
    have h1 : (⟨1, by decide⟩ : Fin S32x4.rank) ∈ GatherDims.sKept gather_S32x4_S128x256x1_S128x256x4_2_0_n_n_0_2_14 :=
      (GatherDims.mem_sKept _ _).2 ⟨fun h => absurd (congrArg Fin.val (List.mem_singleton.mp h)) (by decide), fun h => by cases h⟩
    unfold GatherDims.start GatherDims.offCoord
    rw [dif_neg h0, dif_pos h1]
    simp only [Nat.zero_add]
    rfl

/-- The words of a distance inside the window. -/
theorem dist_word (r : Fin 128) (j : Fin 256) (hb : inBand r.val j.val) :
    IntOp.subi (IntOp.addi 128#32 (BitVec.ofNat 32 r.val)) (BitVec.ofNat 32 j.val) = BitVec.ofNat 32 (128 + r.val - j.val) := by
  unfold inBand at hb
  apply BitVec.eq_of_toNat_eq
  simp only [IntOp.subi, IntOp.addi, BitVec.toNat_sub, BitVec.toNat_add, BitVec.toNat_ofNat]
  omega

theorem bucket_at (r : Fin 128) (j : Fin 256) (hb : inBand r.val j.val) :
    res_main_v63 V0 (ix2 r j) = BitVec.ofNat 32 (bucketNat (128 + r.val - j.val)) := by
  rw [← refBucket_eq _ (by unfold inBand at hb; omega)]
  unfold res_main_v63 res_main_v45 res_main_v23 res_main_v18
  clean_types
  pointwise
  have hm : ∀ d : Fin 129, IntOp.maxsi (BitVec.ofNat 32 d.val) 0#32 = BitVec.ofNat 32 d.val := by decide +kernel
  rw [dist_word r j hb, hm ⟨128 + r.val - j.val, by unfold inBand at hb; omega⟩]
  rfl

/-- The window test of the reference: in the band, and not in the block before the first. -/
theorem valid_iff (n : Fin 16) (r : Fin 128) (j : Fin 256) :
    IntOp.andi (IntOp.andi (IntOp.cmpi CmpIPredicate.sge (res_main_v23 V0 (ix2 r j)) 0#32)
        (IntOp.cmpi CmpIPredicate.sle (res_main_v23 V0 (ix2 r j)) 128#32))
      (IntOp.ori (IntOp.cmpi CmpIPredicate.sgt (BitVec.ofNat 32 n.val) 0#32)
        (IntOp.cmpi CmpIPredicate.sge (res_main_v18 V0 (ix2 0 j)) 128#32)) =
      if inBand r.val j.val ∧ ¬ (n.val = 0 ∧ j.val < 128) then 1#1 else 0#1 := by
  have hrow : res_main_v23 V0 (ix2 r j) = IntOp.subi (IntOp.addi 128#32 (BitVec.ofNat 32 r.val)) (BitVec.ofNat 32 j.val) := by
    unfold res_main_v23 res_main_v18
    clean_types
    pointwise
  have hcol : res_main_v18 V0 (ix2 0 j) = BitVec.ofNat 32 j.val := by
    unfold res_main_v18
    clean_types
    pointwise
  have hc : ∀ j : Fin 256, IntOp.cmpi CmpIPredicate.sge (BitVec.ofNat 32 j.val) 128#32 = if j.val < 128 then 0#1 else 1#1 := by decide +kernel
  have hn : ∀ n : Fin 16, IntOp.cmpi CmpIPredicate.sgt (BitVec.ofNat 32 n.val) 0#32 = if n.val = 0 then 0#1 else 1#1 := by decide +kernel
  have hd : IntOp.andi (IntOp.cmpi CmpIPredicate.sge (res_main_v23 V0 (ix2 r j)) 0#32)
      (IntOp.cmpi CmpIPredicate.sle (res_main_v23 V0 (ix2 r j)) 128#32) = if inBand r.val j.val then 1#1 else 0#1 := by
    rw [hrow]
    by_cases hb : inBand r.val j.val
    · rw [if_pos hb, dist_word r j hb]
      have hk : ∀ d : Fin 129, IntOp.andi (IntOp.cmpi CmpIPredicate.sge (BitVec.ofNat 32 d.val) 0#32)
        (IntOp.cmpi CmpIPredicate.sle (BitVec.ofNat 32 d.val) 128#32) = 1#1 := by decide +kernel
      exact hk ⟨128 + r.val - j.val, by unfold inBand at hb; omega⟩
    · rw [if_neg hb]
      unfold inBand at hb
      by_cases h1 : j.val ≤ 128 + r.val
      · have hw : IntOp.subi (IntOp.addi 128#32 (BitVec.ofNat 32 r.val)) (BitVec.ofNat 32 j.val) = BitVec.ofNat 32 (129 + (r.val - j.val - 1)) := by
          apply BitVec.eq_of_toNat_eq
          simp only [IntOp.subi, IntOp.addi, BitVec.toNat_sub, BitVec.toNat_add, BitVec.toNat_ofNat]
          omega
        have hk : ∀ d : Fin 128, IntOp.andi (IntOp.cmpi CmpIPredicate.sge (BitVec.ofNat 32 (129 + d.val)) 0#32)
          (IntOp.cmpi CmpIPredicate.sle (BitVec.ofNat 32 (129 + d.val)) 128#32) = 0#1 := by decide +kernel
        rw [hw]
        exact hk ⟨r.val - j.val - 1, by omega⟩
      · have hw : IntOp.subi (IntOp.addi 128#32 (BitVec.ofNat 32 r.val)) (BitVec.ofNat 32 j.val) = BitVec.ofNat 32 (2 ^ 32 - 1 - (j.val - 129 - r.val)) := by
          apply BitVec.eq_of_toNat_eq
          simp only [IntOp.subi, IntOp.addi, BitVec.toNat_sub, BitVec.toNat_add, BitVec.toNat_ofNat]
          omega
        have hk : ∀ d : Fin 128, IntOp.andi (IntOp.cmpi CmpIPredicate.sge (BitVec.ofNat 32 (2 ^ 32 - 1 - d.val)) 0#32)
          (IntOp.cmpi CmpIPredicate.sle (BitVec.ofNat 32 (2 ^ 32 - 1 - d.val)) 128#32) = 0#1 := by decide +kernel
        rw [hw]
        exact hk ⟨j.val - 129 - r.val, by omega⟩
  rw [hd, hcol, hc, hn]
  by_cases h1 : inBand r.val j.val <;> by_cases h2 : n.val = 0 <;> by_cases h3 : j.val < 128 <;> simp [h1, h2, h3, IntOp.andi, IntOp.ori]

/-- Keys or values, as the reference lays them beside a block: zeros before the first block. -/
def padded (A : S16x2048x512.Idx → EReal) (b n : Fin 16) (j : Fin 256) (l : Fin 512) : EReal :=
  if n.val = 0 ∧ j.val < 128 then 0 else A (ix3 b (keyRow n j) l)

theorem padded_none (A : S16x2048x512.Idx → EReal) (b n : Fin 16) (j : Fin 256) (l : Fin 512) (hj : j.val < 128) (hn : n.val = 0) :
    padded A b n j l = 0 := if_pos ⟨hn, hj⟩

theorem padded_lo (A : S16x2048x512.Idx → EReal) (b n : Fin 16) (j : Fin 256) (l : Fin 512) (hj : j.val < 128) (hn : ¬ n.val = 0) :
    padded A b n j l = A (ix3 b (seqRow ⟨n.val - 1, by omega⟩ ⟨j.val, hj⟩) l) := by
  have : keyRow n j = seqRow ⟨n.val - 1, by omega⟩ ⟨j.val, hj⟩ := Fin.ext (if_pos hj)
  rw [padded, if_neg (by omega), this]

theorem padded_hi (A : S16x2048x512.Idx → EReal) (b n : Fin 16) (j : Fin 256) (l : Fin 512) (hj : ¬ j.val < 128) :
    padded A b n j l = A (ix3 b (seqRow n ⟨j.val - 128, by omega⟩) l) := by
  have : keyRow n j = seqRow n ⟨j.val - 128, by omega⟩ := Fin.ext (if_neg hj)
  rw [padded, if_neg (by omega), this]

def keyLane (g : Fin 2) (d : Fin 64) : Fin 512 := ⟨256 + (g.val * 64 + d.val), by omega⟩
def valueLane (g : Fin 2) (d : Fin 64) : Fin 512 := ⟨384 + (g.val * 64 + d.val), by omega⟩
def queryLane (g u : Fin 2) (d : Fin 64) : Fin 512 := ⟨g.val * 128 + u.val * 64 + d.val, by omega⟩
def head (g u : Fin 2) : Fin 4 := ⟨g.val * 2 + u.val, by omega⟩

/-- The kernel's arguments, as arrays of extended reals. -/
def zb : S16x2048x512.Idx → EReal := V0 (Proc.tc.devRef main_arg0)
def relTable (k : Fin 32) (h : Fin 4) : EReal := V0 (Proc.tc.devRef main_arg1) (ix2 k h)
def sinks (h : Fin 4) : EReal := V0 (Proc.tc.devRef main_arg2) (ix1 h)
def norm (l : Fin 256) : EReal := V0 (Proc.tc.devRef main_arg3) (ix1 l)

theorem key_at (b n : Fin 16) (t : Fin 128) (g : Fin 2) (d : Fin 64) :
    res_main_v7 V0 (ix5 b n t g d) = zb V0 (ix3 b (seqRow n t) (keyLane g d)) := by
  unfold res_main_v7 zb seqRow keyLane
  clean_types
  pointwise

theorem value_at (b n : Fin 16) (t : Fin 128) (g : Fin 2) (d : Fin 64) :
    res_main_v8 V0 (ix5 b n t g d) = zb V0 (ix3 b (seqRow n t) (valueLane g d)) := by
  unfold res_main_v8 zb seqRow valueLane
  clean_types
  pointwise

theorem pad_zero : FloatOps.sitofp (F := Ideal) FTy.f32 0#32 = (0 : EReal) := by
  change (((0#32 : BitVec 32).toInt : ℝ) : EReal) = 0
  simp

/-- A bucket word is not negative, so it indexes as it is. -/
theorem wrap_word : ∀ k : Fin 32, Scalar.select (IntOp.cmpi CmpIPredicate.slt (BitVec.ofNat 32 k.val) 0#32)
    (IntOp.addi (BitVec.ofNat 32 k.val) 32#32) (BitVec.ofNat 32 k.val) = BitVec.ofNat 32 k.val := by decide +kernel

/-- A score of the reference. -/
theorem score_at (b n : Fin 16) (g u : Fin 2) (r : Fin 128) (j : Fin 256) :
    res_main_v82 V0 (ix6 b n g u r j) =
      (∑ d : Fin 64, padded (zb V0) b n j (keyLane g d) * zb V0 (ix3 b (seqRow n r) (queryLane g u d))) * Ideal.ofBits FTy.f32 0x3E000000#32
        + blockBias (relTable V0) n (head g u) r j := by
  unfold res_main_v82
  clean_types
  pointwise
  rw [valid_iff]
  refine congrArg₂ (· + ·) (congrArg (· * _) (Finset.sum_congr rfl fun d _ => congrArg (· * _) ?_)) ?_
  · by_cases hj : j.val < 128
    · rw [dif_pos hj]
      by_cases hn : n.val = 0
      · rw [dif_neg (by omega), padded_none _ _ _ _ _ hj hn, pad_zero]
      · rw [dif_pos (by omega), padded_lo _ _ _ _ _ hj hn]
        exact key_at V0 ..
    · rw [dif_neg hj, padded_hi _ _ _ _ _ hj]
      exact key_at V0 ..
  · unfold blockBias bias
    by_cases hn : n.val = 0 ∧ j.val < 128
    · rw [if_neg (by tauto), if_pos hn]
      exact ninf_eq
    · rw [if_neg hn]
      by_cases hb : inBand r.val j.val
      · rw [if_pos ⟨hb, hn⟩, if_pos hb]
        refine gather_at _ _ r j (head g u) (bucket (128 + r.val - j.val)) ?_
        pointwise
        rw [bucket_at V0 r j hb]
        exact wrap_word (bucket _)
      · rw [if_neg (by tauto), if_neg hb]
        exact ninf_eq

/-- The scores of one row of one head. -/
def scores (b n : Fin 16) (g u : Fin 2) (r : Fin 128) (j : Fin 256) : EReal := res_main_v82 V0 (ix6 b n g u r j)

/-- The indices that drop to one row of one head are that row's columns. -/
theorem drop_iff (b n : Fin 16) (g u : Fin 2) (r : Fin 128) (i : S16x16x2x2x128x256.Idx) :
    Gen.reducesTo_S16x16x2x2x128x256_S16x16x2x2x128_d5.drop i = ix5 b n g u r ↔ ∃ j : Fin 256, ix6 b n g u r j = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a; apply Fin.ext
    match a with
    | ⟨0, _⟩ => rfl
    | ⟨1, _⟩ => rfl
    | ⟨2, _⟩ => rfl
    | ⟨3, _⟩ => rfl
    | ⟨4, _⟩ => rfl

theorem reduceMax_at (x : FVec Ideal S16x16x2x2x128x256 .f32) (b n : Fin 16) (g u : Fin 2) (r : Fin 128) :
    Host.reduce FloatOps.maximumf x (constant S_ .f32 0xFF800000#32) Gen.reducesTo_S16x16x2x2x128x256_S16x16x2x2x128_d5 Gen.h_S_ (ix5 b n g u r)
      = Finset.fold max ⊥ (fun j => x (ix6 b n g u r j)) Finset.univ := by
  rw [Host.reduce_eq_fold, Finset.fold_filter_eq_fold_of_fiber _ _ (fun j : Fin 256 => ix6 b n g u r j) (fun _ _ e => congrFun e 5) (drop_iff b n g u r)]
  exact congrArg (fun z => Finset.fold max z (fun j => x (ix6 b n g u r j)) Finset.univ) ninf_eq

theorem reduceAdd_at (x : FVec Ideal S16x16x2x2x128x256 .f32) (b n : Fin 16) (g u : Fin 2) (r : Fin 128) :
    Ideal.hostReduceAdd Gen.reducesTo_S16x16x2x2x128x256_S16x16x2x2x128_d5 x 0 (ix5 b n g u r) = ∑ j : Fin 256, x (ix6 b n g u r j) := by
  unfold Ideal.hostReduceAdd
  rw [zero_add, Finset.sum_filter_eq_sum_of_fiber _ (fun j : Fin 256 => ix6 b n g u r j) (fun _ _ e => congrFun e 5) (drop_iff b n g u r)]

theorem maximum_at (y : FVec Ideal S16x16x2x2x128 .f32) (k : FVec Ideal S2x2x1x1 .f32) (b n : Fin 16) (g u : Fin 2) (r : Fin 128) :
    maximumf (broadcastInDim S16x16x2x2x128x1 ![0, 1, 2, 3, 4] Gen.bcast_S16x16x2x2x128_S16x16x2x2x128x1_0_1_2_3_4 y)
        (broadcastInDim S16x16x2x2x128x1 ![0, 1, 2, 3, 4, 5] Gen.bcast_S1x1x2x2x1x1_S16x16x2x2x128x1_0_1_2_3_4_5 (broadcastInDim S1x1x2x2x1x1 ![2, 3, 4, 5] Gen.bcast_S2x2x1x1_S1x1x2x2x1x1_2_3_4_5 k)) (ix6 b n g u r 0)
      = max (y (ix5 b n g u r)) (k (ix4 g u 0 0)) := by
  pointwise

theorem max_at (b n : Fin 16) (g u : Fin 2) (r : Fin 128) :
    res_main_v88 V0 (ix6 b n g u r 0) = top (scores V0 b n g u r) (sinks V0 (head g u)) := by
  have hk : res_main_v83 V0 (ix4 g u 0 0) = sinks V0 (head g u) := by
    unfold res_main_v83 sinks head
    clean_types
    pointwise
  have h := maximum_at (Host.reduce FloatOps.maximumf (res_main_v82 V0 : FVec Ideal S16x16x2x2x128x256 .f32) (constant S_ .f32 0xFF800000#32) Gen.reducesTo_S16x16x2x2x128x256_S16x16x2x2x128_d5 Gen.h_S_)
    (res_main_v83 V0) b n g u r
  rw [hk, reduceMax_at] at h
  exact h

theorem weight_at (b n : Fin 16) (g u : Fin 2) (r : Fin 128) (j : Fin 256) :
    res_main_v91 V0 (ix6 b n g u r j) = Ideal.exp (scores V0 b n g u r j - top (scores V0 b n g u r) (sinks V0 (head g u))) := by
  rw [← max_at]
  unfold res_main_v91 scores
  clean_types
  pointwise

theorem sum_two (f : Fin 256 → EReal) : ∑ j, f j = ∑ x : Fin 128, f ⟨x.val, by omega⟩ + ∑ x : Fin 128, f ⟨128 + x.val, by omega⟩ :=
  Fin.sum_univ_two_halves 128 128 rfl f

/-- The attention's output before its normalisation. -/
theorem out_at (b n : Fin 16) (g u : Fin 2) (r : Fin 128) (d : Fin 64) :
    res_main_v104 V0 (ix3 b (seqRow n r) ⟨g.val * 128 + u.val * 64 + d.val, by omega⟩) =
      attnRef (scores V0 b n g u r) (fun j => padded (zb V0) b n j (valueLane g d)) (sinks V0 (head g u)) := by
  have hw := fun j => weight_at V0 b n g u r j
  unfold attnRef mass
  simp only [← hw]
  rw [← max_at, ← reduceAdd_at]
  unfold res_main_v104 res_main_v83 seqRow sinks head
  generalize res_main_v91 V0 = e
  generalize res_main_v88 V0 = m
  clean_types
  pointwise
  rw [sum_two]
  refine congrArg₂ (· + ·) (Finset.sum_congr rfl fun t _ => congrArg (· * _) ?_) (Finset.sum_congr rfl fun t _ => congrArg (· * _) ?_)
  · by_cases hn : n.val = 0
    · rw [dif_neg (by omega), padded_none _ _ _ _ _ t.isLt hn, pad_zero]
    · rw [dif_pos (by omega), padded_lo _ _ _ _ _ t.isLt hn]
      exact value_at V0 ..
  · rw [padded_hi _ _ _ _ _ (by simp), value_at]
    congr 2
    simp

end Cert.Attn.Ref
end
-- ==== Proof.AttnPre.lean ====
/- The precondition, read at an index: queries, keys, the learned biases and the sinks are real numbers. -/
module

public import proofs.«01_k».proof.Pre_finite_scores
public import proofs.«01_k».proof.Proof.AttnMath
public import Idealize.ShloMosaic.Lib.ReduceAll
public import Idealize.ShloMosaic.Lib.Pointwise

@[expose] public section

noncomputable section

namespace Cert.Pre_finite_scores.Gen

open Idealize.ShloMosaic

theorem facts : Cert.Pre_finite_scores.Facts where
  slices_S16x2048x512_S16x2048x384_0_0_0 := by decide
  bcast_S_S16x2048x384 := by decide
  reducesTo_S16x2048x384_S_d0_1_2 := by decide
  h_S_ := by decide
  bcast_S_S32x4 := by decide
  reducesTo_S32x4_S_d0_1 := by decide
  bcast_S_S4 := by decide
  reducesTo_S4_S_d0 := by decide

end Cert.Pre_finite_scores.Gen

namespace Cert.Attn

open Cert.Pre_finite_scores Idealize.ShloMosaic

theorem inf_eq : Ideal.ofBits .f32 0x7F800000#32 = ⊤ := by
  simp [Ideal.ofBits, Ideal.ieee]

theorem real_of_lt (x : EReal) (h : Ideal.cmp .olt (max x (-x)) ⊤ = 1#1) : ∃ r : ℝ, x = r := by
  induction x with
  | coe r => exact ⟨r, rfl⟩
  | bot => exfalso; revert h; simp [Ideal.cmp]
  | top => exfalso; revert h; simp [Ideal.cmp]

theorem and_split (a b : BitVec 1) (h : IntOp.andi a b = 1#1) : a = 1#1 ∧ b = 1#1 := by
  revert a b; decide

variable [Facts] (a0 : FVec Ideal S16x2048x512 .f32) (a1 : FVec Ideal S32x4 .f32) (a2 : FVec Ideal S4 .f32) (a3 : FVec Ideal S256 .f32)

theorem real_args (h : fn (F := Ideal) a0 a1 a2 a3 = fun _ => 1#1) :
    (∀ (b : Fin 16) (s : Fin 2048) (l : Fin 384), ∃ r : ℝ, a0 (ix3 b s ⟨l.val, by omega⟩) = r) ∧
      (∀ (k : Fin 32) (h : Fin 4), ∃ r : ℝ, a1 (ix2 k h) = r) ∧ (∀ h : Fin 4, ∃ r : ℝ, a2 (ix1 h) = r) := by
  have h' := congrFun h (Shape.Idx.first Facts.h_S_)
  obtain ⟨h01, h2⟩ := and_split _ _ h'
  obtain ⟨h0, h1⟩ := and_split _ _ h01
  refine ⟨fun b s l => ?_, fun k h => ?_, fun h => ?_⟩
  · have e := Host.reduce_andi_all _ _ _ _ _ h0 (ix3 b s l)
    refine real_of_lt _ ?_
    rw [← inf_eq, ← e]
    symm; pointwise; rfl
  · have e := Host.reduce_andi_all _ _ _ _ _ h1 (ix2 k h)
    refine real_of_lt _ ?_
    rw [← inf_eq, ← e]
    symm; pointwise; rfl
  · have e := Host.reduce_andi_all _ _ _ _ _ h2 (ix1 h)
    refine real_of_lt _ ?_
    rw [← inf_eq, ← e]
    symm; pointwise; rfl

end Cert.Attn

end
-- ==== Proof.AttnTie.lean ====
/- The kernel's result array against the reference's. -/
module

public import proofs.«01_k».proof.Proof.AttnKernel
public import proofs.«01_k».proof.Proof.AttnRef
public import proofs.«01_k».proof.Proof.AttnPre

@[expose] public section

set_option maxRecDepth 16384

noncomputable section

namespace Cert.Attn

open Idealize.ShloMosaic Idealize.ShloMosaic.TcCoe

theorem bias_ne_top (T : Fin 32 → Fin 4 → EReal) (hT : ∀ k h, ∃ r : ℝ, T k h = r) (n : Fin 16) (h : Fin 4) (r : Fin 128) (j : Fin 256) :
    blockBias T n h r j ≠ ⊤ := by
  unfold blockBias bias
  split_ifs
  · exact bot_ne_top
  · obtain ⟨x, e⟩ := hT (bucket (128 + r.val - j.val)) h
    rw [e]; exact EReal.coe_ne_top x
  · exact bot_ne_top

theorem scale_real : ∃ x : ℝ, scale = x := by
  refine ⟨1 / 8, ?_⟩
  simp [scale, Ideal.ofBits, Ideal.ieee]
  refine (EReal.coe_mul _ _).symm.trans (congrArg _ ?_)
  norm_num

section

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (e0 : ∀ b s l, Ref.zb V0 (ix3 b s l) = zb m c b s l) (e1 : Ref.relTable V0 = relTable m c) (e2 : Ref.sinks V0 = sinks m c)
  (r0 : ∀ (b : Fin 16) (s : Fin 2048) (l : Fin 512), l.val < 384 → ∃ r : ℝ, zb m c b s l = r)
  (r1 : ∀ k h, ∃ r : ℝ, relTable m c k h = r) (r2 : ∀ h, ∃ r : ℝ, sinks m c h = r)

include e0 e1 r0 r1

/-- The reference's score is the kernel's, and is below `⊤`. -/
theorem scores_eq (b n : Fin 16) (g u : Fin 2) (r : Fin 128) (j : Fin 256) :
    score m c b n (Ref.head g u) r j = Ref.scores V0 b n g u r j ∧ Ref.scores V0 b n g u r j ≠ ⊤ := by
  obtain ⟨x, hx⟩ := scale_real
  have hs : Ref.scores V0 b n g u r j = _ := Ref.score_at V0 b n g u r j
  rw [hs, e1]
  unfold score
  by_cases hj : n.val = 0 ∧ j.val < 128
  · have hb : blockBias (relTable m c) n (Ref.head g u) r j = ⊥ := if_pos hj
    rw [hb, EReal.add_bot, EReal.add_bot]
    exact ⟨rfl, bot_ne_top⟩
  · have hq : ∀ d, Ref.zb V0 (ix3 b (seqRow n r) (Ref.queryLane g u d)) = zb m c b (seqRow n r) (qLane (col (Ref.head g u) d)) := by
      intro d
      rw [e0]
      exact congrArg (zb m c b _) (Fin.ext (by simp only [Ref.queryLane, qLane, col, Ref.head]; omega))
    have hk : ∀ d, Ref.padded (Ref.zb V0) b n j (Ref.keyLane g d) = zb m c b (keyRow n j) (kLane (lane (grp (Ref.head g u)) d)) := by
      intro d
      unfold Ref.padded
      rw [if_neg hj, e0]
      exact congrArg (zb m c b _) (Fin.ext (by simp only [Ref.keyLane, kLane, lane, grp, Ref.head]; omega))
    simp only [hq, hk]
    rw [show Ideal.ofBits FTy.f32 0x3E000000#32 = x from hx, hx]
    have qr : ∀ d, ∃ y : ℝ, zb m c b (seqRow n r) (qLane (col (Ref.head g u) d)) = y :=
      fun d => r0 _ _ _ (by simp only [qLane]; omega)
    have kr : ∀ d, ∃ y : ℝ, zb m c b (keyRow n j) (kLane (lane (grp (Ref.head g u)) d)) = y :=
      fun d => r0 _ _ _ (by simp only [kLane]; omega)
    exact ⟨score_eq (fun d => zb m c b (seqRow n r) (qLane (col (Ref.head g u) d)))
        (fun d => zb m c b (keyRow n j) (kLane (lane (grp (Ref.head g u)) d))) x _ qr kr,
      score_ne_top (fun d => zb m c b (seqRow n r) (qLane (col (Ref.head g u) d)))
        (fun d => zb m c b (keyRow n j) (kLane (lane (grp (Ref.head g u)) d))) x _ qr kr (bias_ne_top _ r1 _ _ _ _)⟩

include e2 r2

/-- The attention's values agree before the norm. -/
theorem mixed_eq (b n : Fin 16) (r : Fin 128) (x : Fin 256) :
    Cert.ReferenceIdeal.Value.res_main_v104 V0 (ix3 b (seqRow n r) x) = mixed m c b n r x := by
  obtain ⟨g, u, d, rfl⟩ : ∃ (g u : Fin 2) (d : Fin 64), x = ⟨g.val * 128 + u.val * 64 + d.val, by omega⟩ :=
    ⟨⟨x.val / 128, by omega⟩, ⟨x.val / 64 % 2, by omega⟩, ⟨x.val % 64, by omega⟩, Fin.ext (by simp only; omega)⟩
  have hh : headOf ⟨g.val * 128 + u.val * 64 + d.val, by omega⟩ = Ref.head g u := Fin.ext (by simp only [headOf, Ref.head]; omega)
  have hp : placeOf ⟨g.val * 128 + u.val * 64 + d.val, by omega⟩ = d := Fin.ext (by simp only [placeOf]; omega)
  have hs := fun j => scores_eq m c V0 e0 e1 r0 r1 b n g u r j
  obtain ⟨y, hy⟩ := r2 (Ref.head g u)
  rw [Ref.out_at, e2]
  unfold mixed
  rw [hh, hp, show score m c b n (Ref.head g u) r = Ref.scores V0 b n g u r from funext fun j => (hs j).1]
  refine (attn_eq_attnRef _ _ _ _ (fun j => (hs j).2) (by rw [hy]; exact EReal.coe_ne_top y) (by rw [hy]; exact EReal.coe_ne_bot y)
    fun j => ?_).symm
  by_cases hj : n.val = 0 ∧ j.val < 128
  · left
    rw [← (hs j).1]
    unfold score
    rw [show blockBias (relTable m c) n (Ref.head g u) r j = ⊥ from if_pos hj, EReal.add_bot]
  · right
    unfold Ref.padded
    rw [if_neg hj, e0]
    exact congrArg (zb m c b _) (Fin.ext (by simp only [Ref.valueLane, vLane, lane, grp, Ref.head]; omega))

end

namespace Ref

open Cert.ReferenceIdeal Cert.ReferenceIdeal.Gen Cert.ReferenceIdeal.Value

/-- The reference's norm over the attention's values. -/
theorem norm_at (a : FVec Ideal S16x2048x256 .f32) (w : FVec Ideal S256 .f32) (b : Fin 16) (s : Fin 2048) (l : Fin 256) :
    (truncf .bf16 (mulf (mulf a (broadcastInDim S16x2048x256 ![0, 1, 2] bcast_S16x2048x1_S16x2048x256_0_1_2
      (Host.rsqrt (addf (Host.divf (broadcastInDim S16x2048x1 ![0, 1] bcast_S16x2048_S16x2048x1_0_1
        (Host.reduceAdd (mulf a a) (constant S_ .f32 0x00000000#32) reducesTo_S16x2048x256_S16x2048_d2 h_S_))
        (broadcastInDim S16x2048x1 ![] bcast_S_S16x2048x1 (constant S_ .f32 0x43800000#32)))
        (broadcastInDim S16x2048x1 ![] bcast_S_S16x2048x1 (constant S_ .f32 0x358637BD#32))))))
      (broadcastInDim S16x2048x256 ![0, 1, 2] bcast_S1x1x256_S16x2048x256_0_1_2 (broadcastInDim S1x1x256 ![2] bcast_S256_S1x1x256_2 w)))
      bitsLt_bf16_f32 : FVec Ideal S16x2048x256 .bf16) (ix3 b s l) = normed (fun x => a (ix3 b s x)) (fun x => w (ix1 x)) l := by
  unfold normed
  pointwise

end Ref

end Cert.Attn

end
-- ==== Proof.ProjNorm.lean ====
/- The root-mean-square norm of one row of the model's width. -/
module

public import Idealize.ShloMosaic.PureOps.Ideal

@[expose] public section

noncomputable section

namespace Cert.Proj

open Idealize.ShloMosaic

/-- A row of 1024 over the root of its mean square, a small constant added under the root, times the norm's weights. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- Row `R` of the 16 × 2048 rows laid end to end: its image and its place there. -/
def imageOf (R : Fin 32768) : Fin 16 := ⟨R.val / 2048, by omega⟩
def placeOf (R : Fin 32768) : Fin 2048 := ⟨R.val % 2048, by omega⟩

end Cert.Proj

end
-- ==== Proof.OutProjMath.lean ====
/- One row of the output projection: the gated mixers against the weights, the norm, the residual, the gated embedding. -/
module

public import proofs.«01_k».proof.Proof.ProjNorm
public import Idealize.ShloMosaic.Lib.Pointwise

@[expose] public section

noncomputable section

namespace Cert.OutProj

open Cert.Proj Idealize.ShloMosaic

def silu (a : EReal) : EReal := a * Ideal.logistic a

/-- The four mixers' rows, end to end. -/
def joined (ya yb yc yd : Fin 256 → EReal) (j : Fin 1024) : EReal :=
  if h : j.val < 256 then ya ⟨j.val, h⟩
  else if h : j.val < 512 then yb ⟨j.val - 256, by omega⟩
  else if h : j.val < 768 then yc ⟨j.val - 512, by omega⟩
  else yd ⟨j.val - 768, by omega⟩

/-- The gated row against column `n` of the weights. -/
def mixed (y gate : Fin 1024 → EReal) (wo : Fin 1024 → Fin 1024 → EReal) (n : Fin 1024) : EReal :=
  ∑ j, y j * silu (gate j) * wo j n

/-- The residual plus the normed projection. -/
def mid (o x g : Fin 1024 → EReal) (n : Fin 1024) : EReal := x n + normed o g n

/-- The row plus its embedding's projection, gated by the row. -/
def gated (h : Fin 1024 → EReal) (pe : Fin 256 → EReal) (wp : Fin 256 → Fin 1024 → EReal) (wg : Fin 1024 → Fin 1024 → EReal)
    (n : Fin 1024) : EReal :=
  h n + (∑ q, pe q * wp q n) * Ideal.logistic (∑ d, h d * wg d n)

/-- The row of results. -/
def rowOut (y gate : Fin 1024 → EReal) (x : Fin 1024 → EReal) (pe : Fin 256 → EReal) (wo : Fin 1024 → Fin 1024 → EReal)
    (g : Fin 1024 → EReal) (wp : Fin 256 → Fin 1024 → EReal) (wg : Fin 1024 → Fin 1024 → EReal) (n : Fin 1024) : EReal :=
  gated (mid (mixed y gate wo) x g) pe wp wg n

/-- Position `q` of the band that begins at 256, 512, 768. -/
def at0 (q : Fin 256) : Fin 1024 := ⟨q.val, by omega⟩
def at1 (q : Fin 256) : Fin 1024 := ⟨256 + q.val, by omega⟩
def at2 (q : Fin 256) : Fin 1024 := ⟨512 + q.val, by omega⟩
def at3 (q : Fin 256) : Fin 1024 := ⟨768 + q.val, by omega⟩

theorem sum_bands (f : Fin 1024 → EReal) :
    ∑ j, f j = ∑ q, f (at0 q) + ∑ q, f (at1 q) + ∑ q, f (at2 q) + ∑ q, f (at3 q) := by
  rw [Fin.sum_univ_two_halves 768 256 rfl f, Fin.sum_univ_two_halves 512 256 rfl, Fin.sum_univ_two_halves 256 256 rfl]
  rfl

/-- The product over the joined row is the sum of the four mixers' products. -/
theorem mixed_joined (ya yb yc yd : Fin 256 → EReal) (gate : Fin 1024 → EReal) (wo : Fin 1024 → Fin 1024 → EReal) (n : Fin 1024) :
    mixed (joined ya yb yc yd) gate wo n =
      ∑ q, ya q * silu (gate (at0 q)) * wo (at0 q) n + ∑ q, yb q * silu (gate (at1 q)) * wo (at1 q) n +
        ∑ q, yc q * silu (gate (at2 q)) * wo (at2 q) n + ∑ q, yd q * silu (gate (at3 q)) * wo (at3 q) n := by
  have h0 : ∀ q, joined ya yb yc yd (at0 q) = ya q := fun q => dif_pos q.isLt
  have h1 : ∀ q, joined ya yb yc yd (at1 q) = yb q := fun q => by
    unfold joined at1
    rw [dif_neg (by simp only; omega), dif_pos (by simp only; omega)]
    exact congrArg yb (Fin.ext (by simp only; omega))
  have h2 : ∀ q, joined ya yb yc yd (at2 q) = yc q := fun q => by
    unfold joined at2
    rw [dif_neg (by simp only; omega), dif_neg (by simp only; omega), dif_pos (by simp only; omega)]
    exact congrArg yc (Fin.ext (by simp only; omega))
  have h3 : ∀ q, joined ya yb yc yd (at3 q) = yd q := fun q => by
    unfold joined at3
    rw [dif_neg (by simp only; omega), dif_neg (by simp only; omega), dif_neg (by simp only; omega)]
    exact congrArg yd (Fin.ext (by simp only; omega))
  unfold mixed
  rw [sum_bands]
  simp only [h0, h1, h2, h3]

end Cert.OutProj

end
-- ==== Proof.OutProjBlock.lean ====
/- One grid point of the output projection kernel: the operations its four stores have in common. -/
module

public import proofs.«01_k».proof.Proof.OutProjMath
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.OutProj

open Cert.Proj Cert.Kernel2Ideal Cert.Kernel2Ideal.Gen Idealize.ShloMosaic

section

variable {F : FTy → Type} [FloatOps F]

/-- The projection of 256 rows, the residual and the norm, the gated embedding. -/
def projPart (gate : Vec F S256x1024 .bf16) (ya yb yc yd : Vec F S256x256 .bf16) (w0 w1 w2 w3 : Vec F S256x1024 .bf16) :
    FVec F S256x1024 .f32 :=
  k0_pay8 (k0_pay6 gate ya w0 yb w1 yc w2) (k0_pay7 gate yd) w3

def outPart (h : FVec F S256x1024 .f32) (pe : Vec F S1x256x256 .f32) (wp : Vec F S256x1024 .bf16) (wg : Vec F S1024x1024 .bf16) :
    FVec F S256x1024 .f32 :=
  k0_pay1 h (k0_pay29 pe wp) (k0_pay33 h wg)

/-- 256 rows of a block of 1024. -/
def rows (x : Vec F S1024x1024 .f32) (k : Fin 4) : Vec F S256x1024 .f32 :=
  View.ld x (Rect.unit (s := S1024x1024) ![k.val * 256, 0] S256x1024.size (by revert k; decide))
def rowsW (x : Vec F S1024x1024 .bf16) (k : Fin 4) : Vec F S256x1024 .bf16 :=
  View.ld x (Rect.unit (s := S1024x1024) ![k.val * 256, 0] S256x1024.size (by revert k; decide))
def rowsY (x : Vec F S1024x256 .bf16) (k : Fin 4) : Vec F S256x256 .bf16 :=
  View.ld x (Rect.unit (s := S1024x256) ![k.val * 256, 0] S256x256.size (by revert k; decide))
def rowsPe (x : Vec F S1x1024x256 .f32) (k : Fin 4) : Vec F S1x256x256 .f32 :=
  View.ld x (Rect.unit (s := S1x1024x256) ![0, k.val * 256, 0] S1x256x256.size (by revert k; decide))

/-- What a grid point writes of its rows `k * 256` to `k * 256 + 255`. -/
def part (x0 x1 x2 x3 : Vec F S1024x256 .bf16) (x4 : Vec F S1024x1024 .bf16) (x5 : Vec F S1024x1024 .f32) (x6 : Vec F S1x1024x256 .f32)
    (x7 : Vec F S1024x1024 .bf16) (x8 : Vec F S1x1024 .f32) (x9 : Vec F S256x1024 .bf16) (x10 : Vec F S1024x1024 .bf16) (k : Fin 4) :
    FVec F S256x1024 .f32 :=
  outPart (k0_pay20 (projPart (rowsW x4 k) (rowsY x0 k) (rowsY x1 k) (rowsY x2 k) (rowsY x3 k) (rowsW x7 0) (rowsW x7 1) (rowsW x7 2)
    (rowsW x7 3)) (rows x5 k) (View.ld x8 r0_8)) (rowsPe x6 k) (View.ld x9 r0_10) (View.ld x10 r0_14)

theorem out_pieces (x0 x1 x2 x3 : Vec F S1024x256 .bf16) (x4 : Vec F S1024x1024 .bf16) (x5 : Vec F S1024x1024 .f32)
    (x6 : Vec F S1x1024x256 .f32) (x7 : Vec F S1024x1024 .bf16) (x8 : Vec F S1x1024 .f32) (x9 : Vec F S256x1024 .bf16)
    (x10 : Vec F S1024x1024 .bf16) :
    out0_11 x0 x1 x2 x3 x4 x5 x6 x7 x8 x9 x10 =
      View.canon (List.ofFn fun k : Fin 4 =>
        (⟨Rect.unit (s := S1024x1024) ![k.rev.val * 256, 0] S256x1024.size (by revert k; decide),
          part x0 x1 x2 x3 x4 x5 x6 x7 x8 x9 x10 k.rev⟩ : View.Piece (Elt F) S1024x1024 (.f32))) := rfl

/-- The block a grid point writes, read at row `k * 256 + r`, column `l`. -/
theorem out_at (x0 x1 x2 x3 : Vec F S1024x256 .bf16) (x4 : Vec F S1024x1024 .bf16) (x5 : Vec F S1024x1024 .f32)
    (x6 : Vec F S1x1024x256 .f32) (x7 : Vec F S1024x1024 .bf16) (x8 : Vec F S1x1024 .f32) (x9 : Vec F S256x1024 .bf16)
    (x10 : Vec F S1024x1024 .bf16) (k : Fin 4) (r : Fin 256) (l : Fin 1024) :
    out0_11 x0 x1 x2 x3 x4 x5 x6 x7 x8 x9 x10 (ix2 ⟨k.val * 256 + r.val, by omega⟩ l) =
      part x0 x1 x2 x3 x4 x5 x6 x7 x8 x9 x10 k (ix2 r l) := by
  rw [out_pieces]
  refine View.canon_ofFn_unit_eq_of_forall _ _ _ _ _ _ ⟨k.rev, ?_⟩ ?_
  · intro a
    fin_cases a <;> simp [ix2] <;> omega
  · intro k' x hx
    obtain ⟨r', l', rfl⟩ : ∃ (r' : Fin 256) (l' : Fin 1024), x = ix2 r' l' := ⟨x 0, x 1, eq_ix2 x⟩
    have hr : k.val * 256 + r.val = k'.rev.val * 256 + r'.val := hx 0
    have hl : (l : ℕ) = 0 + (l' : ℕ) := hx 1
    obtain rfl : k = k'.rev := Fin.ext (by omega)
    obtain rfl : r = r' := Fin.ext (by omega)
    obtain rfl : l = l' := Fin.ext (by omega)
    rfl

end

/-- Row `k * 256 + r` of the block. -/
def rowIn (k : Fin 4) (r : Fin 256) : Fin 1024 := ⟨k.val * 256 + r.val, by omega⟩

theorem rows_at (x : Vec Ideal S1024x1024 .f32) (k : Fin 4) (r : Fin 256) (l : Fin 1024) : rows x k (ix2 r l) = x (ix2 (rowIn k r) l) := by
  unfold rows rowIn; pointwise
theorem rowsW_at (x : Vec Ideal S1024x1024 .bf16) (k : Fin 4) (r : Fin 256) (l : Fin 1024) : rowsW x k (ix2 r l) = x (ix2 (rowIn k r) l) := by
  unfold rowsW rowIn; pointwise
theorem rowsY_at (x : Vec Ideal S1024x256 .bf16) (k : Fin 4) (r : Fin 256) (l : Fin 256) : rowsY x k (ix2 r l) = x (ix2 (rowIn k r) l) := by
  unfold rowsY rowIn; pointwise
theorem rowsPe_at (x : Vec Ideal S1x1024x256 .f32) (k : Fin 4) (r : Fin 256) (l : Fin 256) :
    rowsPe x k (ix3 0 r l) = x (ix3 0 (rowIn k r) l) := by
  unfold rowsPe rowIn; pointwise

theorem projPart_at (gate : Vec Ideal S256x1024 .bf16) (ya yb yc yd : Vec Ideal S256x256 .bf16) (w0 w1 w2 w3 : Vec Ideal S256x1024 .bf16)
    (r : Fin 256) (n : Fin 1024) : projPart gate ya yb yc yd w0 w1 w2 w3 (ix2 r n) =
      ∑ q, ya (ix2 r q) * silu (gate (ix2 r (at0 q))) * w0 (ix2 q n) + ∑ q, yb (ix2 r q) * silu (gate (ix2 r (at1 q))) * w1 (ix2 q n) +
        ∑ q, yc (ix2 r q) * silu (gate (ix2 r (at2 q))) * w2 (ix2 q n) + ∑ q, yd (ix2 r q) * silu (gate (ix2 r (at3 q))) * w3 (ix2 q n) := by
  unfold projPart k0_pay8 k0_pay6 k0_pay7 k0_pay5 silu at0 at1 at2 at3
  pointwise

theorem mid_at (o x : FVec Ideal S256x1024 .f32) (g : Vec Ideal S1x1024 .f32) (r : Fin 256) (n : Fin 1024) :
    k0_pay20 o x g (ix2 r n) = mid (fun j => o (ix2 r j)) (fun j => x (ix2 r j)) (fun j => g (ix2 0 j)) n := by
  unfold k0_pay20 mid normed
  pointwise

theorem outPart_at (h : FVec Ideal S256x1024 .f32) (pe : Vec Ideal S1x256x256 .f32) (wp : Vec Ideal S256x1024 .bf16)
    (wg : Vec Ideal S1024x1024 .bf16) (r : Fin 256) (n : Fin 1024) : outPart h pe wp wg (ix2 r n) =
      gated (fun j => h (ix2 r j)) (fun q => pe (ix3 0 r q)) (fun q n => wp (ix2 q n)) (fun d n => wg (ix2 d n)) n := by
  unfold outPart k0_pay1 k0_pay29 k0_pay33 gated
  pointwise

/-- The block a grid point writes, row by row. -/
theorem block_row (x0 x1 x2 x3 : Vec Ideal S1024x256 .bf16) (x4 : Vec Ideal S1024x1024 .bf16) (x5 : Vec Ideal S1024x1024 .f32)
    (x6 : Vec Ideal S1x1024x256 .f32) (x7 : Vec Ideal S1024x1024 .bf16) (x8 : Vec Ideal S1x1024 .f32) (x9 : Vec Ideal S256x1024 .bf16)
    (x10 : Vec Ideal S1024x1024 .bf16) (R l : Fin 1024) :
    out0_11 x0 x1 x2 x3 x4 x5 x6 x7 x8 x9 x10 (ix2 R l) =
      rowOut (joined (fun q => x0 (ix2 R q)) (fun q => x1 (ix2 R q)) (fun q => x2 (ix2 R q)) (fun q => x3 (ix2 R q)))
        (fun j => x4 (ix2 R j)) (fun j => x5 (ix2 R j)) (fun q => x6 (ix3 0 R q)) (fun j n => x7 (ix2 j n)) (fun j => x8 (ix2 0 j))
        (fun q n => x9 (ix2 q n)) (fun d n => x10 (ix2 d n)) l := by
  obtain ⟨k, r, rfl⟩ : ∃ (k : Fin 4) (r : Fin 256), R = rowIn k r :=
    ⟨⟨R.val / 256, by omega⟩, ⟨R.val % 256, by omega⟩, Fin.ext (by simp only [rowIn]; omega)⟩
  refine (out_at x0 x1 x2 x3 x4 x5 x6 x7 x8 x9 x10 k r l).trans ?_
  unfold part rowOut
  rw [outPart_at]
  have h8 : ∀ j, View.ld x8 r0_8 (ix2 0 j) = x8 (ix2 0 j) := fun j => by pointwise
  have h9 : ∀ q n, View.ld x9 r0_10 (ix2 q n) = x9 (ix2 q n) := fun q n => by pointwise
  have h10 : ∀ d n, View.ld x10 r0_14 (ix2 d n) = x10 (ix2 d n) := fun d n => by pointwise
  have w0 : ∀ q, rowIn 0 q = at0 q := fun q => Fin.ext (by simp [rowIn, at0])
  have w1 : ∀ q, rowIn 1 q = at1 q := fun q => Fin.ext (by simp [rowIn, at1])
  have w2 : ∀ q, rowIn 2 q = at2 q := fun q => Fin.ext (by simp [rowIn, at2])
  have w3 : ∀ q, rowIn 3 q = at3 q := fun q => Fin.ext (by simp [rowIn, at3])
  simp only [mid_at, projPart_at, rows_at, rowsW_at, rowsY_at, rowsPe_at, h8, h9, h10, w0, w1, w2, w3]
  rw [show mixed (joined (fun q => x0 (ix2 (rowIn k r) q)) (fun q => x1 (ix2 (rowIn k r) q)) (fun q => x2 (ix2 (rowIn k r) q))
    (fun q => x3 (ix2 (rowIn k r) q))) (fun j => x4 (ix2 (rowIn k r) j)) (fun j n => x7 (ix2 j n)) = _ from
      funext (mixed_joined _ _ _ _ _ _)]

end Cert.OutProj

end
-- ==== Proof.OutProjKernel.lean ====
/- The output projection kernel's result array after the run, index by index. -/
module

public import proofs.«01_k».proof.Proof.OutProjBlock
public import Idealize.ShloMosaic.Lib.StableHlo.ReadAt

@[expose] public section

set_option maxRecDepth 16384

noncomputable section

namespace Cert.OutProj

open Cert.Proj Cert.Kernel2Ideal Cert.Kernel2Ideal.Gen Idealize.ShloMosaic Idealize.ShloMosaic.TcCoe

variable (m : (ℓ : Loc nD τ sig) → Buf (Elt Ideal) ℓ) (c : Dev nD)

/-- Row `R` of each of the kernel's arguments. -/
def ya (R : Fin 32768) (q : Fin 256) : EReal := m (c, Proc.tc.devRef main_arg0) (ix3 (imageOf R) (placeOf R) q)
def yb (R : Fin 32768) (q : Fin 256) : EReal := m (c, Proc.tc.devRef main_arg1) (ix3 (imageOf R) (placeOf R) q)
def yc (R : Fin 32768) (q : Fin 256) : EReal := m (c, Proc.tc.devRef main_arg2) (ix3 (imageOf R) (placeOf R) q)
def yd (R : Fin 32768) (q : Fin 256) : EReal := m (c, Proc.tc.devRef main_arg3) (ix3 (imageOf R) (placeOf R) q)
def gate (R : Fin 32768) (j : Fin 1024) : EReal := m (c, Proc.tc.devRef main_arg4) (ix3 (imageOf R) (placeOf R) j)
def res (R : Fin 32768) (j : Fin 1024) : EReal := m (c, Proc.tc.devRef main_arg5) (ix3 (imageOf R) (placeOf R) j)
def emb (R : Fin 32768) (q : Fin 256) : EReal := m (c, Proc.tc.devRef main_arg6) (ix4 0 (imageOf R) (placeOf R) q)
/-- The weights. -/
def wo (j n : Fin 1024) : EReal := m (c, Proc.tc.devRef main_arg7) (ix2 j n)
def gains (j : Fin 1024) : EReal := m (c, Proc.tc.devRef main_arg8) (ix1 j)
def wp (q : Fin 256) (n : Fin 1024) : EReal := m (c, Proc.tc.devRef main_arg9) (ix2 q n)
def wg (d n : Fin 1024) : EReal := m (c, Proc.tc.devRef main_arg10) (ix2 d n)

theorem ya_at (R : Fin 32768) (q : Fin 256) : V m c main_v0 (ix2 R q) = ya m c R q := by
  unfold ya imageOf placeOf
  unfold_abbrev_sides
  after_reads_at
theorem yb_at (R : Fin 32768) (q : Fin 256) : V m c main_v1 (ix2 R q) = yb m c R q := by
  unfold yb imageOf placeOf
  unfold_abbrev_sides
  after_reads_at
theorem yc_at (R : Fin 32768) (q : Fin 256) : V m c main_v2 (ix2 R q) = yc m c R q := by
  unfold yc imageOf placeOf
  unfold_abbrev_sides
  after_reads_at
theorem yd_at (R : Fin 32768) (q : Fin 256) : V m c main_v3 (ix2 R q) = yd m c R q := by
  unfold yd imageOf placeOf
  unfold_abbrev_sides
  after_reads_at
theorem gate_at (R : Fin 32768) (j : Fin 1024) : V m c main_v4 (ix2 R j) = gate m c R j := by
  unfold gate imageOf placeOf
  unfold_abbrev_sides
  after_reads_at
theorem res_at (R : Fin 32768) (j : Fin 1024) : V m c main_v5 (ix2 R j) = res m c R j := by
  unfold res imageOf placeOf
  unfold_abbrev_sides
  after_reads_at
theorem emb_at (R : Fin 32768) (q : Fin 256) : V m c main_v6 (ix3 0 R q) = emb m c R q := by
  unfold emb imageOf placeOf
  unfold_abbrev_sides
  after_reads_at
theorem wo_at (j n : Fin 1024) : V m c main_v7 (ix2 j n) = wo m c j n := by
  unfold_abbrev_sides
  after_reads_at
  rfl
theorem gains_at (j : Fin 1024) : V m c main_v8 (ix2 0 j) = gains m c j := by
  unfold_abbrev_sides
  after_reads_at
  rfl
theorem wp_at (q : Fin 256) (n : Fin 1024) : V m c main_v9 (ix2 q n) = wp m c q n := by
  unfold_abbrev_sides
  after_reads_at
  rfl
theorem wg_at (d n : Fin 1024) : V m c main_v10 (ix2 d n) = wg m c d n := by
  unfold_abbrev_sides
  after_reads_at
  rfl

theorem idx (t : Fin grid0.N) : win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![0, t.val, 0] ∧
    win0_7.index t = ![0, 0] ∧ win0_8.index t = ![0, 0] ∧ win0_9.index t = ![0, 0] ∧ win0_10.index t = ![0, 0] ∧
    win0_11.index t = ![t.val, 0] := by
  revert t; decide +kernel

/-- Row `r` of grid point `t`'s block. -/
def rowOf (t : Fin grid0.N) (r : Fin 1024) : Fin 32768 := ⟨t.val * 1024 + r.val, by
  have : t.val < 32 := t.isLt
  omega⟩

theorem ya_block (t : Fin grid0.N) (r : Fin 1024) (q : Fin 256) : iblk m c 0 t (ix2 r q) = ya m c (rowOf t r) q := by
  obtain ⟨e0, -⟩ := idx t
  rw [← ya_at]
  unfold rowOf
  blk_ext [iblk, e0]
theorem yb_block (t : Fin grid0.N) (r : Fin 1024) (q : Fin 256) : iblk m c 1 t (ix2 r q) = yb m c (rowOf t r) q := by
  obtain ⟨-, e0, -⟩ := idx t
  rw [← yb_at]
  unfold rowOf
  blk_ext [iblk, e0]
theorem yc_block (t : Fin grid0.N) (r : Fin 1024) (q : Fin 256) : iblk m c 2 t (ix2 r q) = yc m c (rowOf t r) q := by
  obtain ⟨-, -, e0, -⟩ := idx t
  rw [← yc_at]
  unfold rowOf
  blk_ext [iblk, e0]
theorem yd_block (t : Fin grid0.N) (r : Fin 1024) (q : Fin 256) : iblk m c 3 t (ix2 r q) = yd m c (rowOf t r) q := by
  obtain ⟨-, -, -, e0, -⟩ := idx t
  rw [← yd_at]
  unfold rowOf
  blk_ext [iblk, e0]
theorem gate_block (t : Fin grid0.N) (r j : Fin 1024) : iblk m c 4 t (ix2 r j) = gate m c (rowOf t r) j := by
  obtain ⟨-, -, -, -, e0, -⟩ := idx t
  rw [← gate_at]
  unfold rowOf
  blk_ext [iblk, e0]
theorem res_block (t : Fin grid0.N) (r j : Fin 1024) : iblk m c 5 t (ix2 r j) = res m c (rowOf t r) j := by
  obtain ⟨-, -, -, -, -, e0, -⟩ := idx t
  rw [← res_at]
  unfold rowOf
  blk_ext [iblk, e0]
theorem emb_block (t : Fin grid0.N) (r : Fin 1024) (q : Fin 256) : iblk m c 6 t (ix3 0 r q) = emb m c (rowOf t r) q := by
  obtain ⟨-, -, -, -, -, -, e0, -⟩ := idx t
  rw [← emb_at]
  unfold rowOf
  blk_ext [iblk, e0]
theorem wo_block (t : Fin grid0.N) (j n : Fin 1024) : iblk m c 7 t (ix2 j n) = wo m c j n := by
  obtain ⟨-, -, -, -, -, -, -, e0, -⟩ := idx t
  rw [← wo_at]
  blk_ext [iblk, e0]
theorem gains_block (t : Fin grid0.N) (j : Fin 1024) : iblk m c 8 t (ix2 0 j) = gains m c j := by
  obtain ⟨-, -, -, -, -, -, -, -, e0, -⟩ := idx t
  rw [← gains_at]
  blk_ext [iblk, e0]
theorem wp_block (t : Fin grid0.N) (q : Fin 256) (n : Fin 1024) : iblk m c 9 t (ix2 q n) = wp m c q n := by
  obtain ⟨-, -, -, -, -, -, -, -, -, e0, -⟩ := idx t
  rw [← wp_at]
  blk_ext [iblk, e0]
theorem wg_block (t : Fin grid0.N) (d n : Fin 1024) : iblk m c 10 t (ix2 d n) = wg m c d n := by
  obtain ⟨-, -, -, -, -, -, -, -, -, -, e0, -⟩ := idx t
  rw [← wg_at]
  blk_ext [iblk, e0]

/-- Row `R` of the result. -/
def outRow (R : Fin 32768) : Fin 1024 → EReal :=
  rowOut (joined (ya m c R) (yb m c R) (yc m c R) (yd m c R)) (gate m c R) (res m c R) (emb m c R) (wo m c) (gains m c) (wp m c) (wg m c)

/-- What grid point `t` writes. -/
theorem block_at (t : Fin grid0.N) (r l : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r l) = outRow m c (rowOf t r) l := by
  refine (block_row _ _ _ _ _ _ _ _ _ _ _ r l).trans ?_
  simp only [ya_block, yb_block, yc_block, yd_block, gate_block, res_block, emb_block, wo_block, gains_block, wp_block, wg_block]
  rfl

/-- The result array. -/
def result : Vec Ideal S32768x1024 .f32 := fun i => outRow m c (i 0) (i 1)

theorem final : (dats m 0 c).arrAt 11 cfg0.N = result m c := by
  refine (dats m 0 c).arrAt_eq_of_covers 11 _ (by decide +kernel) fun t hf y => ?_
  obtain ⟨r, l, rfl⟩ : ∃ (r l : Fin 1024), y = ix2 r l := ⟨y 0, y 1, eq_ix2 y⟩
  have e0 : win0_11.index t = ![t.val, 0] := (idx t).2.2.2.2.2.2.2.2.2.2.2
  blk_simp
  rw [after0_11]
  refine (block_at m c t r l).trans ?_
  have h0 : (((cfg0.win 11).blk t).view.emb (ix2 r l) 0 : ℕ) = t.val * 1024 + r.val := by blk_simp [e0]
  have h1 : (((cfg0.win 11).blk t).view.emb (ix2 r l) 1 : ℕ) = l.val := by blk_simp [e0]
  unfold result
  exact congrArg₂ (outRow m c) (Fin.ext h0.symm) (Fin.ext h1.symm)

end Cert.OutProj

end
-- ==== Proof.OutProjRef.lean ====
/- The reference's output projection, its result index by index. -/
module

public import proofs.«01_k».proof.Proof.OutProjMath
public import proofs.«01_k».proof.Proof.Gen.Reference2Ideal.Run
public import Idealize.ShloMosaic.Lib.Pointwise

@[expose] public section

set_option maxRecDepth 16384

noncomputable section

namespace Cert.OutProj.Ref

open Cert.Proj Cert.Reference2Ideal Cert.Reference2Ideal.Gen Cert.Reference2Ideal.Value Idealize.ShloMosaic

def refJoined (ya yb yc yd : FVec Ideal S16x2048x256 .bf16) : FVec Ideal S16x2048x1024 .bf16 :=
  concatenate S16x2048x1024 2 [⟨S16x2048x256, ya⟩, ⟨S16x2048x256, yb⟩, ⟨S16x2048x256, yc⟩, ⟨S16x2048x256, yd⟩]
    concatenates_S16x2048x256_S16x2048x256_S16x2048x256_S16x2048x256_S16x2048x1024_d2

def refMixed (y gate : FVec Ideal S16x2048x1024 .bf16) (wo : FVec Ideal S1024x1024 .f32) : FVec Ideal S16x2048x1024 .f32 :=
  Host.dotGeneral dot_S16x2048x1024_S1024x1024_S16x2048x1024_2_0_01_1_n_n none
    (mulf (extf .f32 y bitsLt_bf16_f32) (mulf (extf .f32 gate bitsLt_bf16_f32)
      (Host.divf (broadcastInDim S16x2048x1024 ![] bcast_S_S16x2048x1024 (constant S_ .f32 0x3F800000#32))
        (addf (broadcastInDim S16x2048x1024 ![] bcast_S_S16x2048x1024 (constant S_ .f32 0x3F800000#32))
          (Host.exp (Host.negf (extf .f32 gate bitsLt_bf16_f32))))))) wo

def refMid (o x : FVec Ideal S16x2048x1024 .f32) (g : FVec Ideal S1024 .f32) : FVec Ideal S16x2048x1024 .f32 :=
  addf x (mulf (mulf o (broadcastInDim S16x2048x1024 ![0, 1, 2] bcast_S16x2048x1_S16x2048x1024_0_1_2
    (Host.rsqrt (addf (Host.divf (broadcastInDim S16x2048x1 ![0, 1] bcast_S16x2048_S16x2048x1_0_1
      (Host.reduceAdd (mulf o o) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 g)))

def refGated (h : FVec Ideal S16x2048x1024 .f32) (p : FVec Ideal S2x16x2048x256 .f32) (wp : FVec Ideal S256x1024 .f32)
    (wg : FVec Ideal S1024x1024 .f32) : FVec Ideal S16x2048x1024 .f32 :=
  addf h (mulf (Host.dotGeneral dot_S16x2048x256_S256x1024_S16x2048x1024_2_0_01_1_n_n none
    (shapeCast S16x2048x256 (extractStridedSlice S1x16x2048x256 ![0, 0, 0, 0] p slices_S2x16x2048x256_S1x16x2048x256_0_0_0_0)
      shapeCasts_S1x16x2048x256_S16x2048x256) wp)
    (Host.divf (broadcastInDim S16x2048x1024 ![] bcast_S_S16x2048x1024 (constant S_ .f32 0x3F800000#32))
      (addf (broadcastInDim S16x2048x1024 ![] bcast_S_S16x2048x1024 (constant S_ .f32 0x3F800000#32))
        (Host.exp (Host.negf (Host.dotGeneral dot_S16x2048x1024_S1024x1024_S16x2048x1024_2_0_01_1_n_n none h wg))))))

theorem joined_at (ya yb yc yd : FVec Ideal S16x2048x256 .bf16) (b : Fin 16) (s : Fin 2048) (j : Fin 1024) :
    refJoined ya yb yc yd (ix3 b s j) =
      joined (fun q => ya (ix3 b s q)) (fun q => yb (ix3 b s q)) (fun q => yc (ix3 b s q)) (fun q => yd (ix3 b s q)) j := by
  unfold refJoined joined
  pointwise
  (repeat' split) <;> first
    | rfl
    | (exfalso; omega)
    | (refine congrArg (fun q => yc (ix3 b s q)) (Fin.ext ?_); dsimp only; omega)
    | (refine congrArg (fun q => yd (ix3 b s q)) (Fin.ext ?_); dsimp only; omega)

theorem mixed_at (y gate : FVec Ideal S16x2048x1024 .bf16) (wo : FVec Ideal S1024x1024 .f32) (b : Fin 16) (s : Fin 2048) (n : Fin 1024) :
    refMixed y gate wo (ix3 b s n) = mixed (fun j => y (ix3 b s j)) (fun j => gate (ix3 b s j)) (fun j n => wo (ix2 j n)) n := by
  unfold refMixed mixed silu Ideal.logistic
  pointwise

theorem mid_at (o x : FVec Ideal S16x2048x1024 .f32) (g : FVec Ideal S1024 .f32) (b : Fin 16) (s : Fin 2048) (n : Fin 1024) :
    refMid o x g (ix3 b s n) = mid (fun j => o (ix3 b s j)) (fun j => x (ix3 b s j)) (fun j => g (ix1 j)) n := by
  unfold refMid mid normed
  pointwise

theorem gated_at (h : FVec Ideal S16x2048x1024 .f32) (p : FVec Ideal S2x16x2048x256 .f32) (wp : FVec Ideal S256x1024 .f32)
    (wg : FVec Ideal S1024x1024 .f32) (b : Fin 16) (s : Fin 2048) (n : Fin 1024) : refGated h p wp wg (ix3 b s n) =
      gated (fun j => h (ix3 b s j)) (fun q => p (ix4 0 b s q)) (fun q n => wp (ix2 q n)) (fun d n => wg (ix2 d n)) n := by
  unfold refGated gated Ideal.logistic
  pointwise

/-- The reference's result. -/
def refOut (ya yb yc yd : FVec Ideal S16x2048x256 .bf16) (gate : FVec Ideal S16x2048x1024 .bf16) (x : FVec Ideal S16x2048x1024 .f32)
    (p : FVec Ideal S2x16x2048x256 .f32) (wo : FVec Ideal S1024x1024 .f32) (g : FVec Ideal S1024 .f32) (wp : FVec Ideal S256x1024 .f32)
    (wg : FVec Ideal S1024x1024 .f32) : FVec Ideal S32768x1024 .f32 :=
  shapeCast S32768x1024 (refGated (refMid (refMixed (refJoined ya yb yc yd) gate wo) x g) p wp wg) shapeCasts_S16x2048x1024_S32768x1024

theorem flat_at (h : FVec Ideal S16x2048x1024 .f32) (R : Fin 32768) (n : Fin 1024) :
    (shapeCast S32768x1024 h shapeCasts_S16x2048x1024_S32768x1024 : FVec Ideal S32768x1024 .f32) (ix2 R n) = h (ix3 (imageOf R) (placeOf R) n) := by
  unfold imageOf placeOf
  pointwise

theorem out_at (ya yb yc yd : FVec Ideal S16x2048x256 .bf16) (gate : FVec Ideal S16x2048x1024 .bf16) (x : FVec Ideal S16x2048x1024 .f32)
    (p : FVec Ideal S2x16x2048x256 .f32) (wo : FVec Ideal S1024x1024 .f32) (g : FVec Ideal S1024 .f32) (wp : FVec Ideal S256x1024 .f32)
    (wg : FVec Ideal S1024x1024 .f32) (R : Fin 32768) (n : Fin 1024) :
    refOut ya yb yc yd gate x p wo g wp wg (ix2 R n) =
      rowOut (joined (fun q => ya (ix3 (imageOf R) (placeOf R) q)) (fun q => yb (ix3 (imageOf R) (placeOf R) q))
          (fun q => yc (ix3 (imageOf R) (placeOf R) q)) (fun q => yd (ix3 (imageOf R) (placeOf R) q)))
        (fun j => gate (ix3 (imageOf R) (placeOf R) j)) (fun j => x (ix3 (imageOf R) (placeOf R) j))
        (fun q => p (ix4 0 (imageOf R) (placeOf R) q)) (fun j n => wo (ix2 j n)) (fun j => g (ix1 j)) (fun q n => wp (ix2 q n))
        (fun d n => wg (ix2 d n)) n := by
  unfold refOut rowOut
  simp only [flat_at, gated_at, mid_at, mixed_at, joined_at]

theorem res_eq (m : (ℓ : Loc nD τ sig) → Buf (Elt Ideal) ℓ) (c : Dev nD) : res_main_v32 m c =
    refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

end Cert.OutProj.Ref

end
-- ==== Proof.InProjKernel.lean ====
/- The input projection kernel's five result arrays after the run, index by index. -/
module

public import proofs.«01_k».proof.Proof.ProjNorm
public import proofs.«01_k».proof.Proof.Gen.Kernel3Ideal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.InProj

open Cert.Proj Cert.Kernel3Ideal Cert.Kernel3Ideal.Gen Idealize.ShloMosaic Idealize.ShloMosaic.TcCoe

/-- The normed row `x` against one column of weights. -/
def dot (x g : Fin 1024 → EReal) (w : Fin 1024 → EReal) : EReal := ∑ d, normed x g d * w d

/-- The packed weights: the first 1280 columns, then columns 1296 to 2127, columns 1280 to 1295, 48 columns of zeros, and
    the columns from 2128. -/
def packed (w : Fin 1024 → Fin 3152 → EReal) (d : Fin 1024) (n : Fin 3200) : EReal :=
  if h : n.val < 1280 then w d ⟨n.val, by omega⟩
  else if h : n.val < 2112 then w d ⟨n.val + 16, by omega⟩
  else if h : n.val < 2128 then w d ⟨n.val - 832, by omega⟩
  else if h : n.val < 2176 then 0
  else w d ⟨n.val - 48, by omega⟩

section

variable (x0 : Vec Ideal S1024x1024 .f32) (x1 : Vec Ideal S1x1024 .f32)

theorem normed_at (r d : Fin 1024) :
    k0_pay3 x0 x1 (ix2 r d) = normed (fun e => x0 (ix2 r e)) (fun e => x1 (ix2 0 e)) d := by
  unfold k0_pay3 normed; pointwise

theorem hz : (![0, 0] : Fin 2 → ℕ) = fun _ => 0 := by funext a; fin_cases a <;> rfl

variable (x2 : Vec Ideal S1024x3200 .bf16)

theorem out3_at (r : Fin 1024) (l : Fin 256) : out0_3 x0 x1 x2 (ix2 r l) =
    dot (fun e => x0 (ix2 r e)) (fun e => x1 (ix2 0 e)) (fun d => x2 (ix2 d ⟨l.val, by omega⟩)) := by
  unfold out0_3 k0_pay4 dot
  rw [View.canon_unit_zero hz, View.ld_unit_zero hz, View.ld_unit_zero hz]
  simp only [← normed_at]
  pointwise

theorem out4_at (r : Fin 1024) (l : Fin 512) : out0_4 x0 x1 x2 (ix2 r l) =
    dot (fun e => x0 (ix2 r e)) (fun e => x1 (ix2 0 e)) (fun d => x2 (ix2 d ⟨256 + l.val, by omega⟩)) := by
  unfold out0_4 k0_pay5 dot
  rw [View.canon_unit_zero hz, View.ld_unit_zero hz, View.ld_unit_zero hz]
  simp only [← normed_at]
  pointwise

theorem out5_at (r : Fin 1024) (l : Fin 512) : out0_5 x0 x1 x2 (ix2 r l) =
    dot (fun e => x0 (ix2 r e)) (fun e => x1 (ix2 0 e)) (fun d => x2 (ix2 d ⟨768 + l.val, by omega⟩)) := by
  unfold out0_5 k0_pay6 dot
  rw [View.canon_unit_zero hz, View.ld_unit_zero hz, View.ld_unit_zero hz]
  simp only [← normed_at]
  pointwise

theorem out6_at (r : Fin 1024) (l : Fin 896) : out0_6 x0 x1 x2 (ix2 r l) =
    dot (fun e => x0 (ix2 r e)) (fun e => x1 (ix2 0 e)) (fun d => x2 (ix2 d ⟨1280 + l.val, by omega⟩)) := by
  unfold_out out0_6
  unfold k0_pay1 k0_pay7 dot
  rw [View.canon_unit_zero hz, View.ld_unit_zero hz, View.ld_unit_zero hz]
  simp only [← normed_at]
  pointwise

theorem out7_at (r : Fin 1024) (l : Fin 1024) : out0_7 x0 x1 x2 (ix2 r l) =
    dot (fun e => x0 (ix2 r e)) (fun e => x1 (ix2 0 e)) (fun d => x2 (ix2 d ⟨2176 + l.val, by omega⟩)) := by
  unfold_out out0_7
  unfold k0_pay2 dot
  rw [View.canon_unit_zero hz, View.ld_unit_zero hz, View.ld_unit_zero hz]
  simp only [← normed_at]
  pointwise

end

variable (m : (ℓ : Loc nD τ sig) → Buf (Elt Ideal) ℓ) (c : Dev nD)

/-- The kernel's arguments: row `R` of the input, the norm's weights, the projection's weights. -/
def row (R : Fin 32768) (e : Fin 1024) : EReal := m (c, Proc.tc.devRef main_arg0) (ix3 (imageOf R) (placeOf R) e)
def gains (e : Fin 1024) : EReal := m (c, Proc.tc.devRef main_arg1) (ix1 e)
def weights (d : Fin 1024) (n : Fin 3152) : EReal := m (c, Proc.tc.devRef main_arg2) (ix2 d n)

theorem row_at (R : Fin 32768) (e : Fin 1024) : V m c main_v6 (ix2 R e) = row m c R e := by
  unfold row imageOf placeOf
  unfold_abbrev_sides
  after_reads_at

theorem gains_at (e : Fin 1024) : V m c main_v7 (ix2 0 e) = gains m c e := by
  unfold_abbrev_sides
  after_reads_at
  rfl

theorem packed_at (d : Fin 1024) (n : Fin 3200) : V m c main_v8 (ix2 d n) = packed (weights m c) d n := by
  unfold packed
  unfold_abbrev_sides
  after_reads_at
  pointwise
  have h0 : ∀ n : Fin 48, @Eq EReal (StableHlo.upto hostOps0 (fun b => m (c, b)) 6 (Proc.tc.devRef main_v0) (ix2 d n)) 0 := fun n => by
    after_reads_at
  have h1 : ∀ n : Fin 1280, StableHlo.upto hostOps0 (fun b => m (c, b)) 6 (Proc.tc.devRef main_v1) (ix2 d n) =
      weights m c d ⟨n.val, by omega⟩ := fun n => by
    unfold weights
    after_reads_at
  have h2 : ∀ n : Fin 832, StableHlo.upto hostOps0 (fun b => m (c, b)) 6 (Proc.tc.devRef main_v2) (ix2 d n) =
      weights m c d ⟨1296 + n.val, by omega⟩ := fun n => by
    unfold weights
    after_reads_at
  have h3 : ∀ n : Fin 16, StableHlo.upto hostOps0 (fun b => m (c, b)) 6 (Proc.tc.devRef main_v3) (ix2 d n) =
      weights m c d ⟨1280 + n.val, by omega⟩ := fun n => by
    unfold weights
    after_reads_at
  have h4 : ∀ n : Fin 1024, StableHlo.upto hostOps0 (fun b => m (c, b)) 6 (Proc.tc.devRef main_v4) (ix2 d n) =
      weights m c d ⟨2128 + n.val, by omega⟩ := fun n => by
    unfold weights
    after_reads_at
  (repeat' split) <;> first
    | (exfalso; omega)
    | exact h0 _
    | exact h1 _
    | (refine (h1 _).trans (congrArg (weights m c d) (Fin.ext ?_)); dsimp only; omega)
    | (refine (h2 _).trans (congrArg (weights m c d) (Fin.ext ?_)); dsimp only; omega)
    | (refine (h3 _).trans (congrArg (weights m c d) (Fin.ext ?_)); dsimp only; omega)
    | (refine (h4 _).trans (congrArg (weights m c d) (Fin.ext ?_)); dsimp only; omega)

theorem idx (t : Fin grid0.N) : win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] := by
  revert t; decide +kernel

/-- Row `r` of grid point `t`'s block. -/
def rowOf (t : Fin grid0.N) (r : Fin 1024) : Fin 32768 := ⟨t.val * 1024 + r.val, by
  have : t.val < 32 := t.isLt
  omega⟩

theorem row_block (t : Fin grid0.N) (r e : Fin 1024) : iblk m c 0 t (ix2 r e) = row m c (rowOf t r) e := by
  obtain ⟨e0, -⟩ := idx t
  rw [← row_at]
  unfold rowOf
  blk_ext [iblk, e0]

theorem gains_block (t : Fin grid0.N) (e : Fin 1024) : iblk m c 1 t (ix2 0 e) = gains m c e := by
  obtain ⟨-, e0, -⟩ := idx t
  rw [← gains_at]
  blk_ext [iblk, e0]

theorem packed_block (t : Fin grid0.N) (d : Fin 1024) (n : Fin 3200) : iblk m c 2 t (ix2 d n) = packed (weights m c) d n := by
  obtain ⟨-, -, e0, -⟩ := idx t
  rw [← packed_at]
  blk_ext [iblk, e0]

/-- Column `n` of the projected row `R`, by the packed weights. -/
def projected (R : Fin 32768) (n : Fin 3200) : EReal :=
  dot (row m c R) (gains m c) (fun d => packed (weights m c) d n)

theorem projected_block (t : Fin grid0.N) (r : Fin 1024) (n : Fin 3200) :
    dot (fun e => iblk m c 0 t (ix2 r e)) (fun e => iblk m c 1 t (ix2 0 e)) (fun d => iblk m c 2 t (ix2 d n)) =
      projected m c (rowOf t r) n := by
  simp only [row_block, gains_block, packed_block]
  rfl

/-- The five results: bands of columns of the projected rows. -/
def result3 : Vec Ideal S32768x256 .f32 := fun i => projected m c (i 0) ⟨(i 1).val, by
  have h : (i 1).val < 256 := (i 1).isLt
  omega⟩
def result4 : Vec Ideal S32768x512 .f32 := fun i => projected m c (i 0) ⟨256 + (i 1).val, by
  have h : (i 1).val < 512 := (i 1).isLt
  omega⟩
def result5 : Vec Ideal S32768x512 .f32 := fun i => projected m c (i 0) ⟨768 + (i 1).val, by
  have h : (i 1).val < 512 := (i 1).isLt
  omega⟩
def result6 : Vec Ideal S32768x896 .f32 := fun i => projected m c (i 0) ⟨1280 + (i 1).val, by
  have h : (i 1).val < 896 := (i 1).isLt
  omega⟩
def result7 : Vec Ideal S32768x1024 .bf16 := fun i => projected m c (i 0) ⟨2176 + (i 1).val, by
  have h : (i 1).val < 1024 := (i 1).isLt
  omega⟩

theorem final3 : (dats m 0 c).arrAt 3 cfg0.N = result3 m c := by
  refine (dats m 0 c).arrAt_eq_of_covers 3 _ (by decide +kernel) fun t hf y => ?_
  obtain ⟨r, l, rfl⟩ : ∃ (r : Fin 1024) (l : Fin 256), y = ix2 r l := ⟨y 0, y 1, eq_ix2 y⟩
  have e0 : win0_3.index t = ![t.val, 0] := (idx t).2.2.2.1
  blk_simp
  rw [after0_3, out3_at, projected_block]
  have h0 : (((cfg0.win 3).blk t).view.emb (ix2 r l) 0 : ℕ) = t.val * 1024 + r.val := by blk_simp [e0]
  have h1 : (((cfg0.win 3).blk t).view.emb (ix2 r l) 1 : ℕ) = l.val := by blk_simp [e0]
  unfold result3
  exact congrArg₂ (projected m c) (Fin.ext h0.symm) (Fin.ext h1.symm)

theorem final4 : (dats m 0 c).arrAt 4 cfg0.N = result4 m c := by
  refine (dats m 0 c).arrAt_eq_of_covers 4 _ (by decide +kernel) fun t hf y => ?_
  obtain ⟨r, l, rfl⟩ : ∃ (r : Fin 1024) (l : Fin 512), y = ix2 r l := ⟨y 0, y 1, eq_ix2 y⟩
  have e0 : win0_4.index t = ![t.val, 0] := (idx t).2.2.2.2.1
  blk_simp
  rw [after0_4, out4_at, projected_block]
  have h0 : (((cfg0.win 4).blk t).view.emb (ix2 r l) 0 : ℕ) = t.val * 1024 + r.val := by blk_simp [e0]
  have h1 : (((cfg0.win 4).blk t).view.emb (ix2 r l) 1 : ℕ) = l.val := by blk_simp [e0]
  unfold result4
  exact congrArg₂ (projected m c) (Fin.ext h0.symm) (Fin.ext (congrArg (256 + ·) h1.symm))

theorem final5 : (dats m 0 c).arrAt 5 cfg0.N = result5 m c := by
  refine (dats m 0 c).arrAt_eq_of_covers 5 _ (by decide +kernel) fun t hf y => ?_
  obtain ⟨r, l, rfl⟩ : ∃ (r : Fin 1024) (l : Fin 512), y = ix2 r l := ⟨y 0, y 1, eq_ix2 y⟩
  have e0 : win0_5.index t = ![t.val, 0] := (idx t).2.2.2.2.2.1
  blk_simp
  rw [after0_5, out5_at, projected_block]
  have h0 : (((cfg0.win 5).blk t).view.emb (ix2 r l) 0 : ℕ) = t.val * 1024 + r.val := by blk_simp [e0]
  have h1 : (((cfg0.win 5).blk t).view.emb (ix2 r l) 1 : ℕ) = l.val := by blk_simp [e0]
  unfold result5
  exact congrArg₂ (projected m c) (Fin.ext h0.symm) (Fin.ext (congrArg (768 + ·) h1.symm))

theorem final6 : (dats m 0 c).arrAt 6 cfg0.N = result6 m c := by
  refine (dats m 0 c).arrAt_eq_of_covers 6 _ (by decide +kernel) fun t hf y => ?_
  obtain ⟨r, l, rfl⟩ : ∃ (r : Fin 1024) (l : Fin 896), y = ix2 r l := ⟨y 0, y 1, eq_ix2 y⟩
  have e0 : win0_6.index t = ![t.val, 0] := (idx t).2.2.2.2.2.2.1
  blk_simp
  rw [after0_6, out6_at, projected_block]
  have h0 : (((cfg0.win 6).blk t).view.emb (ix2 r l) 0 : ℕ) = t.val * 1024 + r.val := by blk_simp [e0]
  have h1 : (((cfg0.win 6).blk t).view.emb (ix2 r l) 1 : ℕ) = l.val := by blk_simp [e0]
  unfold result6
  exact congrArg₂ (projected m c) (Fin.ext h0.symm) (Fin.ext (congrArg (1280 + ·) h1.symm))

theorem final7 : (dats m 0 c).arrAt 7 cfg0.N = result7 m c := by
  refine (dats m 0 c).arrAt_eq_of_covers 7 _ (by decide +kernel) fun t hf y => ?_
  obtain ⟨r, l, rfl⟩ : ∃ (r : Fin 1024) (l : Fin 1024), y = ix2 r l := ⟨y 0, y 1, eq_ix2 y⟩
  have e0 : win0_7.index t = ![t.val, 0] := (idx t).2.2.2.2.2.2.2
  blk_simp
  rw [after0_7, out7_at, projected_block]
  have h0 : (((cfg0.win 7).blk t).view.emb (ix2 r l) 0 : ℕ) = t.val * 1024 + r.val := by blk_simp [e0]
  have h1 : (((cfg0.win 7).blk t).view.emb (ix2 r l) 1 : ℕ) = l.val := by blk_simp [e0]
  unfold result7
  exact congrArg₂ (projected m c) (Fin.ext h0.symm) (Fin.ext (congrArg (2176 + ·) h1.symm))

end Cert.InProj

end
-- ==== Proof.InProjRef.lean ====
/- The reference's projection, its five results index by index. -/
module

public import proofs.«01_k».proof.Proof.ProjNorm
public import proofs.«01_k».proof.Proof.Gen.Reference3Ideal.Run
public import Idealize.ShloMosaic.Lib.Pointwise

@[expose] public section

set_option maxRecDepth 16384

noncomputable section

namespace Cert.InProj.Ref

open Cert.Proj Cert.Reference3Ideal Cert.Reference3Ideal.Gen Cert.Reference3Ideal.Value Idealize.ShloMosaic

/-- The reference's projected rows. -/
def projected (x : FVec Ideal S16x2048x1024 .f32) (g : FVec Ideal S1024 .f32) (w : FVec Ideal S1024x3152 .f32) :
    FVec Ideal S16x2048x3152 .f32 :=
  Host.dotGeneral dot_S16x2048x1024_S1024x3152_S16x2048x3152_2_0_01_1_n_n none
    (mulf (mulf x (broadcastInDim S16x2048x1024 ![0, 1, 2] bcast_S16x2048x1_S16x2048x1024_0_1_2
      (Host.rsqrt (addf (Host.divf (broadcastInDim S16x2048x1 ![0, 1] bcast_S16x2048_S16x2048x1_0_1
        (Host.reduceAdd (mulf x x) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32))))))
      (broadcastInDim S16x2048x1024 ![0, 1, 2] bcast_S1x1x1024_S16x2048x1024_0_1_2 (broadcastInDim S1x1x1024 ![2] bcast_S1024_S1x1x1024_2 g)))
    w

theorem projected_at (x : FVec Ideal S16x2048x1024 .f32) (g : FVec Ideal S1024 .f32) (w : FVec Ideal S1024x3152 .f32)
    (b : Fin 16) (s : Fin 2048) (n : Fin 3152) : projected x g w (ix3 b s n) =
      ∑ d, normed (fun e => x (ix3 b s e)) (fun e => g (ix1 e)) d * w (ix2 d n) := by
  unfold projected normed
  pointwise

variable (z : FVec Ideal S16x2048x3152 .f32) (R : Fin 32768)

theorem out0_at (l : Fin 256) : (shapeCast S32768x256 (extractStridedSlice S16x2048x256 ![0, 0, 0] z slices_S16x2048x3152_S16x2048x256_0_0_0)
    shapeCasts_S16x2048x256_S32768x256 : FVec Ideal S32768x256 .f32) (ix2 R l) = z (ix3 (imageOf R) (placeOf R) ⟨l.val, by omega⟩) := by
  unfold imageOf placeOf
  pointwise

theorem out1_at (l : Fin 512) : (shapeCast S32768x512 (concatenate S16x2048x512 2
    [⟨S16x2048x256, (extractStridedSlice S16x2048x256 ![0, 0, 256] z slices_S16x2048x3152_S16x2048x256_0_0_256 : FVec Ideal S16x2048x256 .f32)⟩,
      ⟨S16x2048x128, (extractStridedSlice S16x2048x128 ![0, 0, 512] z slices_S16x2048x3152_S16x2048x128_0_0_512 : FVec Ideal S16x2048x128 .f32)⟩,
      ⟨S16x2048x128, (extractStridedSlice S16x2048x128 ![0, 0, 640] z slices_S16x2048x3152_S16x2048x128_0_0_640 : FVec Ideal S16x2048x128 .f32)⟩]
    concatenates_S16x2048x256_S16x2048x128_S16x2048x128_S16x2048x512_d2 : FVec Ideal S16x2048x512 .f32)
    shapeCasts_S16x2048x512_S32768x512 : FVec Ideal S32768x512 .f32) (ix2 R l) =
      z (ix3 (imageOf R) (placeOf R) ⟨256 + l.val, by omega⟩) := by
  unfold imageOf placeOf
  pointwise
  (repeat' split) <;> first
    | rfl
    | (exfalso; omega)
    | (refine congrArg (fun q => z (ix3 (imageOf R) (placeOf R) q)) (Fin.ext ?_); dsimp only; omega)

theorem out2_at (l : Fin 512) : (shapeCast S32768x512 (concatenate S16x2048x512 2
    [⟨S16x2048x128, (extractStridedSlice S16x2048x128 ![0, 0, 768] z slices_S16x2048x3152_S16x2048x128_0_0_768 : FVec Ideal S16x2048x128 .f32)⟩,
      ⟨S16x2048x128, (extractStridedSlice S16x2048x128 ![0, 0, 896] z slices_S16x2048x3152_S16x2048x128_0_0_896 : FVec Ideal S16x2048x128 .f32)⟩,
      ⟨S16x2048x256, (extractStridedSlice S16x2048x256 ![0, 0, 1024] z slices_S16x2048x3152_S16x2048x256_0_0_1024 : FVec Ideal S16x2048x256 .f32)⟩]
    concatenates_S16x2048x128_S16x2048x128_S16x2048x256_S16x2048x512_d2 : FVec Ideal S16x2048x512 .f32)
    shapeCasts_S16x2048x512_S32768x512 : FVec Ideal S32768x512 .f32) (ix2 R l) =
      z (ix3 (imageOf R) (placeOf R) ⟨768 + l.val, by omega⟩) := by
  unfold imageOf placeOf
  pointwise
  (repeat' split) <;> first
    | rfl
    | (exfalso; omega)
    | (refine congrArg (fun q => z (ix3 (imageOf R) (placeOf R) q)) (Fin.ext ?_); dsimp only; omega)

theorem out3_at (l : Fin 896) : (shapeCast S32768x896 (concatenate S16x2048x896 2
    [⟨S16x2048x832, (extractStridedSlice S16x2048x832 ![0, 0, 1296] z slices_S16x2048x3152_S16x2048x832_0_0_1296 : FVec Ideal S16x2048x832 .f32)⟩,
      ⟨S16x2048x16, (extractStridedSlice S16x2048x16 ![0, 0, 1280] z slices_S16x2048x3152_S16x2048x16_0_0_1280 : FVec Ideal S16x2048x16 .f32)⟩,
      ⟨S16x2048x48, (broadcastInDim S16x2048x48 ![] bcast_S_S16x2048x48 (constant S_ .f32 0x00000000#32) : FVec Ideal S16x2048x48 .f32)⟩]
    concatenates_S16x2048x832_S16x2048x16_S16x2048x48_S16x2048x896_d2 : FVec Ideal S16x2048x896 .f32)
    shapeCasts_S16x2048x896_S32768x896 : FVec Ideal S32768x896 .f32) (ix2 R l) =
      if l.val < 832 then z (ix3 (imageOf R) (placeOf R) ⟨1296 + l.val, by omega⟩)
      else if h : l.val < 848 then z (ix3 (imageOf R) (placeOf R) ⟨448 + l.val, by omega⟩) else 0 := by
  unfold imageOf placeOf
  pointwise
  (repeat' split) <;> first
    | rfl
    | (exfalso; omega)
    | (refine congrArg (fun q => z (ix3 (imageOf R) (placeOf R) q)) (Fin.ext ?_); dsimp only; omega)

theorem out4_at (l : Fin 1024) : (truncf .bf16 (shapeCast S32768x1024 (extractStridedSlice S16x2048x1024 ![0, 0, 2128] z
    slices_S16x2048x3152_S16x2048x1024_0_0_2128) shapeCasts_S16x2048x1024_S32768x1024) bitsLt_bf16_f32 : FVec Ideal S32768x1024 .bf16) (ix2 R l) =
      z (ix3 (imageOf R) (placeOf R) ⟨2128 + l.val, by omega⟩) := by
  unfold imageOf placeOf
  pointwise

end Cert.InProj.Ref

end
-- ==== Proof.InProjTie.lean ====
/- The input projection kernel's result arrays against the reference's. -/
module

public import proofs.«01_k».proof.Proof.InProjKernel
public import proofs.«01_k».proof.Proof.InProjRef

@[expose] public section

set_option maxRecDepth 16384

noncomputable section

namespace Cert.InProj

open Cert.Proj Idealize.ShloMosaic Idealize.ShloMosaic.TcCoe

theorem dot_zero (x g : Fin 1024 → EReal) : dot x g (fun _ => 0) = 0 := by
  unfold dot
  simp only [mul_zero, Finset.sum_const_zero]

variable (m : (ℓ : Loc Cert.Kernel3Ideal.nD Cert.Kernel3Ideal.τ Cert.Kernel3Ideal.sig) → Buf (Elt Ideal) ℓ) (c : Dev Cert.Kernel3Ideal.nD)
  (z : FVec Ideal Cert.Reference3Ideal.S16x2048x3152 .f32)
  (hz : ∀ (R : Fin 32768) (n : Fin 3152), z (ix3 (imageOf R) (placeOf R) n) = dot (row m c R) (gains m c) (fun d => weights m c d n))

include hz

/-- A packed column that holds column `k` of the weights gives the reference's column `k`. -/
theorem column (R : Fin 32768) (n : Fin 3200) (k : Fin 3152) (h : ∀ d, packed (weights m c) d n = weights m c d k) :
    z (ix3 (imageOf R) (placeOf R) k) = projected m c R n := by
  rw [hz]
  exact congrArg (dot (row m c R) (gains m c)) (funext fun d => (h d).symm)

theorem tie0 (R : Fin 32768) (l : Fin 256) : z (ix3 (imageOf R) (placeOf R) ⟨l.val, by omega⟩) = result3 m c (ix2 R l) :=
  column m c z hz R _ _ fun d => dif_pos (show l.val < 1280 by omega)

theorem tie1 (R : Fin 32768) (l : Fin 512) : z (ix3 (imageOf R) (placeOf R) ⟨256 + l.val, by omega⟩) = result4 m c (ix2 R l) :=
  column m c z hz R _ _ fun d => dif_pos (show 256 + l.val < 1280 by omega)

theorem tie2 (R : Fin 32768) (l : Fin 512) : z (ix3 (imageOf R) (placeOf R) ⟨768 + l.val, by omega⟩) = result5 m c (ix2 R l) :=
  column m c z hz R _ _ fun d => dif_pos (show 768 + l.val < 1280 by omega)

theorem tie3 (R : Fin 32768) (l : Fin 896) :
    (if l.val < 832 then z (ix3 (imageOf R) (placeOf R) ⟨1296 + l.val, by omega⟩)
      else if h : l.val < 848 then z (ix3 (imageOf R) (placeOf R) ⟨448 + l.val, by omega⟩) else 0) = result6 m c (ix2 R l) := by
  by_cases h : l.val < 832
  · rw [if_pos h]
    refine column m c z hz R _ _ fun d => ?_
    refine (dif_neg (show ¬ 1280 + l.val < 1280 by omega)).trans ((dif_pos (show 1280 + l.val < 2112 by omega)).trans ?_)
    exact congrArg (weights m c d) (Fin.ext (show 1280 + l.val + 16 = 1296 + l.val by omega))
  · rw [if_neg h]
    by_cases h' : l.val < 848
    · rw [dif_pos h']
      refine column m c z hz R _ _ fun d => ?_
      refine (dif_neg (show ¬ 1280 + l.val < 1280 by omega)).trans ((dif_neg (show ¬ 1280 + l.val < 2112 by omega)).trans
        ((dif_pos (show 1280 + l.val < 2128 by omega)).trans ?_))
      exact congrArg (weights m c d) (Fin.ext (show 1280 + l.val - 832 = 448 + l.val by omega))
    · rw [dif_neg h']
      show (0 : EReal) = dot (row m c R) (gains m c) (fun d => packed (weights m c) d ⟨1280 + l.val, by omega⟩)
      refine (dot_zero (row m c R) (gains m c)).symm.trans (congrArg (dot (row m c R) (gains m c)) (funext fun d => ?_))
      exact ((dif_neg (show ¬ 1280 + l.val < 1280 by omega)).trans ((dif_neg (show ¬ 1280 + l.val < 2112 by omega)).trans
        ((dif_neg (show ¬ 1280 + l.val < 2128 by omega)).trans (dif_pos (show 1280 + l.val < 2176 by omega))))).symm

theorem tie4 (R : Fin 32768) (l : Fin 1024) : z (ix3 (imageOf R) (placeOf R) ⟨2128 + l.val, by omega⟩) = result7 m c (ix2 R l) := by
  refine column m c z hz R _ _ fun d => ?_
  refine (dif_neg (show ¬ 2176 + l.val < 1280 by omega)).trans ((dif_neg (show ¬ 2176 + l.val < 2112 by omega)).trans
    ((dif_neg (show ¬ 2176 + l.val < 2128 by omega)).trans ((dif_neg (show ¬ 2176 + l.val < 2176 by omega)).trans ?_)))
  exact congrArg (weights m c d) (Fin.ext (show 2176 + l.val - 48 = 2128 + l.val by omega))

end Cert.InProj

end
-- ==== Proof.LruMath.lean ====
/- One image of the gated linear recurrence, over the extended reals: the shifted convolution, the gates, and the
   recurrence as a chain of rows and as a scan that doubles its reach. -/
module

public import Idealize.ShloMosaic.PureOps.Ideal.Laws

@[expose] public section

noncomputable section

namespace Cert.Lru

open Idealize.ShloMosaic

/-- Row `s - d` of `f`; `z` before row `d`. -/
def shift (d : ℕ) (f : Fin 8 → EReal) (z : EReal) (s : Fin 8) : EReal :=
  if d ≤ s.val then f ⟨s.val - d, by omega⟩ else z

/-- The rows of `x` behind the three rows of `p`. -/
def behind (p : Fin 3 → EReal) (x : Fin 8 → EReal) (n : Fin 11) : EReal :=
  if h : n.val < 3 then p ⟨n.val, h⟩ else x ⟨n.val - 3, by omega⟩

/-- The convolution over the row and the three rows before it. -/
def conv (w : Fin 4 → EReal) (b : EReal) (p : Fin 3 → EReal) (x : Fin 8 → EReal) (s : Fin 8) : EReal :=
  w 3 * behind p x ⟨s.val + 3, by omega⟩ + b + w 2 * behind p x ⟨s.val + 2, by omega⟩ +
    w 1 * behind p x ⟨s.val + 1, by omega⟩ + w 0 * behind p x ⟨s.val, by omega⟩

/-- The logarithm's soft bound of `x`. -/
def softplus (x : EReal) : EReal := max x 0 + Ideal.log1p (Ideal.exp (-max x (-x)))

/-- The decay's logarithm from its gate and its rate. -/
def logDecay (g l : EReal) : EReal := ((-8 : ℝ) : EReal) * Ideal.logistic g * softplus (-l)

/-- The input's weight beside decay `a`. -/
def weight (a : EReal) : EReal := if 0 < 1 - a * a then (1 - a * a) * Ideal.rsqrt (1 - a * a) else 0

/-- One step of the scan: the decays and the inputs of the rows `d` before. -/
def stepA (d : ℕ) (A : Fin 8 → EReal) (s : Fin 8) : EReal := A s * shift d A 1 s
def stepB (d : ℕ) (A B : Fin 8 → EReal) (s : Fin 8) : EReal := A s * shift d B 0 s + B s

/-- The recurrence after `n` rows. -/
def run (a b : Fin 8 → EReal) (h0 : EReal) : ℕ → EReal
  | 0 => h0
  | n + 1 => a (Fin.ofNat 8 n) * run a b h0 n + b (Fin.ofNat 8 n)

/-- The scan of eight rows by three doublings, and the recurrence from it. -/
def scanA (a : Fin 8 → EReal) : Fin 8 → EReal := stepA 4 (stepA 2 (stepA 1 a))
def scanB (a b : Fin 8 → EReal) : Fin 8 → EReal := stepB 4 (stepA 2 (stepA 1 a)) (stepB 2 (stepA 1 a) (stepB 1 a b))
def scan (a b : Fin 8 → EReal) (h0 : EReal) (s : Fin 8) : EReal := scanA a s * h0 + scanB a b s

theorem softplus_nonneg (x : EReal) : 0 ≤ softplus x := by
  refine add_nonneg (le_max_right _ _) ?_
  have h : ∀ y : EReal, 0 ≤ y → 0 ≤ Ideal.log (1 + y) := fun y hy => by
    induction y with
    | bot => exact absurd hy (by simp)
    | top => rw [EReal.add_top_of_ne_bot (show (1 : EReal) ≠ ⊥ from EReal.coe_ne_bot 1)]; simp
    | coe r =>
      have hr : 0 ≤ r := by exact_mod_cast hy
      rw [← EReal.coe_one, ← EReal.coe_add, Ideal.log_coe, if_neg (by linarith)]
      exact EReal.coe_nonneg.2 (Real.log_nonneg (by linarith))
  refine h _ ?_
  induction -max x (-x) with
  | bot => exact le_refl _
  | top => exact le_top
  | coe r => exact EReal.coe_nonneg.2 (Real.exp_pos r).le

theorem logDecay_nonpos (g l : EReal) : logDecay g l ≤ 0 := by
  have h : 0 ≤ Ideal.logistic g ∧ Ideal.logistic g ≠ ⊤ := by
    induction g with
    | bot => simp
    | top => rw [Ideal.logistic_top]; exact ⟨zero_le_one, EReal.coe_ne_top 1⟩
    | coe r =>
      rw [Ideal.logistic_coe]
      exact ⟨EReal.coe_nonneg.2 (by positivity), EReal.coe_ne_top _⟩
  unfold logDecay
  have h8 : ((-8 : ℝ) : EReal) * Ideal.logistic g ≤ 0 :=
    mul_nonpos_of_nonpos_of_nonneg (by exact_mod_cast (by norm_num : (-8 : ℝ) ≤ 0)) h.1
  exact mul_nonpos_of_nonpos_of_nonneg h8 (softplus_nonneg _)

/-- A nonpositive logarithm's exponential is a real between zero and one. -/
theorem exp_real (x : EReal) (h : x ≤ 0) : ∃ r : ℝ, 0 ≤ r ∧ r ≤ 1 ∧ Ideal.exp x = r := by
  induction x with
  | bot => exact ⟨0, le_refl _, zero_le_one, rfl⟩
  | top => exact absurd h (by simp)
  | coe r => exact ⟨Real.exp r, (Real.exp_pos r).le, Real.exp_le_one_iff.2 (by exact_mod_cast h), rfl⟩

theorem exp_double (x : EReal) : Ideal.exp (((2 : ℝ) : EReal) * x) = Ideal.exp x * Ideal.exp x := by
  induction x with
  | bot => rw [EReal.coe_mul_bot_of_pos (by norm_num)]; simp
  | top => rw [EReal.coe_mul_top_of_pos (by norm_num)]; simp
  | coe r => rw [← EReal.coe_mul, Ideal.exp_coe, Ideal.exp_coe, ← EReal.coe_mul, ← Real.exp_add, two_mul]

/-- The input's weight as the root of one less the decay's square. -/
theorem weight_eq (x : EReal) (h : x ≤ 0) :
    Ideal.sqrt (-(Ideal.exp (((2 : ℝ) : EReal) * x) - 1)) = weight (Ideal.exp x) := by
  obtain ⟨r, h0, h1, hr⟩ := exp_real x h
  rw [exp_double, hr]
  unfold weight
  have hg : (1 : EReal) - r * r = ((1 - r * r : ℝ) : EReal) := by push_cast; rfl
  have hn : -((r : EReal) * r - 1) = ((1 - r * r : ℝ) : EReal) := by
    rw [← EReal.coe_mul, ← EReal.coe_one, ← EReal.coe_sub, ← EReal.coe_neg, neg_sub]
  have hp : 0 ≤ 1 - r * r := by nlinarith
  rw [hg, hn, Ideal.sqrt_coe, if_neg (not_lt.2 hp)]
  by_cases hz : 0 < 1 - r * r
  · rw [if_pos (by exact_mod_cast hz), Ideal.rsqrt_coe, if_neg (not_lt.2 hp), if_neg hz.ne', ← EReal.coe_mul]
    congr 1
    rw [← div_eq_mul_inv, Real.div_sqrt]
  · rw [if_neg (by exact_mod_cast hz), le_antisymm (not_lt.1 hz) hp]
    simp

theorem shift_shift (d : ℕ) (f : Fin 8 → EReal) (z : EReal) (s : Fin 8) (h : d ≤ s.val) :
    shift d f z ⟨s.val - d, by omega⟩ = shift (d + d) f z s := by
  unfold shift
  dsimp only
  by_cases h' : d ≤ s.val - d
  · rw [if_pos h', if_pos (by omega)]
    congr 2
    omega
  · rw [if_neg h', if_neg (by omega)]

/-- The decays stay reals at or above zero through a step. -/
theorem stepA_ok (d : ℕ) (A : Fin 8 → EReal) (hA : ∀ s, ∃ r : ℝ, 0 ≤ r ∧ A s = r) (s : Fin 8) : ∃ r : ℝ, 0 ≤ r ∧ stepA d A s = r := by
  obtain ⟨r, h0, hr⟩ := hA s
  obtain ⟨q, q0, hq⟩ : ∃ q : ℝ, 0 ≤ q ∧ shift d A 1 s = q := by
    unfold shift
    split
    · exact hA _
    · exact ⟨1, zero_le_one, rfl⟩
  exact ⟨r * q, mul_nonneg h0 q0, by rw [stepA, hr, hq, EReal.coe_mul]⟩

/-- A step doubles the reach of the scan. -/
theorem step (d : ℕ) (A B h : Fin 8 → EReal) (h0 : EReal) (hA : ∀ s, ∃ r : ℝ, 0 ≤ r ∧ A s = r)
    (H : ∀ s, h s = A s * shift d h h0 s + B s) (s : Fin 8) :
    h s = stepA d A s * shift (d + d) h h0 s + stepB d A B s := by
  obtain ⟨r, r0, hr⟩ := hA s
  have hs : shift d h h0 s = shift d A 1 s * shift (d + d) h h0 s + shift d B 0 s := by
    by_cases hd : d ≤ s.val
    · rw [← shift_shift d h h0 s hd]
      have := H ⟨s.val - d, by omega⟩
      simpa only [shift, if_pos hd] using this
    · simp only [shift, if_neg hd, if_neg (show ¬ d + d ≤ s.val by omega), one_mul, add_zero]
  rw [H s, stepA, stepB, hs, hr, EReal.left_distrib_of_nonneg_of_ne_top (EReal.coe_nonneg.2 r0) (EReal.coe_ne_top r),
    mul_assoc, add_assoc]

/-- The scan gives the recurrence. -/
theorem scan_eq (a b : Fin 8 → EReal) (h0 : EReal) (ha : ∀ s, ∃ r : ℝ, 0 ≤ r ∧ a s = r) (s : Fin 8) :
    scan a b h0 s = run a b h0 (s.val + 1) := by
  have H : ∀ s : Fin 8, run a b h0 (s.val + 1) = a s * shift 1 (fun q => run a b h0 (q.val + 1)) h0 s + b s := by
    intro s
    fin_cases s <;> rfl
  have H1 := step 1 a b _ h0 ha H
  have H2 := step 2 _ _ _ h0 (stepA_ok 1 a ha) H1
  have H3 := step 4 _ _ _ h0 (stepA_ok 2 _ (stepA_ok 1 a ha)) H2 s
  refine Eq.trans ?_ H3.symm
  unfold scan scanA scanB
  congr 2
  unfold shift
  rw [if_neg (by omega)]

end Cert.Lru

end
-- ==== Proof.LruGate.lean ====
module

public import proofs.«01_k».proof.Proof.LruMath
public import proofs.«01_k».proof.Proof.Gen.Kernel4Ideal.Skeleton
public import Idealize.ShloMosaic.Lib.Pipeline.ValueKit
public import Idealize.ShloMosaic.Lib.Pointwise

@[expose] public section

noncomputable section

namespace Cert.Lru

open Cert.Kernel4Ideal Cert.Kernel4Ideal.Gen Idealize.ShloMosaic Idealize.ShloMosaic.TcCoe

/-- The flat row of row `s` of image `e`. -/
abbrev row (e : Fin 32) (s : Fin 8) : Fin 256 := ⟨e.val * 8 + s.val, by omega⟩

/-- A gate's input: a product of the row with the matrix, and the bias. -/
def lin (x : Fin 256 → EReal) (w : Fin 256 → Fin 256 → EReal) (b : Fin 256 → EReal) (l : Fin 256) : EReal :=
  ∑ k, x k * w k l + b l

theorem flat_at (X : Vec Ideal S32x8x256 .f32) (e : Fin 32) (s : Fin 8) (l : Fin 256) :
    k0_pay162 (F := Ideal) X (ix2 (row e s) l) = X (ix3 e s l) := by
  unfold k0_pay162
  pointwise
  exact congrArg₂ (fun p q => X (ix3 p q l)) (Fin.ext (by dsimp only; omega)) (Fin.ext (by dsimp only; omega))

theorem mat_at (X : Vec Ideal S32x8x256 .f32) (w : Vec Ideal S256x256 .f32) (e : Fin 32) (s : Fin 8) (l : Fin 256) :
    k0_pay163 (F := Ideal) X w (ix2 (row e s) l) = ∑ k : Fin 256, X (ix3 e s k) * w (ix2 k l) := by
  unfold k0_pay163
  pointwise
  simp only [flat_at]

theorem gate_at (X : Vec Ideal S256x256 .f32) (w : Vec Ideal S256x256 .f32) (b : Vec Ideal S1x256 .f32) (n l : Fin 256) :
    k0_pay164 (F := Ideal) X w b (ix2 n l) = ∑ k : Fin 256, X (ix2 n k) * w (ix2 k l) + b (ix2 0 l) := by
  unfold k0_pay164
  pointwise

theorem decay_at (G : Vec Ideal S256x256 .f32) (b : Vec Ideal S1x256 .f32) (lam : Vec Ideal S1x256 .f32) (n l : Fin 256) :
    k0_pay165 (F := Ideal) G b lam (ix2 n l) = Ideal.exp (logDecay (G (ix2 n l) + b (ix2 0 l)) (lam (ix2 0 l))) := by
  unfold k0_pay165
  pointwise
  have h (x : EReal) : FloatOps.absf (F := Ideal) (φ := .f32) x = max x (-x) := rfl
  have h8 : Ideal.ofBits .f32 3238002688#32 = ((-8 : ℝ) : EReal) := by
    simp [Ideal.ofBits, Ideal.ieee]
    norm_cast
    norm_num
  simp only [ne_eq, not_true_eq_false, ↓reduceIte, logDecay, softplus, zero_sub, h, h8]

theorem weight_at (G : Vec Ideal S256x256 .f32) (b : Vec Ideal S1x256 .f32) (lam : Vec Ideal S1x256 .f32) (n l : Fin 256) :
    (select (k0_pay167 G b lam) (k0_pay168 G b lam) (k0_pay169 (F := Ideal)) : Vec Ideal S256x256 .f32) (ix2 n l) = weight (k0_pay165 G b lam (ix2 n l)) := by
  unfold k0_pay167 k0_pay168 k0_pay169 k0_pay166
  pointwise
  rfl

theorem scanA_at (A : Vec Ideal S256x256 .f32) (e : Fin 32) (s : Fin 8) (l : Fin 256) :
    k0_pay178 (F := Ideal) (k0_pay174 (iota Kind.tc S1x8x256 32 [1] iota_S1x8x256_d1_w32) A) (k0_pay175 (iota Kind.tc S1x8x256 32 [1] iota_S1x8x256_d1_w32))
      (k0_pay177 (iota Kind.tc S1x8x256 32 [1] iota_S1x8x256_d1_w32) A) (ix3 e s l) = scanA (fun q => A (ix2 (row e q) l)) s := by
  unfold k0_pay178 k0_pay174 k0_pay175 k0_pay177 k0_pay174 k0_pay172 k0_pay173 k0_pay171 k0_pay170
  pointwise
  obtain ⟨s, hs⟩ := s
  interval_cases s <;> simp [row, scanA, scanB, stepA, stepB, shift, Scalar.select, IntOp.cmpi]

theorem scanB_at (x g a w z : Vec Ideal S256x256 .f32) (m : IVec S256x256 1) (e : Fin 32) (s : Fin 8) (l : Fin 256) :
    k0_pay176 (F := Ideal) (iota Kind.tc S1x8x256 32 [1] iota_S1x8x256_d1_w32) x g a m w z (ix3 e s l) =
      scanB (fun q => a (ix2 (row e q) l)) (fun q => Scalar.select (m (ix2 (row e q) l)) (w (ix2 (row e q) l)) (z (ix2 (row e q) l)) * Ideal.logistic (g (ix2 (row e q) l)) * x (ix2 (row e q) l)) s := by
  unfold k0_pay176 k0_pay174 k0_pay175 k0_pay172 k0_pay173 k0_pay171 k0_pay170
  pointwise
  obtain ⟨s, hs⟩ := s
  have h1 (p q : EReal) : Scalar.select 1#1 p q = p := rfl
  have h0 (p q : EReal) : Scalar.select 0#1 p q = q := rfl
  interval_cases s <;> simp [row, scanA, scanB, stepA, stepB, shift, h1, h0, IntOp.cmpi]

end Cert.Lru

end
-- ==== Proof.LruCarry.lean ====
module

public import proofs.«01_k».proof.Proof.LruGate
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

variable (c : Dev nD) (arg2 : Memref sig .tc .vmem S32x8x256 .f32) (harg2 : arg2.IsWhole)
  (arg3 : Memref sig .tc .vmem S32x8x256 .f32) (harg3 : arg3.IsWhole) (arg4 : Memref sig .tc .vmem S32x1x256 .f32)
  (harg4 : arg4.IsWhole) (arg5 : Memref sig .tc .vmem S4x256 .f32) (harg5 : arg5.IsWhole)
  (arg6 : Memref sig .tc .vmem S1x256 .f32) (harg6 : arg6.IsWhole) (arg7 : Memref sig .tc .vmem S256x256 .f32)
  (harg7 : arg7.IsWhole) (arg8 : Memref sig .tc .vmem S1x256 .f32) (harg8 : arg8.IsWhole)
  (arg9 : Memref sig .tc .vmem S256x256 .f32) (harg9 : arg9.IsWhole) (arg10 : Memref sig .tc .vmem S1x256 .f32)
  (harg10 : arg10.IsWhole) (arg11 : Memref sig .tc .vmem S1x256 .f32) (harg11 : arg11.IsWhole)
  (arg12 : Memref sig .tc .vmem S1x256 .f32) (harg12 : arg12.IsWhole) (arg15 : Memref sig .tc .vmem S32x8x256 .f32)
  (arg16 : Memref sig .tc .vmem S32x1x256 .f32) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

/-- A store of one image leaves the load of a later one as it was. -/
theorem carry_skip (k j : ℕ) (hkj : k < j) (h) (hj) (p) (H : List (View.Piece (Elt Ideal) S32x1x256 .f32)) :
    (View.readCov (Val := Elt Ideal) arg16.view (⟨Rect.unit (s := S32x1x256) ![k, 0, 0] S1x1x256.size h, p⟩ :: H)
      (Rect.unit (s := S32x1x256) ![j, 0, 0] S1x1x256.size hj).toLoadRect : Vec Ideal S1x1x256 .f32) =
    View.readCov (Val := Elt Ideal) arg16.view H (Rect.unit (s := S32x1x256) ![j, 0, 0] S1x1x256.size hj).toLoadRect := by
  refine View.readCov_skip _ _ _ _ _ ?_
  simp only [LoadRect.disj, decide_eq_true_eq]
  refine ⟨0, Or.inr (Or.inr (Or.inl ?_))⟩
  show k + 1 * (1 - 1) < j
  omega

theorem carry_base (j : ℕ) (hj) : (View.readCov (Val := Elt Ideal) arg16.view (kernelRun0_A.sl.HS1_1 c arg4 harg4 x2)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_1 k0_pay34
  have hk : j < 32 := by
    have := hj 0
    simp at this
    omega
  have hf : Fin.ofNat 32 j = ⟨j, hk⟩ := Fin.ext (Nat.mod_eq_of_lt hk)
  simp only [hf]
  rw [View.readCov_fill _ _ _ _ _ (by decide)]
  funext i
  simp only [View.readAt_eq_ld, Memref.IsWhole.read_unread]
  pointwise

theorem chain0 (j : ℕ) (hk : 0 ≤ j) (hj) : (View.readCov (Val := Elt Ideal) arg16.view (kernelRun0_A.sl.HS1_1 c arg4 harg4 x2)
    (Rect.unit (s := S32x1x256) ![j, 0, 0] S1x1x256.size hj).toLoadRect : Vec Ideal S1x1x256 .f32) = fun i => x2 (ix3 (Fin.ofNat 32 j) 0 (i 2)) := by
  exact carry_base ..
theorem v696_at (l : Fin 256) : kernelRun0_A.sl.v696 c arg4 harg4 arg16 x2 (ix3 0 0 l) = x2 (ix3 0 0 l) := by
  unfold kernelRun0_A.sl.v696
  exact congrFun (chain0 (j := 0) (hk := le_rfl) ..) _

theorem chain1 (j : ℕ) (hk : 1 ≤ j) (hj) : (View.readCov (Val := Elt Ideal) arg16.view (kernelRun0_A.sl.HS1_2 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_2
  rw [carry_skip _ _ j (by omega)]
  exact chain0 (j := j) (hk := by omega) ..
theorem v713_at (l : Fin 256) : kernelRun0_A.sl.v713 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 1 0 l) := by
  unfold kernelRun0_A.sl.v713
  exact congrFun (chain1 (j := 1) (hk := le_rfl) ..) _

theorem chain2 (j : ℕ) (hk : 2 ≤ j) (hj) : (View.readCov (Val := Elt Ideal) arg16.view (kernelRun0_A.sl.HS1_3 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_3
  rw [carry_skip _ _ j (by omega)]
  exact chain1 (j := j) (hk := by omega) ..
theorem v730_at (l : Fin 256) : kernelRun0_A.sl.v730 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 2 0 l) := by
  unfold kernelRun0_A.sl.v730
  exact congrFun (chain2 (j := 2) (hk := le_rfl) ..) _

theorem chain3 (j : ℕ) (hk : 3 ≤ j) (hj) : (View.readCov (Val := Elt Ideal) arg16.view (kernelRun0_A.sl.HS1_4 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_4
  rw [carry_skip _ _ j (by omega)]
  exact chain2 (j := j) (hk := by omega) ..
theorem v747_at (l : Fin 256) : kernelRun0_A.sl.v747 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 3 0 l) := by
  unfold kernelRun0_A.sl.v747
  exact congrFun (chain3 (j := 3) (hk := le_rfl) ..) _

theorem chain4 (j : ℕ) (hk : 4 ≤ j) (hj) : (View.readCov (Val := Elt Ideal) arg16.view (kernelRun0_A.sl.HS1_5 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_5
  rw [carry_skip _ _ j (by omega)]
  exact chain3 (j := j) (hk := by omega) ..
theorem v764_at (l : Fin 256) : kernelRun0_A.sl.v764 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 4 0 l) := by
  unfold kernelRun0_A.sl.v764
  exact congrFun (chain4 (j := 4) (hk := le_rfl) ..) _

theorem chain5 (j : ℕ) (hk : 5 ≤ j) (hj) : (View.readCov (Val := Elt Ideal) arg16.view (kernelRun0_A.sl.HS1_6 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_6
  rw [carry_skip _ _ j (by omega)]
  exact chain4 (j := j) (hk := by omega) ..
theorem v781_at (l : Fin 256) : kernelRun0_A.sl.v781 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 5 0 l) := by
  unfold kernelRun0_A.sl.v781
  exact congrFun (chain5 (j := 5) (hk := le_rfl) ..) _

theorem chain6 (j : ℕ) (hk : 6 ≤ j) (hj) : (View.readCov (Val := Elt Ideal) arg16.view (kernelRun0_A.sl.HS1_7 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_7
  rw [carry_skip _ _ j (by omega)]
  exact chain5 (j := j) (hk := by omega) ..
theorem v798_at (l : Fin 256) : kernelRun0_A.sl.v798 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 6 0 l) := by
  unfold kernelRun0_A.sl.v798
  exact congrFun (chain6 (j := 6) (hk := le_rfl) ..) _

theorem chain7 (j : ℕ) (hk : 7 ≤ j) (hj) : (View.readCov (Val := Elt Ideal) arg16.view (kernelRun0_A.sl.HS1_8 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_8
  rw [carry_skip _ _ j (by omega)]
  exact chain6 (j := j) (hk := by omega) ..
theorem v815_at (l : Fin 256) : kernelRun0_A.sl.v815 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 7 0 l) := by
  unfold kernelRun0_A.sl.v815
  exact congrFun (chain7 (j := 7) (hk := le_rfl) ..) _

theorem chain8 (j : ℕ) (hk : 8 ≤ j) (hj) : (View.readCov (Val := Elt Ideal) arg16.view (kernelRun0_A.sl.HS1_9 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_9
  rw [carry_skip _ _ j (by omega)]
  exact chain7 (j := j) (hk := by omega) ..
theorem v832_at (l : Fin 256) : kernelRun0_A.sl.v832 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 8 0 l) := by
  unfold kernelRun0_A.sl.v832
  exact congrFun (chain8 (j := 8) (hk := le_rfl) ..) _

theorem chain9 (j : ℕ) (hk : 9 ≤ j) (hj) : (View.readCov (Val := Elt Ideal) arg16.view (kernelRun0_A.sl.HS1_10 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_10
  rw [carry_skip _ _ j (by omega)]
  exact chain8 (j := j) (hk := by omega) ..
theorem v849_at (l : Fin 256) : kernelRun0_A.sl.v849 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 9 0 l) := by
  unfold kernelRun0_A.sl.v849
  exact congrFun (chain9 (j := 9) (hk := le_rfl) ..) _

theorem chain10 (j : ℕ) (hk : 10 ≤ j) (hj) : (View.readCov (Val := Elt Ideal) arg16.view (kernelRun0_A.sl.HS1_11 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_11
  rw [carry_skip _ _ j (by omega)]
  exact chain9 (j := j) (hk := by omega) ..
theorem v866_at (l : Fin 256) : kernelRun0_A.sl.v866 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 10 0 l) := by
  unfold kernelRun0_A.sl.v866
  exact congrFun (chain10 (j := 10) (hk := le_rfl) ..) _

theorem chain11 (j : ℕ) (hk : 11 ≤ j) (hj) : (View.readCov (Val := Elt Ideal) arg16.view (kernelRun0_A.sl.HS1_12 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_12
  rw [carry_skip _ _ j (by omega)]
  exact chain10 (j := j) (hk := by omega) ..
theorem v883_at (l : Fin 256) : kernelRun0_A.sl.v883 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 11 0 l) := by
  unfold kernelRun0_A.sl.v883
  exact congrFun (chain11 (j := 11) (hk := le_rfl) ..) _

theorem chain12 (j : ℕ) (hk : 12 ≤ j) (hj) : (View.readCov (Val := Elt Ideal) arg16.view (kernelRun0_A.sl.HS1_13 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_13
  rw [carry_skip _ _ j (by omega)]
  exact chain11 (j := j) (hk := by omega) ..
theorem v900_at (l : Fin 256) : kernelRun0_A.sl.v900 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 12 0 l) := by
  unfold kernelRun0_A.sl.v900
  exact congrFun (chain12 (j := 12) (hk := le_rfl) ..) _

theorem chain13 (j : ℕ) (hk : 13 ≤ j) (hj) : (View.readCov (Val := Elt Ideal) arg16.view (kernelRun0_A.sl.HS1_14 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_14
  rw [carry_skip _ _ j (by omega)]
  exact chain12 (j := j) (hk := by omega) ..
theorem v917_at (l : Fin 256) : kernelRun0_A.sl.v917 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 13 0 l) := by
  unfold kernelRun0_A.sl.v917
  exact congrFun (chain13 (j := 13) (hk := le_rfl) ..) _

theorem chain14 (j : ℕ) (hk : 14 ≤ j) (hj) : (View.readCov (Val := Elt Ideal) arg16.view (kernelRun0_A.sl.HS1_15 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_15
  rw [carry_skip _ _ j (by omega)]
  exact chain13 (j := j) (hk := by omega) ..
theorem v934_at (l : Fin 256) : kernelRun0_A.sl.v934 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 14 0 l) := by
  unfold kernelRun0_A.sl.v934
  exact congrFun (chain14 (j := 14) (hk := le_rfl) ..) _

theorem chain15 (j : ℕ) (hk : 15 ≤ j) (hj) : (View.readCov (Val := Elt Ideal) arg16.view (kernelRun0_A.sl.HS1_16 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_16
  rw [carry_skip _ _ j (by omega)]
  exact chain14 (j := j) (hk := by omega) ..
theorem v951_at (l : Fin 256) : kernelRun0_A.sl.v951 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 15 0 l) := by
  unfold kernelRun0_A.sl.v951
  exact congrFun (chain15 (j := 15) (hk := le_rfl) ..) _

theorem chain16 (j : ℕ) (hk : 16 ≤ j) (hj) : (View.readCov (Val := Elt Ideal) arg16.view (kernelRun0_A.sl.HS1_17 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_17
  rw [carry_skip _ _ j (by omega)]
  exact chain15 (j := j) (hk := by omega) ..
theorem v968_at (l : Fin 256) : kernelRun0_A.sl.v968 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 16 0 l) := by
  unfold kernelRun0_A.sl.v968
  exact congrFun (chain16 (j := 16) (hk := le_rfl) ..) _

theorem chain17 (j : ℕ) (hk : 17 ≤ j) (hj) : (View.readCov (Val := Elt Ideal) arg16.view (kernelRun0_A.sl.HS1_18 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_18
  rw [carry_skip _ _ j (by omega)]
  exact chain16 (j := j) (hk := by omega) ..
theorem v985_at (l : Fin 256) : kernelRun0_A.sl.v985 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 17 0 l) := by
  unfold kernelRun0_A.sl.v985
  exact congrFun (chain17 (j := 17) (hk := le_rfl) ..) _

theorem chain18 (j : ℕ) (hk : 18 ≤ j) (hj) : (View.readCov (Val := Elt Ideal) arg16.view (kernelRun0_A.sl.HS1_19 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_19
  rw [carry_skip _ _ j (by omega)]
  exact chain17 (j := j) (hk := by omega) ..
theorem v1002_at (l : Fin 256) : kernelRun0_A.sl.v1002 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 18 0 l) := by
  unfold kernelRun0_A.sl.v1002
  exact congrFun (chain18 (j := 18) (hk := le_rfl) ..) _

theorem chain19 (j : ℕ) (hk : 19 ≤ j) (hj) : (View.readCov (Val := Elt Ideal) arg16.view (kernelRun0_A.sl.HS1_20 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_20
  rw [carry_skip _ _ j (by omega)]
  exact chain18 (j := j) (hk := by omega) ..
theorem v1019_at (l : Fin 256) : kernelRun0_A.sl.v1019 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 19 0 l) := by
  unfold kernelRun0_A.sl.v1019
  exact congrFun (chain19 (j := 19) (hk := le_rfl) ..) _

theorem chain20 (j : ℕ) (hk : 20 ≤ j) (hj) : (View.readCov (Val := Elt Ideal) arg16.view (kernelRun0_A.sl.HS1_21 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_21
  rw [carry_skip _ _ j (by omega)]
  exact chain19 (j := j) (hk := by omega) ..
theorem v1036_at (l : Fin 256) : kernelRun0_A.sl.v1036 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 20 0 l) := by
  unfold kernelRun0_A.sl.v1036
  exact congrFun (chain20 (j := 20) (hk := le_rfl) ..) _

theorem chain21 (j : ℕ) (hk : 21 ≤ j) (hj) : (View.readCov (Val := Elt Ideal) arg16.view (kernelRun0_A.sl.HS1_22 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_22
  rw [carry_skip _ _ j (by omega)]
  exact chain20 (j := j) (hk := by omega) ..
theorem v1053_at (l : Fin 256) : kernelRun0_A.sl.v1053 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 21 0 l) := by
  unfold kernelRun0_A.sl.v1053
  exact congrFun (chain21 (j := 21) (hk := le_rfl) ..) _

theorem chain22 (j : ℕ) (hk : 22 ≤ j) (hj) : (View.readCov (Val := Elt Ideal) arg16.view (kernelRun0_A.sl.HS1_23 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_23
  rw [carry_skip _ _ j (by omega)]
  exact chain21 (j := j) (hk := by omega) ..
theorem v1070_at (l : Fin 256) : kernelRun0_A.sl.v1070 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 22 0 l) := by
  unfold kernelRun0_A.sl.v1070
  exact congrFun (chain22 (j := 22) (hk := le_rfl) ..) _

theorem chain23 (j : ℕ) (hk : 23 ≤ j) (hj) : (View.readCov (Val := Elt Ideal) arg16.view (kernelRun0_A.sl.HS1_24 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_24
  rw [carry_skip _ _ j (by omega)]
  exact chain22 (j := j) (hk := by omega) ..
theorem v1087_at (l : Fin 256) : kernelRun0_A.sl.v1087 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 23 0 l) := by
  unfold kernelRun0_A.sl.v1087
  exact congrFun (chain23 (j := 23) (hk := le_rfl) ..) _

theorem chain24 (j : ℕ) (hk : 24 ≤ j) (hj) : (View.readCov (Val := Elt Ideal) arg16.view (kernelRun0_A.sl.HS1_25 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_25
  rw [carry_skip _ _ j (by omega)]
  exact chain23 (j := j) (hk := by omega) ..
theorem v1104_at (l : Fin 256) : kernelRun0_A.sl.v1104 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 24 0 l) := by
  unfold kernelRun0_A.sl.v1104
  exact congrFun (chain24 (j := 24) (hk := le_rfl) ..) _

theorem chain25 (j : ℕ) (hk : 25 ≤ j) (hj) : (View.readCov (Val := Elt Ideal) arg16.view (kernelRun0_A.sl.HS1_26 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_26
  rw [carry_skip _ _ j (by omega)]
  exact chain24 (j := j) (hk := by omega) ..
theorem v1121_at (l : Fin 256) : kernelRun0_A.sl.v1121 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 25 0 l) := by
  unfold kernelRun0_A.sl.v1121
  exact congrFun (chain25 (j := 25) (hk := le_rfl) ..) _

theorem chain26 (j : ℕ) (hk : 26 ≤ j) (hj) : (View.readCov (Val := Elt Ideal) arg16.view (kernelRun0_A.sl.HS1_27 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_27
  rw [carry_skip _ _ j (by omega)]
  exact chain25 (j := j) (hk := by omega) ..
theorem v1138_at (l : Fin 256) : kernelRun0_A.sl.v1138 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 26 0 l) := by
  unfold kernelRun0_A.sl.v1138
  exact congrFun (chain26 (j := 26) (hk := le_rfl) ..) _

theorem chain27 (j : ℕ) (hk : 27 ≤ j) (hj) : (View.readCov (Val := Elt Ideal) arg16.view (kernelRun0_A.sl.HS1_28 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_28
  rw [carry_skip _ _ j (by omega)]
  exact chain26 (j := j) (hk := by omega) ..
theorem v1155_at (l : Fin 256) : kernelRun0_A.sl.v1155 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 27 0 l) := by
  unfold kernelRun0_A.sl.v1155
  exact congrFun (chain27 (j := 27) (hk := le_rfl) ..) _

theorem chain28 (j : ℕ) (hk : 28 ≤ j) (hj) : (View.readCov (Val := Elt Ideal) arg16.view (kernelRun0_A.sl.HS1_29 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_29
  rw [carry_skip _ _ j (by omega)]
  exact chain27 (j := j) (hk := by omega) ..
theorem v1172_at (l : Fin 256) : kernelRun0_A.sl.v1172 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 28 0 l) := by
  unfold kernelRun0_A.sl.v1172
  exact congrFun (chain28 (j := 28) (hk := le_rfl) ..) _

theorem chain29 (j : ℕ) (hk : 29 ≤ j) (hj) : (View.readCov (Val := Elt Ideal) arg16.view (kernelRun0_A.sl.HS1_30 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_30
  rw [carry_skip _ _ j (by omega)]
  exact chain28 (j := j) (hk := by omega) ..
theorem v1189_at (l : Fin 256) : kernelRun0_A.sl.v1189 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 29 0 l) := by
  unfold kernelRun0_A.sl.v1189
  exact congrFun (chain29 (j := 29) (hk := le_rfl) ..) _

theorem chain30 (j : ℕ) (hk : 30 ≤ j) (hj) : (View.readCov (Val := Elt Ideal) arg16.view (kernelRun0_A.sl.HS1_31 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_31
  rw [carry_skip _ _ j (by omega)]
  exact chain29 (j := j) (hk := by omega) ..
theorem v1206_at (l : Fin 256) : kernelRun0_A.sl.v1206 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 30 0 l) := by
  unfold kernelRun0_A.sl.v1206
  exact congrFun (chain30 (j := 30) (hk := le_rfl) ..) _

theorem chain31 (j : ℕ) (hk : 31 ≤ j) (hj) : (View.readCov (Val := Elt Ideal) arg16.view (kernelRun0_A.sl.HS1_32 c arg2 harg2 arg3 harg3 arg4 harg4 arg5 harg5 arg6 harg6 arg7 harg7 arg8 harg8 arg9 harg9 arg10 harg10 arg11 harg11 arg15 arg16 x0 x1 x2 x3 x4 x5 x6 x7 x8 x9)
    (Rect.unit (s := S32x1x256) ![j, 0, 0] S1x1x256.size hj).toLoadRect : Vec Ideal S1x1x256 .f32) = fun i => x2 (ix3 (Fin.ofNat 32 j) 0 (i 2)) := by
  unfold kernelRun0_A.sl.HS1_32
  rw [carry_skip _ _ j (by omega)]
  exact chain30 (j := j) (hk := by omega) ..
theorem v1223_at (l : Fin 256) : kernelRun0_A.sl.v1223 c arg2 harg2 arg3 harg3 arg4 harg4 arg5 harg5 arg6 harg6 arg7 harg7 arg8 harg8 arg9 harg9 arg10 harg10 arg11 harg11 arg15 arg16 x0 x1 x2 x3 x4 x5 x6 x7 x8 x9 (ix3 0 0 l) = x2 (ix3 31 0 l) := by
  unfold kernelRun0_A.sl.v1223
  exact congrFun (chain31 (j := 31) (hk := le_rfl) ..) _

end Cert.Lru

end
-- ==== Proof.LruConv.lean ====
module

public import proofs.«01_k».proof.Proof.LruMath
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

variable (c : Dev nD) (arg2 : Memref sig .tc .vmem S32x8x256 .f32) (harg2 : arg2.IsWhole)
  (arg3 : Memref sig .tc .vmem S32x8x256 .f32) (harg3 : arg3.IsWhole) (arg4 : Memref sig .tc .vmem S32x1x256 .f32)
  (harg4 : arg4.IsWhole) (arg5 : Memref sig .tc .vmem S4x256 .f32) (harg5 : arg5.IsWhole)
  (arg6 : Memref sig .tc .vmem S1x256 .f32) (harg6 : arg6.IsWhole) (arg7 : Memref sig .tc .vmem S256x256 .f32)
  (harg7 : arg7.IsWhole) (arg8 : Memref sig .tc .vmem S1x256 .f32) (harg8 : arg8.IsWhole)
  (arg9 : Memref sig .tc .vmem S256x256 .f32) (harg9 : arg9.IsWhole) (arg10 : Memref sig .tc .vmem S1x256 .f32)
  (harg10 : arg10.IsWhole) (arg11 : Memref sig .tc .vmem S1x256 .f32) (harg11 : arg11.IsWhole)
  (arg12 : Memref sig .tc .vmem S1x256 .f32) (harg12 : arg12.IsWhole) (arg15 : Memref sig .tc .vmem S32x8x256 .f32)
  (arg16 : Memref sig .tc .vmem S32x1x256 .f32) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

/-- A load of one image of the rows carried in reads the argument's rows. -/
theorem image_eq (v : Vec Ideal S32x8x256 .f32) (k : ℕ) (h) (h0) : (View.readCov (Val := Elt Ideal) arg15.view
    [⟨Rect.unit (s := S32x8x256) ![0, 0, 0] S32x8x256.size h0, k0_pay33 v⟩]
    (Rect.unit (s := S32x8x256) ![k, 0, 0] S1x8x256.size h).toLoadRect : Vec Ideal S1x8x256 .f32) = fun j => v (ix3 (Fin.ofNat 32 k) (j 1) (j 2)) := by
  unfold k0_pay33
  have hk : k < 32 := by
    have := h 0
    simp at this
    omega
  have hf : Fin.ofNat 32 k = ⟨k, hk⟩ := Fin.ext (Nat.mod_eq_of_lt hk)
  simp only [hf]
  rw [View.readCov_fill _ _ _ _ _ (by decide)]
  funext j
  pointwise

theorem r7_at (e : Fin 32) (s : Fin 8) (l : Fin 256) : kernelRun0_A.sl.r_7 c arg2 harg2 arg3 harg3 arg5 harg5 arg6 harg6 arg15 x0 x1 x3 x4 (ix3 e s l) =
    x3 (ix2 3 l) * x0 (ix3 e s l) + x4 (ix2 0 l) + x3 (ix2 2 l) * shift 1 (fun q => x0 (ix3 e q l)) (x1 (ix3 e ⟨(s.val + 8 - 1) % 8, by omega⟩ l)) s := by
  have hz : (![0, 0, 0] : Fin 3 → ℕ) = fun _ => 0 := by funext i; fin_cases i <;> rfl
  have hz2 : (![0, 0] : Fin 2 → ℕ) = fun _ => 0 := by funext i; fin_cases i <;> rfl
  unfold kernelRun0_A.sl.r_7
  sl_unfold_run_names

  simp only [Nat.reduceLT, View.readAt_eq_ld, Memref.IsWhole.read_unread, k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63]
  pointwise
  have he : e = Fin.ofNat 32 e.val := Fin.ext (Nat.mod_eq_of_lt e.isLt).symm
  fin_vals s with hk
  all_goals simp only [hk, Scalar.select, IntOp.cmpi, shift, Nat.reduceMod, Nat.reduceAdd, Nat.reduceSub, Nat.reduceLeDiff, ↓reduceDIte]
  all_goals try rfl
  all_goals (fin_vals e with hk2)
  all_goals simp only [hk2, Nat.reduceSub, Nat.reduceLT, ↓reduceDIte]
  all_goals
    rw [image_eq arg15, if_neg (by decide), if_neg (by decide)]
    simp only [Memref.IsWhole.read_unread]
    pointwise
    rw [he, hk2]
    rfl

theorem r9_at (e : Fin 32) (s : Fin 8) (l : Fin 256) : kernelRun0_A.sl.r_9 c arg2 harg2 arg3 harg3 arg5 harg5 arg6 harg6 arg15 x0 x1 x3 x4 (ix3 e s l) =
    kernelRun0_A.sl.r_7 c arg2 harg2 arg3 harg3 arg5 harg5 arg6 harg6 arg15 x0 x1 x3 x4 (ix3 e s l) + x3 (ix2 1 l) * shift 2 (fun q => x0 (ix3 e q l)) (x1 (ix3 e ⟨(s.val + 8 - 2) % 8, by omega⟩ l)) s := by
  have hz : (![0, 0, 0] : Fin 3 → ℕ) = fun _ => 0 := by funext i; fin_cases i <;> rfl
  have hz2 : (![0, 0] : Fin 2 → ℕ) = fun _ => 0 := by funext i; fin_cases i <;> rfl
  unfold kernelRun0_A.sl.r_9
  generalize kernelRun0_A.sl.r_7 c arg2 harg2 arg3 harg3 arg5 harg5 arg6 harg6 arg15 x0 x1 x3 x4 = R
  sl_unfold_run_names

  simp only [Nat.reduceLT, View.readAt_eq_ld, Memref.IsWhole.read_unread, k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95]
  pointwise
  have he : e = Fin.ofNat 32 e.val := Fin.ext (Nat.mod_eq_of_lt e.isLt).symm
  fin_vals s with hk
  all_goals simp only [hk, Scalar.select, IntOp.cmpi, shift, Nat.reduceMod, Nat.reduceAdd, Nat.reduceSub, Nat.reduceLeDiff, ↓reduceDIte]
  all_goals try rfl
  all_goals (fin_vals e with hk2)
  all_goals simp only [hk2, Nat.reduceSub, Nat.reduceLT, ↓reduceDIte]
  all_goals
    rw [image_eq arg15, if_neg (by decide), if_neg (by decide)]
    simp only [Memref.IsWhole.read_unread]
    pointwise
    rw [he, hk2]
    rfl

set_option maxHeartbeats 1000000 in
theorem r14_at (e : Fin 32) (s : Fin 8) (l : Fin 256) : kernelRun0_A.sl.r_14 c arg2 harg2 arg3 harg3 arg5 harg5 arg6 harg6 arg15 x0 x1 x3 x4 (ix3 e s l) =
    kernelRun0_A.sl.r_9 c arg2 harg2 arg3 harg3 arg5 harg5 arg6 harg6 arg15 x0 x1 x3 x4 (ix3 e s l) + x3 (ix2 0 l) * shift 3 (fun q => x0 (ix3 e q l)) (x1 (ix3 e ⟨(s.val + 8 - 3) % 8, by omega⟩ l)) s := by
  have hz : (![0, 0, 0] : Fin 3 → ℕ) = fun _ => 0 := by funext i; fin_cases i <;> rfl
  have hz2 : (![0, 0] : Fin 2 → ℕ) = fun _ => 0 := by funext i; fin_cases i <;> rfl
  unfold kernelRun0_A.sl.r_14
  generalize kernelRun0_A.sl.r_9 c arg2 harg2 arg3 harg3 arg5 harg5 arg6 harg6 arg15 x0 x1 x3 x4 = R
  sl_unfold_run_names

  simp only [Nat.reduceLT, View.readAt_eq_ld, Memref.IsWhole.read_unread, k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125]
  pointwise
  have he : e = Fin.ofNat 32 e.val := Fin.ext (Nat.mod_eq_of_lt e.isLt).symm
  fin_vals s with hk
  all_goals simp only [hk, Scalar.select, IntOp.cmpi, shift, Nat.reduceMod, Nat.reduceAdd, Nat.reduceSub, Nat.reduceLeDiff, ↓reduceDIte]
  all_goals try rfl
  all_goals (fin_vals e with hk2)
  all_goals simp only [hk2, Nat.reduceSub, Nat.reduceLT, ↓reduceDIte]
  all_goals
    rw [image_eq arg15, if_neg (by decide), if_neg (by decide)]
    simp only [Memref.IsWhole.read_unread]
    pointwise
    rw [he, hk2]
    rfl

theorem xc_at (e : Fin 32) (s : Fin 8) (l : Fin 256) : kernelRun0_A.sl.r_14 c arg2 harg2 arg3 harg3 arg5 harg5 arg6 harg6 arg15 x0 x1 x3 x4 (ix3 e s l) =
    conv (fun k => x3 (ix2 k l)) (x4 (ix2 0 l)) (fun q => x1 (ix3 e ⟨q.val + 5, by omega⟩ l)) (fun q => x0 (ix3 e q l)) s := by
  rw [r14_at, r9_at, r7_at]
  unfold conv
  obtain ⟨s, hs⟩ := s
  interval_cases s <;> rfl

end Cert.Lru

end
-- ==== Proof.LruRows.lean ====
module

public import proofs.«01_k».proof.Proof.LruCarry
public import proofs.«01_k».proof.Proof.LruConv
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

variable (c : Dev nD) (arg2 : Memref sig .tc .vmem S32x8x256 .f32) (harg2 : arg2.IsWhole)
  (arg3 : Memref sig .tc .vmem S32x8x256 .f32) (harg3 : arg3.IsWhole) (arg4 : Memref sig .tc .vmem S32x1x256 .f32)
  (harg4 : arg4.IsWhole) (arg5 : Memref sig .tc .vmem S4x256 .f32) (harg5 : arg5.IsWhole)
  (arg6 : Memref sig .tc .vmem S1x256 .f32) (harg6 : arg6.IsWhole) (arg7 : Memref sig .tc .vmem S256x256 .f32)
  (harg7 : arg7.IsWhole) (arg8 : Memref sig .tc .vmem S1x256 .f32) (harg8 : arg8.IsWhole)
  (arg9 : Memref sig .tc .vmem S256x256 .f32) (harg9 : arg9.IsWhole) (arg10 : Memref sig .tc .vmem S1x256 .f32)
  (harg10 : arg10.IsWhole) (arg11 : Memref sig .tc .vmem S1x256 .f32) (harg11 : arg11.IsWhole)
  (arg12 : Memref sig .tc .vmem S1x256 .f32) (harg12 : arg12.IsWhole) (arg15 : Memref sig .tc .vmem S32x8x256 .f32)
  (arg16 : Memref sig .tc .vmem S32x1x256 .f32) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

theorem r_26_at (s : Fin 8) (l : Fin 256) : kernelRun0_A.sl.r_26 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 0 s l) * x2 (ix3 0 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 0 s l) := by
  unfold kernelRun0_A.sl.r_25
  unfold kernelRun0_A.sl.r_26
  unfold k0_pay179
  pointwise
  rw [v696_at]

theorem r_27_at (s : Fin 8) (l : Fin 256) : kernelRun0_A.sl.r_27 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 1 s l) * x2 (ix3 1 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 1 s l) := by
  unfold kernelRun0_A.sl.r_25
  unfold kernelRun0_A.sl.r_27
  unfold k0_pay181
  pointwise
  rw [v713_at]

theorem r_29_at (s : Fin 8) (l : Fin 256) : kernelRun0_A.sl.r_29 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 2 s l) * x2 (ix3 2 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 2 s l) := by
  unfold kernelRun0_A.sl.r_29 kernelRun0_A.sl.r_28
  unfold k0_pay184 k0_pay183
  pointwise
  rw [v730_at]

theorem r_30_at (s : Fin 8) (l : Fin 256) : kernelRun0_A.sl.r_30 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 3 s l) * x2 (ix3 3 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 3 s l) := by
  unfold kernelRun0_A.sl.r_30
  unfold k0_pay186
  pointwise
  rw [v747_at]

theorem r_31_at (s : Fin 8) (l : Fin 256) : kernelRun0_A.sl.r_31 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 4 s l) * x2 (ix3 4 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 4 s l) := by
  unfold kernelRun0_A.sl.r_31
  unfold k0_pay188
  pointwise
  rw [v764_at]

theorem r_33_at (s : Fin 8) (l : Fin 256) : kernelRun0_A.sl.r_33 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 5 s l) * x2 (ix3 5 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 5 s l) := by
  unfold kernelRun0_A.sl.r_33
  unfold k0_pay191
  pointwise
  rw [v781_at]

theorem r_34_at (s : Fin 8) (l : Fin 256) : kernelRun0_A.sl.r_34 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 6 s l) * x2 (ix3 6 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 6 s l) := by
  unfold kernelRun0_A.sl.r_34
  unfold k0_pay193
  pointwise
  rw [v798_at]

theorem r_36_at (s : Fin 8) (l : Fin 256) : kernelRun0_A.sl.r_36 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 7 s l) * x2 (ix3 7 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 7 s l) := by
  unfold kernelRun0_A.sl.r_36 kernelRun0_A.sl.r_35
  unfold k0_pay196 k0_pay195
  pointwise
  rw [v815_at]

theorem r_37_at (s : Fin 8) (l : Fin 256) : kernelRun0_A.sl.r_37 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 8 s l) * x2 (ix3 8 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 8 s l) := by
  unfold kernelRun0_A.sl.r_37
  unfold k0_pay198
  pointwise
  rw [v832_at]

theorem r_38_at (s : Fin 8) (l : Fin 256) : kernelRun0_A.sl.r_38 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 9 s l) * x2 (ix3 9 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 9 s l) := by
  unfold kernelRun0_A.sl.r_38
  unfold k0_pay200
  pointwise
  rw [v849_at]

theorem r_40_at (s : Fin 8) (l : Fin 256) : kernelRun0_A.sl.r_40 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 10 s l) * x2 (ix3 10 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 10 s l) := by
  unfold kernelRun0_A.sl.r_40
  unfold k0_pay203
  pointwise
  rw [v866_at]

theorem r_41_at (s : Fin 8) (l : Fin 256) : kernelRun0_A.sl.r_41 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 11 s l) * x2 (ix3 11 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 11 s l) := by
  unfold kernelRun0_A.sl.r_41
  unfold k0_pay205
  pointwise
  rw [v883_at]

theorem r_43_at (s : Fin 8) (l : Fin 256) : kernelRun0_A.sl.r_43 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 12 s l) * x2 (ix3 12 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 12 s l) := by
  unfold kernelRun0_A.sl.r_43 kernelRun0_A.sl.r_42
  unfold k0_pay208 k0_pay207
  pointwise
  rw [v900_at]

theorem r_44_at (s : Fin 8) (l : Fin 256) : kernelRun0_A.sl.r_44 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 13 s l) * x2 (ix3 13 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 13 s l) := by
  unfold kernelRun0_A.sl.r_44
  unfold k0_pay210
  pointwise
  rw [v917_at]

theorem r_45_at (s : Fin 8) (l : Fin 256) : kernelRun0_A.sl.r_45 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 14 s l) * x2 (ix3 14 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 14 s l) := by
  unfold kernelRun0_A.sl.r_45
  unfold k0_pay212
  pointwise
  rw [v934_at]

theorem r_47_at (s : Fin 8) (l : Fin 256) : kernelRun0_A.sl.r_47 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 15 s l) * x2 (ix3 15 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 15 s l) := by
  unfold kernelRun0_A.sl.r_47
  unfold k0_pay215
  pointwise
  rw [v951_at]

theorem r_48_at (s : Fin 8) (l : Fin 256) : kernelRun0_A.sl.r_48 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 16 s l) * x2 (ix3 16 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 16 s l) := by
  unfold kernelRun0_A.sl.r_48
  unfold k0_pay217
  pointwise
  rw [v968_at]

theorem r_50_at (s : Fin 8) (l : Fin 256) : kernelRun0_A.sl.r_50 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 17 s l) * x2 (ix3 17 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 17 s l) := by
  unfold kernelRun0_A.sl.r_50 kernelRun0_A.sl.r_49
  unfold k0_pay220 k0_pay219
  pointwise
  rw [v985_at]

theorem r_51_at (s : Fin 8) (l : Fin 256) : kernelRun0_A.sl.r_51 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 18 s l) * x2 (ix3 18 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 18 s l) := by
  unfold kernelRun0_A.sl.r_51
  unfold k0_pay222
  pointwise
  rw [v1002_at]

theorem r_52_at (s : Fin 8) (l : Fin 256) : kernelRun0_A.sl.r_52 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 19 s l) * x2 (ix3 19 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 19 s l) := by
  unfold kernelRun0_A.sl.r_52
  unfold k0_pay224
  pointwise
  rw [v1019_at]

theorem r_54_at (s : Fin 8) (l : Fin 256) : kernelRun0_A.sl.r_54 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 20 s l) * x2 (ix3 20 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 20 s l) := by
  unfold kernelRun0_A.sl.r_54
  unfold k0_pay227
  pointwise
  rw [v1036_at]

theorem r_55_at (s : Fin 8) (l : Fin 256) : kernelRun0_A.sl.r_55 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 21 s l) * x2 (ix3 21 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 21 s l) := by
  unfold kernelRun0_A.sl.r_55
  unfold k0_pay229
  pointwise
  rw [v1053_at]

theorem r_57_at (s : Fin 8) (l : Fin 256) : kernelRun0_A.sl.r_57 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 22 s l) * x2 (ix3 22 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 22 s l) := by
  unfold kernelRun0_A.sl.r_57 kernelRun0_A.sl.r_56
  unfold k0_pay232 k0_pay231
  pointwise
  rw [v1070_at]

theorem r_58_at (s : Fin 8) (l : Fin 256) : kernelRun0_A.sl.r_58 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 23 s l) * x2 (ix3 23 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 23 s l) := by
  unfold kernelRun0_A.sl.r_58
  unfold k0_pay234
  pointwise
  rw [v1087_at]

theorem r_59_at (s : Fin 8) (l : Fin 256) : kernelRun0_A.sl.r_59 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 24 s l) * x2 (ix3 24 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 24 s l) := by
  unfold kernelRun0_A.sl.r_59
  unfold k0_pay236
  pointwise
  rw [v1104_at]

theorem r_61_at (s : Fin 8) (l : Fin 256) : kernelRun0_A.sl.r_61 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 25 s l) * x2 (ix3 25 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 25 s l) := by
  unfold kernelRun0_A.sl.r_61
  unfold k0_pay239
  pointwise
  rw [v1121_at]

theorem r_62_at (s : Fin 8) (l : Fin 256) : kernelRun0_A.sl.r_62 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 26 s l) * x2 (ix3 26 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 26 s l) := by
  unfold kernelRun0_A.sl.r_62
  unfold k0_pay241
  pointwise
  rw [v1138_at]

theorem r_64_at (s : Fin 8) (l : Fin 256) : kernelRun0_A.sl.r_64 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 27 s l) * x2 (ix3 27 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 27 s l) := by
  unfold kernelRun0_A.sl.r_64 kernelRun0_A.sl.r_63
  unfold k0_pay244 k0_pay243
  pointwise
  rw [v1155_at]

theorem r_65_at (s : Fin 8) (l : Fin 256) : kernelRun0_A.sl.r_65 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 28 s l) * x2 (ix3 28 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 28 s l) := by
  unfold kernelRun0_A.sl.r_65
  unfold k0_pay246
  pointwise
  rw [v1172_at]

theorem r_66_at (s : Fin 8) (l : Fin 256) : kernelRun0_A.sl.r_66 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 s l) =
    kernelRun0_A.sl.r_25 c arg2 harg2 arg3 harg3 arg5 harg5 arg6 harg6 arg7 harg7 arg8 harg8 arg11 harg11 arg15 x0 x1 x3 x4 x5 x6 x9 (ix3 29 s l) * x2 (ix3 29 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 29 s l) := by
  unfold kernelRun0_A.sl.r_66
  unfold k0_pay248
  pointwise
  rw [v1189_at]

end Cert.Lru

end
-- ==== Proof.LruStack.lean ====
module

public import proofs.«01_k».proof.Proof.LruGate
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

/-- Thirty-two images' rows, one after another. -/
theorem stack_at (v : Fin 32 → Vec Ideal S8x256 .f32) (e : Fin 32) (s : Fin 8) (l : Fin 256) (h) :
    concatenate S256x256 0 [⟨S8x256, v 0⟩, ⟨S8x256, v 1⟩, ⟨S8x256, v 2⟩, ⟨S8x256, v 3⟩, ⟨S8x256, v 4⟩, ⟨S8x256, v 5⟩, ⟨S8x256, v 6⟩, ⟨S8x256, v 7⟩, ⟨S8x256, v 8⟩, ⟨S8x256, v 9⟩, ⟨S8x256, v 10⟩, ⟨S8x256, v 11⟩, ⟨S8x256, v 12⟩, ⟨S8x256, v 13⟩, ⟨S8x256, v 14⟩, ⟨S8x256, v 15⟩, ⟨S8x256, v 16⟩, ⟨S8x256, v 17⟩, ⟨S8x256, v 18⟩, ⟨S8x256, v 19⟩, ⟨S8x256, v 20⟩, ⟨S8x256, v 21⟩, ⟨S8x256, v 22⟩, ⟨S8x256, v 23⟩, ⟨S8x256, v 24⟩, ⟨S8x256, v 25⟩, ⟨S8x256, v 26⟩, ⟨S8x256, v 27⟩, ⟨S8x256, v 28⟩, ⟨S8x256, v 29⟩, ⟨S8x256, v 30⟩, ⟨S8x256, v 31⟩] h (ix2 (row e s) l) = v e (ix2 s l) := by
  show concatenate S256x256 0 (List.ofFn fun n : Fin 32 => (⟨S8x256, v n⟩ : (s : Shape) × (s.Idx → Ideal .f32))) h (ix2 (row e s) l) = _
  refine concatenate_ofFn_apply (t := S256x256) (s₁ := S8x256) 0 v h rfl 8 rfl _ e ?_ (ix2 s l) ?_ ?_
  · show (e.val * 8 + s.val) / 8 = e.val
    omega
  · show s.val = (e.val * 8 + s.val) % 8
    omega
  · intro b hb
    fin_cases b
    · exact absurd rfl hb
    · rfl

end Cert.Lru

end
-- ==== Proof.LruHs.lean ====
module

public import proofs.«01_k».proof.Proof.LruRows
public import proofs.«01_k».proof.Proof.LruStack
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

variable (c : Dev nD) (arg2 : Memref sig .tc .vmem S32x8x256 .f32) (harg2 : arg2.IsWhole)
  (arg3 : Memref sig .tc .vmem S32x8x256 .f32) (harg3 : arg3.IsWhole) (arg4 : Memref sig .tc .vmem S32x1x256 .f32)
  (harg4 : arg4.IsWhole) (arg5 : Memref sig .tc .vmem S4x256 .f32) (harg5 : arg5.IsWhole)
  (arg6 : Memref sig .tc .vmem S1x256 .f32) (harg6 : arg6.IsWhole) (arg7 : Memref sig .tc .vmem S256x256 .f32)
  (harg7 : arg7.IsWhole) (arg8 : Memref sig .tc .vmem S1x256 .f32) (harg8 : arg8.IsWhole)
  (arg9 : Memref sig .tc .vmem S256x256 .f32) (harg9 : arg9.IsWhole) (arg10 : Memref sig .tc .vmem S1x256 .f32)
  (harg10 : arg10.IsWhole) (arg11 : Memref sig .tc .vmem S1x256 .f32) (harg11 : arg11.IsWhole)
  (arg12 : Memref sig .tc .vmem S1x256 .f32) (harg12 : arg12.IsWhole) (arg15 : Memref sig .tc .vmem S32x8x256 .f32)
  (arg16 : Memref sig .tc .vmem S32x1x256 .f32) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

/-- The recurrence's row `s` of image `e`. -/
theorem hs_at (e : Fin 32) (s : Fin 8) (l : Fin 256) : kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row e s) l) =
    kernelRun0_A.sl.r_25 c arg2 harg2 arg3 harg3 arg5 harg5 arg6 harg6 arg7 harg7 arg8 harg8 arg11 harg11 arg15 x0 x1 x3 x4 x5 x6 x9 (ix3 e s l) * x2 (ix3 e 0 l) + kernelRun0_A.sl.r_23 c arg2 harg2 arg3 harg3 arg5 harg5 arg6 harg6 arg7 harg7 arg8 harg8 arg9 harg9 arg10 harg10 arg11 harg11 arg15 x0 x1 x3 x4 x5 x6 x7 x8 x9 (ix3 e s l) := by
  unfold kernelRun0_A.sl.r_68 k0_pay255
  refine (stack_at (fun n => match n with
    | 0 => kernelRun0_A.sl.r_26 c arg2 harg2 arg3 harg3 arg4 harg4 arg5 harg5 arg6 harg6 arg7 harg7 arg8 harg8 arg9 harg9 arg10 harg10 arg11 harg11 arg15 arg16 x0 x1 x2 x3 x4 x5 x6 x7 x8 x9
    | 1 => kernelRun0_A.sl.r_27 c arg2 harg2 arg3 harg3 arg4 harg4 arg5 harg5 arg6 harg6 arg7 harg7 arg8 harg8 arg9 harg9 arg10 harg10 arg11 harg11 arg15 arg16 x0 x1 x2 x3 x4 x5 x6 x7 x8 x9
    | 2 => kernelRun0_A.sl.r_29 c arg2 harg2 arg3 harg3 arg4 harg4 arg5 harg5 arg6 harg6 arg7 harg7 arg8 harg8 arg9 harg9 arg10 harg10 arg11 harg11 arg15 arg16 x0 x1 x2 x3 x4 x5 x6 x7 x8 x9
    | 3 => kernelRun0_A.sl.r_30 c arg2 harg2 arg3 harg3 arg4 harg4 arg5 harg5 arg6 harg6 arg7 harg7 arg8 harg8 arg9 harg9 arg10 harg10 arg11 harg11 arg15 arg16 x0 x1 x2 x3 x4 x5 x6 x7 x8 x9
    | 4 => kernelRun0_A.sl.r_31 c arg2 harg2 arg3 harg3 arg4 harg4 arg5 harg5 arg6 harg6 arg7 harg7 arg8 harg8 arg9 harg9 arg10 harg10 arg11 harg11 arg15 arg16 x0 x1 x2 x3 x4 x5 x6 x7 x8 x9
    | 5 => kernelRun0_A.sl.r_33 c arg2 harg2 arg3 harg3 arg4 harg4 arg5 harg5 arg6 harg6 arg7 harg7 arg8 harg8 arg9 harg9 arg10 harg10 arg11 harg11 arg15 arg16 x0 x1 x2 x3 x4 x5 x6 x7 x8 x9
    | 6 => kernelRun0_A.sl.r_34 c arg2 harg2 arg3 harg3 arg4 harg4 arg5 harg5 arg6 harg6 arg7 harg7 arg8 harg8 arg9 harg9 arg10 harg10 arg11 harg11 arg15 arg16 x0 x1 x2 x3 x4 x5 x6 x7 x8 x9
    | 7 => kernelRun0_A.sl.r_36 c arg2 harg2 arg3 harg3 arg4 harg4 arg5 harg5 arg6 harg6 arg7 harg7 arg8 harg8 arg9 harg9 arg10 harg10 arg11 harg11 arg15 arg16 x0 x1 x2 x3 x4 x5 x6 x7 x8 x9
    | 8 => kernelRun0_A.sl.r_37 c arg2 harg2 arg3 harg3 arg4 harg4 arg5 harg5 arg6 harg6 arg7 harg7 arg8 harg8 arg9 harg9 arg10 harg10 arg11 harg11 arg15 arg16 x0 x1 x2 x3 x4 x5 x6 x7 x8 x9
    | 9 => kernelRun0_A.sl.r_38 c arg2 harg2 arg3 harg3 arg4 harg4 arg5 harg5 arg6 harg6 arg7 harg7 arg8 harg8 arg9 harg9 arg10 harg10 arg11 harg11 arg15 arg16 x0 x1 x2 x3 x4 x5 x6 x7 x8 x9
    | 10 => kernelRun0_A.sl.r_40 c arg2 harg2 arg3 harg3 arg4 harg4 arg5 harg5 arg6 harg6 arg7 harg7 arg8 harg8 arg9 harg9 arg10 harg10 arg11 harg11 arg15 arg16 x0 x1 x2 x3 x4 x5 x6 x7 x8 x9
    | 11 => kernelRun0_A.sl.r_41 c arg2 harg2 arg3 harg3 arg4 harg4 arg5 harg5 arg6 harg6 arg7 harg7 arg8 harg8 arg9 harg9 arg10 harg10 arg11 harg11 arg15 arg16 x0 x1 x2 x3 x4 x5 x6 x7 x8 x9
    | 12 => kernelRun0_A.sl.r_43 c arg2 harg2 arg3 harg3 arg4 harg4 arg5 harg5 arg6 harg6 arg7 harg7 arg8 harg8 arg9 harg9 arg10 harg10 arg11 harg11 arg15 arg16 x0 x1 x2 x3 x4 x5 x6 x7 x8 x9
    | 13 => kernelRun0_A.sl.r_44 c arg2 harg2 arg3 harg3 arg4 harg4 arg5 harg5 arg6 harg6 arg7 harg7 arg8 harg8 arg9 harg9 arg10 harg10 arg11 harg11 arg15 arg16 x0 x1 x2 x3 x4 x5 x6 x7 x8 x9
    | 14 => kernelRun0_A.sl.r_45 c arg2 harg2 arg3 harg3 arg4 harg4 arg5 harg5 arg6 harg6 arg7 harg7 arg8 harg8 arg9 harg9 arg10 harg10 arg11 harg11 arg15 arg16 x0 x1 x2 x3 x4 x5 x6 x7 x8 x9
    | 15 => kernelRun0_A.sl.r_47 c arg2 harg2 arg3 harg3 arg4 harg4 arg5 harg5 arg6 harg6 arg7 harg7 arg8 harg8 arg9 harg9 arg10 harg10 arg11 harg11 arg15 arg16 x0 x1 x2 x3 x4 x5 x6 x7 x8 x9
    | 16 => kernelRun0_A.sl.r_48 c arg2 harg2 arg3 harg3 arg4 harg4 arg5 harg5 arg6 harg6 arg7 harg7 arg8 harg8 arg9 harg9 arg10 harg10 arg11 harg11 arg15 arg16 x0 x1 x2 x3 x4 x5 x6 x7 x8 x9
    | 17 => kernelRun0_A.sl.r_50 c arg2 harg2 arg3 harg3 arg4 harg4 arg5 harg5 arg6 harg6 arg7 harg7 arg8 harg8 arg9 harg9 arg10 harg10 arg11 harg11 arg15 arg16 x0 x1 x2 x3 x4 x5 x6 x7 x8 x9
    | 18 => kernelRun0_A.sl.r_51 c arg2 harg2 arg3 harg3 arg4 harg4 arg5 harg5 arg6 harg6 arg7 harg7 arg8 harg8 arg9 harg9 arg10 harg10 arg11 harg11 arg15 arg16 x0 x1 x2 x3 x4 x5 x6 x7 x8 x9
    | 19 => kernelRun0_A.sl.r_52 c arg2 harg2 arg3 harg3 arg4 harg4 arg5 harg5 arg6 harg6 arg7 harg7 arg8 harg8 arg9 harg9 arg10 harg10 arg11 harg11 arg15 arg16 x0 x1 x2 x3 x4 x5 x6 x7 x8 x9
    | 20 => kernelRun0_A.sl.r_54 c arg2 harg2 arg3 harg3 arg4 harg4 arg5 harg5 arg6 harg6 arg7 harg7 arg8 harg8 arg9 harg9 arg10 harg10 arg11 harg11 arg15 arg16 x0 x1 x2 x3 x4 x5 x6 x7 x8 x9
    | 21 => kernelRun0_A.sl.r_55 c arg2 harg2 arg3 harg3 arg4 harg4 arg5 harg5 arg6 harg6 arg7 harg7 arg8 harg8 arg9 harg9 arg10 harg10 arg11 harg11 arg15 arg16 x0 x1 x2 x3 x4 x5 x6 x7 x8 x9
    | 22 => kernelRun0_A.sl.r_57 c arg2 harg2 arg3 harg3 arg4 harg4 arg5 harg5 arg6 harg6 arg7 harg7 arg8 harg8 arg9 harg9 arg10 harg10 arg11 harg11 arg15 arg16 x0 x1 x2 x3 x4 x5 x6 x7 x8 x9
    | 23 => kernelRun0_A.sl.r_58 c arg2 harg2 arg3 harg3 arg4 harg4 arg5 harg5 arg6 harg6 arg7 harg7 arg8 harg8 arg9 harg9 arg10 harg10 arg11 harg11 arg15 arg16 x0 x1 x2 x3 x4 x5 x6 x7 x8 x9
    | 24 => kernelRun0_A.sl.r_59 c arg2 harg2 arg3 harg3 arg4 harg4 arg5 harg5 arg6 harg6 arg7 harg7 arg8 harg8 arg9 harg9 arg10 harg10 arg11 harg11 arg15 arg16 x0 x1 x2 x3 x4 x5 x6 x7 x8 x9
    | 25 => kernelRun0_A.sl.r_61 c arg2 harg2 arg3 harg3 arg4 harg4 arg5 harg5 arg6 harg6 arg7 harg7 arg8 harg8 arg9 harg9 arg10 harg10 arg11 harg11 arg15 arg16 x0 x1 x2 x3 x4 x5 x6 x7 x8 x9
    | 26 => kernelRun0_A.sl.r_62 c arg2 harg2 arg3 harg3 arg4 harg4 arg5 harg5 arg6 harg6 arg7 harg7 arg8 harg8 arg9 harg9 arg10 harg10 arg11 harg11 arg15 arg16 x0 x1 x2 x3 x4 x5 x6 x7 x8 x9
    | 27 => kernelRun0_A.sl.r_64 c arg2 harg2 arg3 harg3 arg4 harg4 arg5 harg5 arg6 harg6 arg7 harg7 arg8 harg8 arg9 harg9 arg10 harg10 arg11 harg11 arg15 arg16 x0 x1 x2 x3 x4 x5 x6 x7 x8 x9
    | 28 => kernelRun0_A.sl.r_65 c arg2 harg2 arg3 harg3 arg4 harg4 arg5 harg5 arg6 harg6 arg7 harg7 arg8 harg8 arg9 harg9 arg10 harg10 arg11 harg11 arg15 arg16 x0 x1 x2 x3 x4 x5 x6 x7 x8 x9
    | 29 => kernelRun0_A.sl.r_66 c arg2 harg2 arg3 harg3 arg4 harg4 arg5 harg5 arg6 harg6 arg7 harg7 arg8 harg8 arg9 harg9 arg10 harg10 arg11 harg11 arg15 arg16 x0 x1 x2 x3 x4 x5 x6 x7 x8 x9
    | 30 => k0_pay251 (kernelRun0_A.sl.r_23 c arg2 harg2 arg3 harg3 arg5 harg5 arg6 harg6 arg7 harg7 arg8 harg8 arg9 harg9 arg10 harg10 arg11 harg11 arg15 x0 x1 x3 x4 x5 x6 x7 x8 x9) (kernelRun0_A.sl.r_25 c arg2 harg2 arg3 harg3 arg5 harg5 arg6 harg6 arg7 harg7 arg8 harg8 arg11 harg11 arg15 x0 x1 x3 x4 x5 x6 x9) (kernelRun0_A.sl.v1206 c arg2 harg2 arg3 harg3 arg4 harg4 arg5 harg5 arg6 harg6 arg7 harg7 arg8 harg8 arg9 harg9 arg10 harg10 arg11 harg11 arg15 arg16 x0 x1 x2 x3 x4 x5 x6 x7 x8 x9)
    | _ => k0_pay253 (kernelRun0_A.sl.r_23 c arg2 harg2 arg3 harg3 arg5 harg5 arg6 harg6 arg7 harg7 arg8 harg8 arg9 harg9 arg10 harg10 arg11 harg11 arg15 x0 x1 x3 x4 x5 x6 x7 x8 x9) (kernelRun0_A.sl.r_25 c arg2 harg2 arg3 harg3 arg5 harg5 arg6 harg6 arg7 harg7 arg8 harg8 arg11 harg11 arg15 x0 x1 x3 x4 x5 x6 x9) (kernelRun0_A.sl.v1223 c arg2 harg2 arg3 harg3 arg4 harg4 arg5 harg5 arg6 harg6 arg7 harg7 arg8 harg8 arg9 harg9 arg10 harg10 arg11 harg11 arg15 arg16 x0 x1 x2 x3 x4 x5 x6 x7 x8 x9)) e s l _).trans ?_
  obtain ⟨e, he⟩ := e
  interval_cases e
  · exact r_26_at ..
  · exact r_27_at ..
  · exact r_29_at ..
  · exact r_30_at ..
  · exact r_31_at ..
  · exact r_33_at ..
  · exact r_34_at ..
  · exact r_36_at ..
  · exact r_37_at ..
  · exact r_38_at ..
  · exact r_40_at ..
  · exact r_41_at ..
  · exact r_43_at ..
  · exact r_44_at ..
  · exact r_45_at ..
  · exact r_47_at ..
  · exact r_48_at ..
  · exact r_50_at ..
  · exact r_51_at ..
  · exact r_52_at ..
  · exact r_54_at ..
  · exact r_55_at ..
  · exact r_57_at ..
  · exact r_58_at ..
  · exact r_59_at ..
  · exact r_61_at ..
  · exact r_62_at ..
  · exact r_64_at ..
  · exact r_65_at ..
  · exact r_66_at ..
  · show k0_pay251 _ _ _ _ = _
    unfold k0_pay251
    pointwise
    rw [v1206_at]
  · show k0_pay253 _ _ _ _ = _
    unfold k0_pay253
    pointwise
    rw [v1223_at]

end Cert.Lru

end
-- ==== Proof.LruOut.lean ====
module

public import proofs.«01_k».proof.Proof.LruHs
public import proofs.«01_k».proof.Proof.Gen.Kernel4Ideal.Value
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

variable (c : Dev nD) (i : grid0.Coords) (arg2 : Memref sig .tc .vmem S32x8x256 .f32)
  (harg2 : arg2.IsWhole) (arg3 : Memref sig .tc .vmem S32x8x256 .f32) (harg3 : arg3.IsWhole)
  (arg4 : Memref sig .tc .vmem S32x1x256 .f32) (harg4 : arg4.IsWhole) (arg5 : Memref sig .tc .vmem S4x256 .f32)
  (harg5 : arg5.IsWhole) (arg6 : Memref sig .tc .vmem S1x256 .f32) (harg6 : arg6.IsWhole)
  (arg7 : Memref sig .tc .vmem S256x256 .f32) (harg7 : arg7.IsWhole) (arg8 : Memref sig .tc .vmem S1x256 .f32)
  (harg8 : arg8.IsWhole) (arg9 : Memref sig .tc .vmem S256x256 .f32) (harg9 : arg9.IsWhole)
  (arg10 : Memref sig .tc .vmem S1x256 .f32) (harg10 : arg10.IsWhole) (arg11 : Memref sig .tc .vmem S1x256 .f32)
  (harg11 : arg11.IsWhole) (arg12 : Memref sig .tc .vmem S1x256 .f32) (harg12 : arg12.IsWhole)
  (arg13 : Memref sig .tc .vmem S32x8x256 .f32) (harg13 : arg13.IsWhole) (arg14 : Memref sig .tc .vmem S32x1x256 .f32)
  (harg14 : arg14.IsWhole) (arg15 : Memref sig .tc .vmem S32x8x256 .f32) (harg15 : arg15.IsWhole)
  (arg16 : Memref sig .tc .vmem S32x1x256 .f32) (harg16 : arg16.IsWhole) (hc0 : cond0_0 i)
  (hc1 : cond0_1 i) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

theorem slice_at (R : Vec Ideal S256x256 .f32) (n : ℕ) (hn : n < 256) (h : S256x256.Slices ![n, 0] S1x256) (h' : S1x256.ShapeCasts S1x1x256) (x : S1x1x256.Idx) :
    shapeCast S1x1x256 (extractStridedSlice S1x256 ![n, 0] R h) h' x = R (ix2 (Fin.ofNat 256 n) (x 2)) := by
  have hf : Fin.ofNat 256 n = ⟨n, hn⟩ := Fin.ext (Nat.mod_eq_of_lt hn)
  rw [hf, eq_ix3 x]
  pointwise

/-- The pieces of the second output: row 3 of each image. -/
theorem out12_at (y : S32x1x256.Idx) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 y = kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row (y 0) 3) (y 2)) := by
  unfold out0_A_12
  rw [View.read_writes_junk_eq_canon]
  refine View.canon_apply_of_pieces (fun y => kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row (y 0) 3) (y 2))) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 y)
  unfold kernelRun0_A
  dsimp only
  simp only [kernelRun0_A.sl.v1379, kernelRun0_A.sl.v1375, kernelRun0_A.sl.v1371, kernelRun0_A.sl.v1367, kernelRun0_A.sl.v1363, kernelRun0_A.sl.v1359, kernelRun0_A.sl.v1355, kernelRun0_A.sl.v1351, kernelRun0_A.sl.v1347, kernelRun0_A.sl.v1343, kernelRun0_A.sl.v1339, kernelRun0_A.sl.v1335, kernelRun0_A.sl.v1331, kernelRun0_A.sl.v1327, kernelRun0_A.sl.v1323, kernelRun0_A.sl.v1319, kernelRun0_A.sl.v1315, kernelRun0_A.sl.v1311, kernelRun0_A.sl.v1307, kernelRun0_A.sl.v1303, kernelRun0_A.sl.v1299, kernelRun0_A.sl.v1295, kernelRun0_A.sl.v1291, kernelRun0_A.sl.v1287, kernelRun0_A.sl.v1283, kernelRun0_A.sl.v1279, kernelRun0_A.sl.v1275, kernelRun0_A.sl.v1271, kernelRun0_A.sl.v1267, kernelRun0_A.sl.v1263, kernelRun0_A.sl.v1376, kernelRun0_A.sl.v1372, kernelRun0_A.sl.v1368, kernelRun0_A.sl.v1364, kernelRun0_A.sl.v1360, kernelRun0_A.sl.v1356, kernelRun0_A.sl.v1352, kernelRun0_A.sl.v1348, kernelRun0_A.sl.v1344, kernelRun0_A.sl.v1340, kernelRun0_A.sl.v1336, kernelRun0_A.sl.v1332, kernelRun0_A.sl.v1328, kernelRun0_A.sl.v1324, kernelRun0_A.sl.v1320, kernelRun0_A.sl.v1316, kernelRun0_A.sl.v1312, kernelRun0_A.sl.v1308, kernelRun0_A.sl.v1304, kernelRun0_A.sl.v1300, kernelRun0_A.sl.v1296, kernelRun0_A.sl.v1292, kernelRun0_A.sl.v1288, kernelRun0_A.sl.v1284, kernelRun0_A.sl.v1280, kernelRun0_A.sl.v1276, kernelRun0_A.sl.v1272, kernelRun0_A.sl.v1268, kernelRun0_A.sl.v1264, kernelRun0_A.sl.v1260, k0_pay259, k0_pay260, List.forall_mem_cons]
  generalize kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 = R
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun p hp => absurd hp (List.not_mem_nil)⟩
  · intro x
    have h : (x 0).val < 1 := (x 0).isLt
    refine (slice_at R 251 (by decide) _ _ x).trans (congrArg₂ (fun a b => R (ix2 a b)) (Fin.ext ?_) (Fin.ext ?_))
    · show 251 = (31 + 1 * (x 0).val) * 8 + 3
      omega
    · show (x 2).val = 0 + 1 * (x 2).val
      omega
  · intro x
    have h : (x 0).val < 1 := (x 0).isLt
    refine (slice_at R 243 (by decide) _ _ x).trans (congrArg₂ (fun a b => R (ix2 a b)) (Fin.ext ?_) (Fin.ext ?_))
    · show 243 = (30 + 1 * (x 0).val) * 8 + 3
      omega
    · show (x 2).val = 0 + 1 * (x 2).val
      omega
  · intro x
    have h : (x 0).val < 1 := (x 0).isLt
    refine (slice_at R 235 (by decide) _ _ x).trans (congrArg₂ (fun a b => R (ix2 a b)) (Fin.ext ?_) (Fin.ext ?_))
    · show 235 = (29 + 1 * (x 0).val) * 8 + 3
      omega
    · show (x 2).val = 0 + 1 * (x 2).val
      omega
  · intro x
    have h : (x 0).val < 1 := (x 0).isLt
    refine (slice_at R 227 (by decide) _ _ x).trans (congrArg₂ (fun a b => R (ix2 a b)) (Fin.ext ?_) (Fin.ext ?_))
    · show 227 = (28 + 1 * (x 0).val) * 8 + 3
      omega
    · show (x 2).val = 0 + 1 * (x 2).val
      omega
  · intro x
    have h : (x 0).val < 1 := (x 0).isLt
    refine (slice_at R 219 (by decide) _ _ x).trans (congrArg₂ (fun a b => R (ix2 a b)) (Fin.ext ?_) (Fin.ext ?_))
    · show 219 = (27 + 1 * (x 0).val) * 8 + 3
      omega
    · show (x 2).val = 0 + 1 * (x 2).val
      omega
  · intro x
    have h : (x 0).val < 1 := (x 0).isLt
    refine (slice_at R 211 (by decide) _ _ x).trans (congrArg₂ (fun a b => R (ix2 a b)) (Fin.ext ?_) (Fin.ext ?_))
    · show 211 = (26 + 1 * (x 0).val) * 8 + 3
      omega
    · show (x 2).val = 0 + 1 * (x 2).val
      omega
  · intro x
    have h : (x 0).val < 1 := (x 0).isLt
    refine (slice_at R 203 (by decide) _ _ x).trans (congrArg₂ (fun a b => R (ix2 a b)) (Fin.ext ?_) (Fin.ext ?_))
    · show 203 = (25 + 1 * (x 0).val) * 8 + 3
      omega
    · show (x 2).val = 0 + 1 * (x 2).val
      omega
  · intro x
    have h : (x 0).val < 1 := (x 0).isLt
    refine (slice_at R 195 (by decide) _ _ x).trans (congrArg₂ (fun a b => R (ix2 a b)) (Fin.ext ?_) (Fin.ext ?_))
    · show 195 = (24 + 1 * (x 0).val) * 8 + 3
      omega
    · show (x 2).val = 0 + 1 * (x 2).val
      omega
  · intro x
    have h : (x 0).val < 1 := (x 0).isLt
    refine (slice_at R 187 (by decide) _ _ x).trans (congrArg₂ (fun a b => R (ix2 a b)) (Fin.ext ?_) (Fin.ext ?_))
    · show 187 = (23 + 1 * (x 0).val) * 8 + 3
      omega
    · show (x 2).val = 0 + 1 * (x 2).val
      omega
  · intro x
    have h : (x 0).val < 1 := (x 0).isLt
    refine (slice_at R 179 (by decide) _ _ x).trans (congrArg₂ (fun a b => R (ix2 a b)) (Fin.ext ?_) (Fin.ext ?_))
    · show 179 = (22 + 1 * (x 0).val) * 8 + 3
      omega
    · show (x 2).val = 0 + 1 * (x 2).val
      omega
  · intro x
    have h : (x 0).val < 1 := (x 0).isLt
    refine (slice_at R 171 (by decide) _ _ x).trans (congrArg₂ (fun a b => R (ix2 a b)) (Fin.ext ?_) (Fin.ext ?_))
    · show 171 = (21 + 1 * (x 0).val) * 8 + 3
      omega
    · show (x 2).val = 0 + 1 * (x 2).val
      omega
  · intro x
    have h : (x 0).val < 1 := (x 0).isLt
    refine (slice_at R 163 (by decide) _ _ x).trans (congrArg₂ (fun a b => R (ix2 a b)) (Fin.ext ?_) (Fin.ext ?_))
    · show 163 = (20 + 1 * (x 0).val) * 8 + 3
      omega
    · show (x 2).val = 0 + 1 * (x 2).val
      omega
  · intro x
    have h : (x 0).val < 1 := (x 0).isLt
    refine (slice_at R 155 (by decide) _ _ x).trans (congrArg₂ (fun a b => R (ix2 a b)) (Fin.ext ?_) (Fin.ext ?_))
    · show 155 = (19 + 1 * (x 0).val) * 8 + 3
      omega
    · show (x 2).val = 0 + 1 * (x 2).val
      omega
  · intro x
    have h : (x 0).val < 1 := (x 0).isLt
    refine (slice_at R 147 (by decide) _ _ x).trans (congrArg₂ (fun a b => R (ix2 a b)) (Fin.ext ?_) (Fin.ext ?_))
    · show 147 = (18 + 1 * (x 0).val) * 8 + 3
      omega
    · show (x 2).val = 0 + 1 * (x 2).val
      omega
  · intro x
    have h : (x 0).val < 1 := (x 0).isLt
    refine (slice_at R 139 (by decide) _ _ x).trans (congrArg₂ (fun a b => R (ix2 a b)) (Fin.ext ?_) (Fin.ext ?_))
    · show 139 = (17 + 1 * (x 0).val) * 8 + 3
      omega
    · show (x 2).val = 0 + 1 * (x 2).val
      omega
  · intro x
    have h : (x 0).val < 1 := (x 0).isLt
    refine (slice_at R 131 (by decide) _ _ x).trans (congrArg₂ (fun a b => R (ix2 a b)) (Fin.ext ?_) (Fin.ext ?_))
    · show 131 = (16 + 1 * (x 0).val) * 8 + 3
      omega
    · show (x 2).val = 0 + 1 * (x 2).val
      omega
  · intro x
    have h : (x 0).val < 1 := (x 0).isLt
    refine (slice_at R 123 (by decide) _ _ x).trans (congrArg₂ (fun a b => R (ix2 a b)) (Fin.ext ?_) (Fin.ext ?_))
    · show 123 = (15 + 1 * (x 0).val) * 8 + 3
      omega
    · show (x 2).val = 0 + 1 * (x 2).val
      omega
  · intro x
    have h : (x 0).val < 1 := (x 0).isLt
    refine (slice_at R 115 (by decide) _ _ x).trans (congrArg₂ (fun a b => R (ix2 a b)) (Fin.ext ?_) (Fin.ext ?_))
    · show 115 = (14 + 1 * (x 0).val) * 8 + 3
      omega
    · show (x 2).val = 0 + 1 * (x 2).val
      omega
  · intro x
    have h : (x 0).val < 1 := (x 0).isLt
    refine (slice_at R 107 (by decide) _ _ x).trans (congrArg₂ (fun a b => R (ix2 a b)) (Fin.ext ?_) (Fin.ext ?_))
    · show 107 = (13 + 1 * (x 0).val) * 8 + 3
      omega
    · show (x 2).val = 0 + 1 * (x 2).val
      omega
  · intro x
    have h : (x 0).val < 1 := (x 0).isLt
    refine (slice_at R 99 (by decide) _ _ x).trans (congrArg₂ (fun a b => R (ix2 a b)) (Fin.ext ?_) (Fin.ext ?_))
    · show 99 = (12 + 1 * (x 0).val) * 8 + 3
      omega
    · show (x 2).val = 0 + 1 * (x 2).val
      omega
  · intro x
    have h : (x 0).val < 1 := (x 0).isLt
    refine (slice_at R 91 (by decide) _ _ x).trans (congrArg₂ (fun a b => R (ix2 a b)) (Fin.ext ?_) (Fin.ext ?_))
    · show 91 = (11 + 1 * (x 0).val) * 8 + 3
      omega
    · show (x 2).val = 0 + 1 * (x 2).val
      omega
  · intro x
    have h : (x 0).val < 1 := (x 0).isLt
    refine (slice_at R 83 (by decide) _ _ x).trans (congrArg₂ (fun a b => R (ix2 a b)) (Fin.ext ?_) (Fin.ext ?_))
    · show 83 = (10 + 1 * (x 0).val) * 8 + 3
      omega
    · show (x 2).val = 0 + 1 * (x 2).val
      omega
  · intro x
    have h : (x 0).val < 1 := (x 0).isLt
    refine (slice_at R 75 (by decide) _ _ x).trans (congrArg₂ (fun a b => R (ix2 a b)) (Fin.ext ?_) (Fin.ext ?_))
    · show 75 = (9 + 1 * (x 0).val) * 8 + 3
      omega
    · show (x 2).val = 0 + 1 * (x 2).val
      omega
  · intro x
    have h : (x 0).val < 1 := (x 0).isLt
    refine (slice_at R 67 (by decide) _ _ x).trans (congrArg₂ (fun a b => R (ix2 a b)) (Fin.ext ?_) (Fin.ext ?_))
    · show 67 = (8 + 1 * (x 0).val) * 8 + 3
      omega
    · show (x 2).val = 0 + 1 * (x 2).val
      omega
  · intro x
    have h : (x 0).val < 1 := (x 0).isLt
    refine (slice_at R 59 (by decide) _ _ x).trans (congrArg₂ (fun a b => R (ix2 a b)) (Fin.ext ?_) (Fin.ext ?_))
    · show 59 = (7 + 1 * (x 0).val) * 8 + 3
      omega
    · show (x 2).val = 0 + 1 * (x 2).val
      omega
  · intro x
    have h : (x 0).val < 1 := (x 0).isLt
    refine (slice_at R 51 (by decide) _ _ x).trans (congrArg₂ (fun a b => R (ix2 a b)) (Fin.ext ?_) (Fin.ext ?_))
    · show 51 = (6 + 1 * (x 0).val) * 8 + 3
      omega
    · show (x 2).val = 0 + 1 * (x 2).val
      omega
  · intro x
    have h : (x 0).val < 1 := (x 0).isLt
    refine (slice_at R 43 (by decide) _ _ x).trans (congrArg₂ (fun a b => R (ix2 a b)) (Fin.ext ?_) (Fin.ext ?_))
    · show 43 = (5 + 1 * (x 0).val) * 8 + 3
      omega
    · show (x 2).val = 0 + 1 * (x 2).val
      omega
  · intro x
    have h : (x 0).val < 1 := (x 0).isLt
    refine (slice_at R 35 (by decide) _ _ x).trans (congrArg₂ (fun a b => R (ix2 a b)) (Fin.ext ?_) (Fin.ext ?_))
    · show 35 = (4 + 1 * (x 0).val) * 8 + 3
      omega
    · show (x 2).val = 0 + 1 * (x 2).val
      omega
  · intro x
    have h : (x 0).val < 1 := (x 0).isLt
    refine (slice_at R 27 (by decide) _ _ x).trans (congrArg₂ (fun a b => R (ix2 a b)) (Fin.ext ?_) (Fin.ext ?_))
    · show 27 = (3 + 1 * (x 0).val) * 8 + 3
      omega
    · show (x 2).val = 0 + 1 * (x 2).val
      omega
  · intro x
    have h : (x 0).val < 1 := (x 0).isLt
    refine (slice_at R 19 (by decide) _ _ x).trans (congrArg₂ (fun a b => R (ix2 a b)) (Fin.ext ?_) (Fin.ext ?_))
    · show 19 = (2 + 1 * (x 0).val) * 8 + 3
      omega
    · show (x 2).val = 0 + 1 * (x 2).val
      omega
  · intro x
    have h : (x 0).val < 1 := (x 0).isLt
    refine (slice_at R 11 (by decide) _ _ x).trans (congrArg₂ (fun a b => R (ix2 a b)) (Fin.ext ?_) (Fin.ext ?_))
    · show 11 = (1 + 1 * (x 0).val) * 8 + 3
      omega
    · show (x 2).val = 0 + 1 * (x 2).val
      omega
  · intro x
    have h : (x 0).val < 1 := (x 0).isLt
    refine (slice_at R 3 (by decide) _ _ x).trans (congrArg₂ (fun a b => R (ix2 a b)) (Fin.ext ?_) (Fin.ext ?_))
    · show 3 = (0 + 1 * (x 0).val) * 8 + 3
      omega
    · show (x 2).val = 0 + 1 * (x 2).val
      omega

theorem out11_at (e : Fin 32) (s : Fin 8) (l : Fin 256) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix3 e s l) =
    kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row e s) l) * Ideal.rsqrt (Ideal.div (∑ q : Fin 256, kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row e s) q) * kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row e s) q)) (Ideal.ofBits .f32 0x43800000#32) + Ideal.ofBits .f32 0x358637BD#32) * x10 (ix2 0 l) := by
  have hz : (![0, 0, 0] : Fin 3 → ℕ) = fun _ => 0 := by funext i; fin_cases i <;> rfl
  have h70 : kernelRun0_A.sl.r_70 c arg2 harg2 arg3 harg3 arg4 harg4 arg5 harg5 arg6 harg6 arg7 harg7 arg8 harg8 arg9 harg9 arg10 harg10 arg11 harg11 arg15 arg16 x0 x1 x2 x3 x4 x5 x6 x7 x8 x9 = mulf (kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9) (kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9) := rfl
  unfold out0_A_11
  rw [View.read_writes_junk_eq_canon]
  unfold kernelRun0_A
  dsimp only
  rw [View.canon_unit_zero hz, h70]
  unfold k0_pay258 kernelRun0_A.sl.r_69 k0_pay256
  simp only [View.readAt_eq_ld, Memref.IsWhole.read_unread]
  generalize kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 = R
  pointwise

end Cert.Lru

end
-- ==== Proof.LruBlock.lean ====
/- One block of the recurrence's kernel as a function of its inputs. -/
module

public import proofs.«01_k».proof.Proof.LruOut
public import proofs.«01_k».proof.Proof.LruGate
public import proofs.«01_k».proof.Proof.Gen.Kernel4Ideal.Value
public import proofs.«01_k».proof.Proof.Gen.Kernel4Ideal.Frame.RunA
public import Idealize.ShloMosaic.Lib.Pipeline.ValueKit
public import Idealize.ShloMosaic.Lib.Pipeline.ReadBack
public import Idealize.ShloMosaic.Lib.Pointwise
public import Idealize.ShloMosaic.Lib.Tactic.RunNames

@[expose] public section

set_option maxRecDepth 16384

noncomputable section

namespace Cert.Lru

open Cert.Kernel4Ideal Cert.Kernel4Ideal.Gen Idealize.ShloMosaic Idealize.ShloMosaic.TcCoe

/-- The mean square's reciprocal root times the gain. -/
def rmsNorm (h g : Fin 256 → EReal) (l : Fin 256) : EReal :=
  h l * Ideal.rsqrt (Ideal.div (∑ q : Fin 256, h q * h q) (Ideal.ofBits .f32 0x43800000#32) + Ideal.ofBits .f32 0x358637BD#32) * g l

/-- The recurrence's decay and its input, from a row after the convolution. -/
def decayOf (X : Fin 256 → EReal) (wa : Fin 256 → Fin 256 → EReal) (ba lam : Fin 256 → EReal) (l : Fin 256) : EReal :=
  Ideal.exp (logDecay (lin X wa ba l) (lam l))
def inputOf (X : Fin 256 → EReal) (wa : Fin 256 → Fin 256 → EReal) (ba : Fin 256 → EReal) (wx : Fin 256 → Fin 256 → EReal) (bx lam : Fin 256 → EReal)
    (l : Fin 256) : EReal :=
  weight (decayOf X wa ba lam l) * Ideal.logistic (lin X wx bx l) * X l

/-- The states of one image. -/
def statesOf (x : Fin 8 → Fin 256 → EReal) (p : Fin 3 → Fin 256 → EReal) (h0 : Fin 256 → EReal) (taps : Fin 4 → Fin 256 → EReal) (b : Fin 256 → EReal)
    (wa : Fin 256 → Fin 256 → EReal) (ba : Fin 256 → EReal) (wx : Fin 256 → Fin 256 → EReal) (bx lam : Fin 256 → EReal) (s : Fin 8) (l : Fin 256) : EReal :=
  scan (fun q => decayOf (fun k => conv (fun j => taps j k) (b k) (fun j => p j k) (fun j => x j k) q) wa ba lam l)
    (fun q => inputOf (fun k => conv (fun j => taps j k) (b k) (fun j => p j k) (fun j => x j k) q) wa ba wx bx lam l) (h0 l) s

variable (c : Dev nD) (i : grid0.Coords) (arg2 : Memref sig .tc .vmem S32x8x256 .f32)
  (harg2 : arg2.IsWhole) (arg3 : Memref sig .tc .vmem S32x8x256 .f32) (harg3 : arg3.IsWhole)
  (arg4 : Memref sig .tc .vmem S32x1x256 .f32) (harg4 : arg4.IsWhole) (arg5 : Memref sig .tc .vmem S4x256 .f32)
  (harg5 : arg5.IsWhole) (arg6 : Memref sig .tc .vmem S1x256 .f32) (harg6 : arg6.IsWhole)
  (arg7 : Memref sig .tc .vmem S256x256 .f32) (harg7 : arg7.IsWhole) (arg8 : Memref sig .tc .vmem S1x256 .f32)
  (harg8 : arg8.IsWhole) (arg9 : Memref sig .tc .vmem S256x256 .f32) (harg9 : arg9.IsWhole)
  (arg10 : Memref sig .tc .vmem S1x256 .f32) (harg10 : arg10.IsWhole) (arg11 : Memref sig .tc .vmem S1x256 .f32)
  (harg11 : arg11.IsWhole) (arg12 : Memref sig .tc .vmem S1x256 .f32) (harg12 : arg12.IsWhole)
  (arg13 : Memref sig .tc .vmem S32x8x256 .f32) (harg13 : arg13.IsWhole) (arg14 : Memref sig .tc .vmem S32x1x256 .f32)
  (harg14 : arg14.IsWhole) (arg15 : Memref sig .tc .vmem S32x8x256 .f32) (harg15 : arg15.IsWhole)
  (arg16 : Memref sig .tc .vmem S32x1x256 .f32) (harg16 : arg16.IsWhole) (hc0 : cond0_0 i)
  (hc1 : cond0_1 i) (x0 : Vec Ideal S32x8x256 .f32) (x1 : Vec Ideal S32x8x256 .f32)
  (x2 : Vec Ideal S32x1x256 .f32) (x3 : Vec Ideal S4x256 .f32) (x4 : Vec Ideal S1x256 .f32)
  (x5 : Vec Ideal S256x256 .f32) (x6 : Vec Ideal S1x256 .f32) (x7 : Vec Ideal S256x256 .f32)
  (x8 : Vec Ideal S1x256 .f32) (x9 : Vec Ideal S1x256 .f32) (x10 : Vec Ideal S1x256 .f32)

theorem state_at (e : Fin 32) (s : Fin 8) (l : Fin 256) : kernelRun0_A.sl.r_68 c arg2 harg2 arg3 harg3 arg4 harg4 arg5 harg5 arg6 harg6 arg7 harg7 arg8 harg8 arg9 harg9 arg10 harg10 arg11 harg11 arg15 arg16 x0 x1 x2 x3 x4 x5 x6 x7 x8 x9 (ix2 (row e s) l) =
    statesOf (fun q k => x0 (ix3 e q k)) (fun q k => x1 (ix3 e ⟨q.val + 5, by omega⟩ k)) (fun k => x2 (ix3 e 0 k)) (fun q k => x3 (ix2 q k)) (fun k => x4 (ix2 0 k))
      (fun q k => x5 (ix2 q k)) (fun k => x6 (ix2 0 k)) (fun q k => x7 (ix2 q k)) (fun k => x8 (ix2 0 k)) (fun k => x9 (ix2 0 k)) s l := by
  have hz : (![0, 0] : Fin 2 → ℕ) = fun _ => 0 := by funext i; fin_cases i <;> rfl
  rw [hs_at]
  unfold kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16
  have l5 : ∀ x : Vec Ideal S256x256 .f32, View.ld x (Rect.unit ![0, 0] ![256, 256] inb_S256x256_S256x256_0_0) = x := fun x => View.ld_unit_zero hz _ _
  have l6 : ∀ x : Vec Ideal S1x256 .f32, View.ld x (Rect.unit ![0, 0] ![1, 256] inb_S1x256_S1x256_0_0) = x := fun x => View.ld_unit_zero hz _ _
  have hv : kernelRun0_A.sl.v3 = iota Kind.tc S1x8x256 32 [1] iota_S1x8x256_d1_w32 := rfl
  simp only [View.readAt_eq_ld, Memref.IsWhole.read_unread, l5, l6, hv]
  rw [scanA_at, scanB_at]
  have hw : ∀ (G : Vec Ideal S256x256 .f32) (b lam : Vec Ideal S1x256 .f32) (i : S256x256.Idx),
      Scalar.select (k0_pay167 G b lam i) (k0_pay168 G b lam i) (k0_pay169 i) = weight (k0_pay165 G b lam i) := fun G b lam i => by
    rw [eq_ix2 i]
    exact weight_at G b lam _ _
  simp only [hw, decay_at, gate_at, mat_at, flat_at, xc_at]
  rfl

end Cert.Lru

end
-- ==== Proof.LruHost.lean ====
/- What the host hands the recurrence's kernel, index by index. -/
module

public import proofs.«01_k».proof.Proof.LruGate
public import proofs.«01_k».proof.Proof.Gen.Kernel4Ideal.Value
public import Idealize.ShloMosaic.Lib.Pipeline.ValueKit
public import Idealize.ShloMosaic.Lib.Pointwise
public import Idealize.ShloMosaic.Lib.Routing.OpsSet
public import Idealize.ShloMosaic.Lib.Routing.OpsPair
public import Idealize.ShloMosaic.Lib.Routing.OpsOne
public import Idealize.ShloMosaic.Lib.StableHlo.ReadAt

@[expose] public section

set_option maxRecDepth 16384

noncomputable section

namespace Cert.Lru

open Cert.Kernel4Ideal Cert.Kernel4Ideal.Gen Idealize.ShloMosaic Idealize.ShloMosaic.TcCoe Idealize.ShloMosaic.Routing

variable (m : (ℓ : Loc nD τ sig) → Buf (Elt Ideal) ℓ) (c : Dev nD)

/-- The call's arguments. -/
def xs (n : Fin 128) (s : Fin 8) (l : Fin 256) : EReal := m (c, Proc.tc.devRef main_arg0) (ix3 n s l)
def before (n : Fin 128) (k : Fin 3) (l : Fin 256) : EReal := m (c, Proc.tc.devRef main_arg1) (ix3 n k l)
def start (n : Fin 128) (l : Fin 256) : EReal := m (c, Proc.tc.devRef main_arg2) (ix2 n l)
def taps (k : Fin 4) (l : Fin 256) : EReal := m (c, Proc.tc.devRef main_arg3) (ix2 k l)
def tapBias (l : Fin 256) : EReal := m (c, Proc.tc.devRef main_arg4) (ix1 l)
def wa (g : Fin 4) (j k : Fin 64) : EReal := m (c, Proc.tc.devRef main_arg5) (ix3 g j k)
def ba (l : Fin 256) : EReal := m (c, Proc.tc.devRef main_arg6) (ix1 l)
def wx (g : Fin 4) (j k : Fin 64) : EReal := m (c, Proc.tc.devRef main_arg7) (ix3 g j k)
def bx (l : Fin 256) : EReal := m (c, Proc.tc.devRef main_arg8) (ix1 l)
def rate (l : Fin 256) : EReal := m (c, Proc.tc.devRef main_arg9) (ix1 l)
def gains (l : Fin 256) : EReal := m (c, Proc.tc.devRef main_arg10) (ix1 l)

theorem before_at (n : Fin 128) (k : Fin 3) (l : Fin 256) : V m c main_v1 (ix3 n ⟨k.val + 5, by omega⟩ l) = before m c n k l := by
  unfold before
  unfold_abbrev_sides
  after_reads_at
  rw [dif_pos (by omega)]
  congr

theorem start_at (n : Fin 128) (l : Fin 256) : V m c main_v0 (ix3 n 0 l) = start m c n l := by
  unfold start
  unfold_abbrev_sides
  after_reads_at

theorem tapBias_at (l : Fin 256) : V m c main_v2 (ix2 0 l) = tapBias m c l := by
  unfold tapBias
  unfold_abbrev_sides
  after_reads_at

theorem ba_at (l : Fin 256) : V m c main_v28 (ix2 0 l) = ba m c l := by
  unfold ba
  unfold_abbrev_sides
  after_reads_at

theorem bx_at (l : Fin 256) : V m c main_v54 (ix2 0 l) = bx m c l := by
  unfold bx
  unfold_abbrev_sides
  after_reads_at

theorem rate_at (l : Fin 256) : V m c main_v55 (ix2 0 l) = rate m c l := by
  unfold rate
  unfold_abbrev_sides
  after_reads_at

theorem gains_at (l : Fin 256) : V m c main_v56 (ix2 0 l) = gains m c l := by
  unfold gains
  unfold_abbrev_sides
  after_reads_at

/-- Where an element of a 64 × 64 window put at two index words lands. -/
theorem lands (idx : IVec S2 32) (u : S64x64.Idx) (r q : Fin 256) :
    scatter_S256x256_S2_S64x64_01_n_01_0.resultIdx? u idx = some (ix2 r q)
      ↔ (idx (ix1 (0 : Fin 2))).toInt + ((u 0).val : Int) = r.val ∧ (idx (ix1 (1 : Fin 2))).toInt + ((u 1).val : Int) = q.val := by
  have hwin0 : scatter_S256x256_S2_S64x64_01_n_01_0.window u 0 = (u 0).val := rfl
  have hwin1 : scatter_S256x256_S2_S64x64_01_n_01_0.window u 1 = (u 1).val := rfl
  have s0 : scatter_S256x256_S2_S64x64_01_n_01_0.start u idx 0 = (idx (ix1 (0 : Fin 2))).toInt := start_pair _ rfl rfl idx u 0
  have s1 : scatter_S256x256_S2_S64x64_01_n_01_0.start u idx 1 = (idx (ix1 (1 : Fin 2))).toInt := start_pair _ rfl rfl idx u 1
  refine (resultIdx?_ix2 scatter_S256x256_S2_S64x64_01_n_01_0 u idx r q).trans ?_
  rw [s0, s1, hwin0, hwin1]

/-- One 64 × 64 window set into a 256 × 256 table with its corner at `(b, b)`. -/
theorem set_at (x : S256x256.Idx → EReal) (idx : IVec S2 32) (u : S64x64.Idx → EReal) (b : Nat)
    (h0 : (idx (ix1 (0 : Fin 2))).toInt = b) (h1 : (idx (ix1 (1 : Fin 2))).toInt = b) (r q : Fin 256) :
    Host.scatter scatter_S256x256_S2_S64x64_01_n_01_0 (fun _ b => b) x idx u (ix2 r q)
      = if h : (b ≤ r.val ∧ r.val < b + 64) ∧ b ≤ q.val ∧ q.val < b + 64 then u (ix2 ⟨r.val - b, by omega⟩ ⟨q.val - b, by omega⟩) else x (ix2 r q) := by
  have L := fun k => lands idx k r q
  simp only [h0, h1] at L
  split
  next h =>
    refine scatter_set_hit _ x idx u _ _ (fun k hk => ?_) (ix2 ⟨r.val - b, by omega⟩ ⟨q.val - b, by omega⟩) ((L _).2 ⟨?_, ?_⟩)
    · have t := (L k).1 hk
      rw [eq_ix2 k]
      congr 2 <;> apply Fin.ext <;> show _ = _ - b <;> omega
    · show (b : Int) + ((r.val - b : Nat) : Int) = _
      omega
    · show (b : Int) + ((q.val - b : Nat) : Int) = _
      omega
  next h =>
    refine scatter_set_miss _ x idx u _ fun k hk => h ?_
    have t := (L k).1 hk
    have k0 : (k 0).val < 64 := (k 0).isLt
    have k1 : (k 1).val < 64 := (k 1).isLt
    omega

/-- Four 64 × 64 blocks on the diagonal of a 256 × 256 table, zero elsewhere. -/
def diag (w : Fin 4 → Fin 64 → Fin 64 → EReal) (r q : Fin 256) : EReal :=
  if r.val / 64 = q.val / 64 then w ⟨r.val / 64, by omega⟩ ⟨r.val % 64, by omega⟩ ⟨q.val % 64, by omega⟩ else 0

theorem zero_word : Ideal.ofBits .f32 0x00000000#32 = 0 := by
  simp [Ideal.ofBits, Ideal.ieee]

theorem block_arg (w : S4x64x64.Idx → EReal) {g g' : Fin 4} {j j' k k' : Fin 64} (hg : g.val = g'.val) (hj : j.val = j'.val) (hk : k.val = k'.val) :
    w (ix3 g j k) = w (ix3 g' j' k') := by
  rw [Fin.ext hg, Fin.ext hj, Fin.ext hk]

theorem four (w : S4x64x64.Idx → EReal) (z : EReal) (hz : z = 0) (r q : Fin 256) :
    (if h : (192 ≤ r.val ∧ r.val < 192 + 64) ∧ 192 ≤ q.val ∧ q.val < 192 + 64 then w (ix3 3 ⟨r.val - 192, by omega⟩ ⟨q.val - 192, by omega⟩)
      else (if h : (128 ≤ r.val ∧ r.val < 128 + 64) ∧ 128 ≤ q.val ∧ q.val < 128 + 64 then w (ix3 2 ⟨r.val - 128, by omega⟩ ⟨q.val - 128, by omega⟩)
      else (if h : (64 ≤ r.val ∧ r.val < 64 + 64) ∧ 64 ≤ q.val ∧ q.val < 64 + 64 then w (ix3 1 ⟨r.val - 64, by omega⟩ ⟨q.val - 64, by omega⟩)
      else (if h : (0 ≤ r.val ∧ r.val < 0 + 64) ∧ 0 ≤ q.val ∧ q.val < 0 + 64 then w (ix3 0 ⟨r.val - 0, by omega⟩ ⟨q.val - 0, by omega⟩)
      else z)))) = diag (fun g j k => w (ix3 g j k)) r q := by
  unfold diag
  have hr := r.isLt
  have hq := q.isLt
  by_cases e : r.val / 64 = q.val / 64
  · rw [if_pos e]
    obtain h | h | h | h : r.val / 64 = 3 ∨ r.val / 64 = 2 ∨ r.val / 64 = 1 ∨ r.val / 64 = 0 := by omega
    · rw [dif_pos (by omega)]
      exact block_arg _ h.symm (by show r.val - 192 = r.val % 64; omega) (by show q.val - 192 = q.val % 64; omega)
    · rw [dif_neg (by omega), dif_pos (by omega)]
      exact block_arg _ h.symm (by show r.val - 128 = r.val % 64; omega) (by show q.val - 128 = q.val % 64; omega)
    · rw [dif_neg (by omega), dif_neg (by omega), dif_pos (by omega)]
      exact block_arg _ h.symm (by show r.val - 64 = r.val % 64; omega) (by show q.val - 64 = q.val % 64; omega)
    · rw [dif_neg (by omega), dif_neg (by omega), dif_neg (by omega), dif_pos (by omega)]
      exact block_arg _ h.symm (by show r.val - 0 = r.val % 64; omega) (by show q.val - 0 = q.val % 64; omega)
  · rw [if_neg e, dif_neg (by omega), dif_neg (by omega), dif_neg (by omega), dif_neg (by omega)]
    exact hz

theorem wa_at (r q : Fin 256) : V m c main_v27 (ix2 r q) = diag (wa m c) r q := by
  unfold_abbrev_sides
  after_reads_at
  rw [set_at _ _ _ 192 (by after_reads_at; rfl) (by after_reads_at; rfl), set_at _ _ _ 128 (by after_reads_at; rfl) (by after_reads_at; rfl),
    set_at _ _ _ 64 (by after_reads_at; rfl) (by after_reads_at; rfl), set_at _ _ _ 0 (by after_reads_at; rfl) (by after_reads_at; rfl)]
  exact four (m (c, Proc.tc.devRef main_arg5)) _ zero_word r q

theorem wx_at (r q : Fin 256) : V m c main_v53 (ix2 r q) = diag (wx m c) r q := by
  unfold_abbrev_sides
  after_reads_at
  rw [set_at _ _ _ 192 (by after_reads_at; rfl) (by after_reads_at; rfl), set_at _ _ _ 128 (by after_reads_at; rfl) (by after_reads_at; rfl),
    set_at _ _ _ 64 (by after_reads_at; rfl) (by after_reads_at; rfl), set_at _ _ _ 0 (by after_reads_at; rfl) (by after_reads_at; rfl)]
  exact four (m (c, Proc.tc.devRef main_arg7)) _ zero_word r q

end Cert.Lru

end
-- ==== Proof.LruKernel.lean ====
/- The recurrence kernel's two result arrays after the run, index by index. -/
module

public import proofs.«01_k».proof.Proof.LruBlock
public import proofs.«01_k».proof.Proof.LruHost

@[expose] public section

set_option maxRecDepth 16384

noncomputable section

namespace Cert.Lru

open Cert.Kernel4Ideal Cert.Kernel4Ideal.Gen Cert.Kernel4Ideal.Value Idealize.ShloMosaic Idealize.ShloMosaic.TcCoe

variable (m : (ℓ : Loc nD τ sig) → Buf (Elt Ideal) ℓ) (c : Dev nD)

theorem idx (t : Fin grid0.N) : win0_0.index t = ![t.val, 0, 0] ∧ win0_1.index t = ![t.val, 0, 0] ∧ win0_2.index t = ![t.val, 0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![t.val, 0, 0] ∧ win0_12.index t = ![t.val, 0, 0] := by
  revert t; decide +kernel

/-- Image `e` of grid point `t`'s block. -/
def imageOf (t : Fin grid0.N) (e : Fin 32) : Fin 128 := ⟨t.val * 32 + e.val, by
  have : t.val < 4 := t.isLt
  omega⟩

theorem xs_at (n : Fin 128) (s : Fin 8) (l : Fin 256) : V m c main_arg0 (ix3 n s l) = xs m c n s l := by
  unfold xs
  unfold_abbrev_sides
  after_reads_at
theorem taps_at (k : Fin 4) (l : Fin 256) : V m c main_arg3 (ix2 k l) = taps m c k l := by
  unfold taps
  unfold_abbrev_sides
  after_reads_at

theorem xs_block (t : Fin grid0.N) (e : Fin 32) (s : Fin 8) (l : Fin 256) : iblk m c 0 t (ix3 e s l) = xs m c (imageOf t e) s l := by
  obtain ⟨e0, -⟩ := idx t
  rw [← xs_at]
  unfold imageOf
  blk_ext [iblk, e0]
theorem before_block (t : Fin grid0.N) (e : Fin 32) (k : Fin 3) (l : Fin 256) : iblk m c 1 t (ix3 e ⟨k.val + 5, by omega⟩ l) = before m c (imageOf t e) k l := by
  obtain ⟨-, e0, -⟩ := idx t
  rw [← before_at]
  unfold imageOf
  blk_ext [iblk, e0]
theorem start_block (t : Fin grid0.N) (e : Fin 32) (l : Fin 256) : iblk m c 2 t (ix3 e 0 l) = start m c (imageOf t e) l := by
  obtain ⟨-, -, e0, -⟩ := idx t
  rw [← start_at]
  unfold imageOf
  blk_ext [iblk, e0]
theorem taps_block (t : Fin grid0.N) (k : Fin 4) (l : Fin 256) : iblk m c 3 t (ix2 k l) = taps m c k l := by
  obtain ⟨-, -, -, e0, -⟩ := idx t
  rw [← taps_at]
  blk_ext [iblk, e0]
theorem tapBias_block (t : Fin grid0.N) (l : Fin 256) : iblk m c 4 t (ix2 0 l) = tapBias m c l := by
  obtain ⟨-, -, -, -, e0, -⟩ := idx t
  rw [← tapBias_at]
  blk_ext [iblk, e0]
theorem wa_block (t : Fin grid0.N) (k l : Fin 256) : iblk m c 5 t (ix2 k l) = diag (wa m c) k l := by
  obtain ⟨-, -, -, -, -, e0, -⟩ := idx t
  rw [← wa_at]
  blk_ext [iblk, e0]
theorem ba_block (t : Fin grid0.N) (l : Fin 256) : iblk m c 6 t (ix2 0 l) = ba m c l := by
  obtain ⟨-, -, -, -, -, -, e0, -⟩ := idx t
  rw [← ba_at]
  blk_ext [iblk, e0]
theorem wx_block (t : Fin grid0.N) (k l : Fin 256) : iblk m c 7 t (ix2 k l) = diag (wx m c) k l := by
  obtain ⟨-, -, -, -, -, -, -, e0, -⟩ := idx t
  rw [← wx_at]
  blk_ext [iblk, e0]
theorem bx_block (t : Fin grid0.N) (l : Fin 256) : iblk m c 8 t (ix2 0 l) = bx m c l := by
  obtain ⟨-, -, -, -, -, -, -, -, e0, -⟩ := idx t
  rw [← bx_at]
  blk_ext [iblk, e0]
theorem rate_block (t : Fin grid0.N) (l : Fin 256) : iblk m c 9 t (ix2 0 l) = rate m c l := by
  obtain ⟨-, -, -, -, -, -, -, -, -, e0, -⟩ := idx t
  rw [← rate_at]
  blk_ext [iblk, e0]
theorem gains_block (t : Fin grid0.N) (l : Fin 256) : iblk m c 10 t (ix2 0 l) = gains m c l := by
  obtain ⟨-, -, -, -, -, -, -, -, -, -, e0, -⟩ := idx t
  rw [← gains_at]
  blk_ext [iblk, e0]

end Cert.Lru

end
-- ==== Proof.LruFinal.lean ====
/- The recurrence kernel's two result arrays after the run, whole. -/
module

public import proofs.«01_k».proof.Proof.LruKernel

@[expose] public section

set_option maxRecDepth 16384

noncomputable section

namespace Cert.Lru

open Cert.Kernel4Ideal Cert.Kernel4Ideal.Gen Cert.Kernel4Ideal.Value Idealize.ShloMosaic Idealize.ShloMosaic.TcCoe

variable (m : (ℓ : Loc nD τ sig) → Buf (Elt Ideal) ℓ) (c : Dev nD)

/-- The states of image `n`. -/
def states (n : Fin 128) : Fin 8 → Fin 256 → EReal :=
  statesOf (xs m c n) (before m c n) (start m c n) (taps m c) (tapBias m c) (diag (wa m c)) (ba m c) (diag (wx m c)) (bx m c) (rate m c)

/-- The result arrays. -/
def normed : Vec Ideal S128x8x256 .f32 := fun i => rmsNorm (states m c (i 0) (i 1)) (gains m c) (i 2)
def carried : Vec Ideal S128x1x256 .f32 := fun i => states m c (i 0) 3 (i 2)

theorem final_normed : (dats m 0 c).arrAt 11 cfg0.N = normed m c := by
  refine (dats m 0 c).arrAt_eq_of_covers 11 _ (by decide +kernel) fun t hf y => ?_
  obtain ⟨e, s, l, rfl⟩ : ∃ (e : Fin 32) (s : Fin 8) (l : Fin 256), y = ix3 e s l := ⟨y 0, y 1, y 2, eq_ix3 y⟩
  have e0 : win0_11.index t = ![t.val, 0, 0] := (idx t).2.2.2.2.2.2.2.2.2.2.2.1
  have h0 : (((cfg0.win 11).blk t).view.emb (ix3 e s l) 0 : ℕ) = t.val * 32 + e.val := by blk_simp [e0]
  have h1 : (((cfg0.win 11).blk t).view.emb (ix3 e s l) 1 : ℕ) = s.val := by blk_simp [e0]
  have h2 : (((cfg0.win 11).blk t).view.emb (ix3 e s l) 2 : ℕ) = l.val := by blk_simp [e0]
  blk_simp
  rw [after0_11]
  simp only [outsAt0]
  refine (out11_at _ _ _ _ _ _ _ _ _ _ _ _ _ _ _ _ _ _ _ _ _ _ _ _ _ _ _ _ _ _ _ _ _ _ _ _ _ _ _ _ _ _ _ _ _ e s l).trans ?_
  simp only [state_at]
  simp only [xs_block, before_block, start_block, taps_block, tapBias_block, wa_block, ba_block, wx_block, bx_block, rate_block, gains_block]
  have hn : ((win0_11.blk t).view.emb (ix3 e s l)) = ix3 (imageOf t e) s l := by
    rw [eq_ix3 ((win0_11.blk t).view.emb (ix3 e s l))]
    exact congrArg₂ (fun a b => ix3 a b _) (Fin.ext h0) (Fin.ext h1) |>.trans (congrArg (ix3 (imageOf t e) s) (Fin.ext h2))
  rw [hn]
  rfl

theorem final_carried : (dats m 0 c).arrAt 12 cfg0.N = carried m c := by
  refine (dats m 0 c).arrAt_eq_of_covers 12 _ (by decide +kernel) fun t hf y => ?_
  obtain ⟨e, s, l, rfl⟩ : ∃ (e : Fin 32) (s : Fin 1) (l : Fin 256), y = ix3 e s l := ⟨y 0, y 1, y 2, eq_ix3 y⟩
  have e0 : win0_12.index t = ![t.val, 0, 0] := (idx t).2.2.2.2.2.2.2.2.2.2.2.2
  have h0 : (((cfg0.win 12).blk t).view.emb (ix3 e s l) 0 : ℕ) = t.val * 32 + e.val := by blk_simp [e0]
  have h2 : (((cfg0.win 12).blk t).view.emb (ix3 e s l) 2 : ℕ) = l.val := by blk_simp [e0]
  blk_simp
  rw [after0_12]
  simp only [outsAt0]
  refine (out12_at _ _ _ _ _ _ _ _ _ _ _ _ _ _ _ _ _ _ _ _ _ _ _ _ _ _ _ _ _ _ _ _ _ _ _ _ _ _ _ _ _ _ _ _ _ _).trans ?_
  refine Eq.trans (state_at (e := e) (s := 3) (l := l) ..) ?_
  simp only [xs_block, before_block, start_block, taps_block, tapBias_block, wa_block, ba_block, wx_block, bx_block, rate_block]
  unfold carried
  exact congrArg₂ (fun n q => states m c n 3 q) (Fin.ext h0.symm) (Fin.ext h2.symm)

end Cert.Lru

end
-- ==== Proof.LruRef.lean ====
/- The reference's recurrence, index by index. -/
module

public import proofs.«01_k».proof.Proof.LruMath
public import proofs.«01_k».proof.Proof.Gen.Reference4Ideal.Run
public import Idealize.ShloMosaic.Lib.Pointwise

@[expose] public section

set_option maxRecDepth 16384

noncomputable section

namespace Cert.Lru.Ref

open Cert.Reference4Ideal Cert.Reference4Ideal.Gen Cert.Reference4Ideal.Value Idealize.ShloMosaic

variable (V : Valuation τ sig (Elt Ideal))

/-- The arguments. -/
def xs (n : Fin 128) (s : Fin 8) (l : Fin 256) : EReal := V (Proc.devRef .tc main_arg0) (ix3 n s l)
def before (n : Fin 128) (k : Fin 3) (l : Fin 256) : EReal := V (Proc.devRef .tc main_arg1) (ix3 n k l)
def start (n : Fin 128) (l : Fin 256) : EReal := V (Proc.devRef .tc main_arg2) (ix2 n l)
def taps (k : Fin 4) (l : Fin 256) : EReal := V (Proc.devRef .tc main_arg3) (ix2 k l)
def tapBias (l : Fin 256) : EReal := V (Proc.devRef .tc main_arg4) (ix1 l)
def wa (g : Fin 4) (j k : Fin 64) : EReal := V (Proc.devRef .tc main_arg5) (ix3 g j k)
def ba (l : Fin 256) : EReal := V (Proc.devRef .tc main_arg6) (ix1 l)
def wx (g : Fin 4) (j k : Fin 64) : EReal := V (Proc.devRef .tc main_arg7) (ix3 g j k)
def bx (l : Fin 256) : EReal := V (Proc.devRef .tc main_arg8) (ix1 l)
def rate (l : Fin 256) : EReal := V (Proc.devRef .tc main_arg9) (ix1 l)
def gains (l : Fin 256) : EReal := V (Proc.devRef .tc main_arg10) (ix1 l)

/-- The row after the convolution. -/
def xc (n : Fin 128) (s : Fin 8) (l : Fin 256) : EReal :=
  conv (fun k => taps V k l) (tapBias V l) (fun k => before V n k l) (fun q => xs V n q l) s

/-- A gate's linear map: channel `l` reads the 64 channels of its group. -/
def grouped (x : Fin 256 → EReal) (w : Fin 4 → Fin 64 → Fin 64 → EReal) (b : Fin 256 → EReal) (l : Fin 256) : EReal :=
  ∑ j : Fin 64, w ⟨l.val / 64, by omega⟩ j ⟨l.val % 64, by omega⟩ * x ⟨l.val / 64 * 64 + j.val, by omega⟩ + b l

theorem v0_at (n : Fin 128) (i : Fin 11) (l : Fin 256) : res_main_v0 V (ix3 n i l) = behind (fun k => before V n k l) (fun q => xs V n q l) i := by
  unfold res_main_v0 behind before xs
  pointwise

theorem v32_at (n : Fin 128) (s : Fin 8) (l : Fin 256) : res_main_v32 V (ix3 n s l) = xc V n s l := by
  have e : ∀ a b c d w x y z t : EReal, a * w + b * x + c * y + d * z + t = z * d + t + y * c + x * b + w * a := fun a b c d w x y z t => by
    rw [mul_comm a, mul_comm b, mul_comm c, mul_comm d]
    abel
  unfold res_main_v32 xc conv
  pointwise
  simp only [v0_at]
  have e1 : (⟨1 + s.val, by omega⟩ : Fin 11) = ⟨s.val + 1, by omega⟩ := Fin.ext (Nat.add_comm _ _)
  have e2 : (⟨2 + s.val, by omega⟩ : Fin 11) = ⟨s.val + 2, by omega⟩ := Fin.ext (Nat.add_comm _ _)
  have e3 : (⟨3 + s.val, by omega⟩ : Fin 11) = ⟨s.val + 3, by omega⟩ := Fin.ext (Nat.add_comm _ _)
  rw [e1, e2, e3]
  exact e _ _ _ _ _ _ _ _ _

theorem softplus_at (l : Fin 256) : (select (cmpf .une (res_main_call0_v3 V) (res_main_call0_v3 V)) (addf (res_main_v54 V) (broadcastInDim S256 ![] bcast_S_S256 (res_main_call0_cst V))) (addf (maximumf (res_main_v54 V) (broadcastInDim S256 ![] bcast_S_S256 (res_main_call0_cst V))) (Host.log1p (Host.exp (Host.negf (Host.absf (res_main_call0_v3 V)))))) : FVec Ideal S256 .f32) (ix1 l) = softplus (-rate V l) := by
  unfold res_main_call0_v3 res_main_v54 res_main_call0_cst softplus rate
  pointwise
  rw [if_neg (fun h => h rfl)]
  rfl

theorem minus_eight : Ideal.ofBits .f32 0xC1000000#32 = ((-8 : ℝ) : EReal) := by
  simp [Ideal.ofBits, Ideal.ieee]
  norm_cast
  norm_num

theorem two : Ideal.ofBits .f32 0x40000000#32 = ((2 : ℝ) : EReal) := by
  simp [Ideal.ofBits, Ideal.ieee]
  norm_cast
  norm_num

theorem v58_at (n : Fin 128) (s : Fin 8) (l : Fin 256) : res_main_v58 V (ix3 n s l) =
    logDecay (grouped (fun k => xc V n s k) (wa V) (ba V) l) (rate V l) := by
  unfold res_main_v58
  have hs := softplus_at V l
  generalize (select (cmpf .une (res_main_call0_v3 V) (res_main_call0_v3 V)) _ _ : FVec Ideal S256 .f32) = SP at hs ⊢
  unfold res_main_v33
  pointwise
  simp only [v32_at, hs]
  rw [minus_eight]
  rfl

theorem v72_at (n : Fin 128) (s : Fin 8) (l : Fin 256) : res_main_v72 V (ix3 n s l) =
    weight (Ideal.exp (logDecay (grouped (fun k => xc V n s k) (wa V) (ba V) l) (rate V l))) * Ideal.logistic (grouped (fun k => xc V n s k) (wx V) (bx V) l) * xc V n s l := by
  unfold res_main_v72 res_main_v33
  pointwise
  simp only [v32_at, v58_at]
  rw [two, weight_eq _ (logDecay_nonpos _ _)]
  rfl

/-- A row's decay and input. -/
def decay (n : Fin 128) (l : Fin 256) (s : Fin 8) : EReal := Ideal.exp (logDecay (grouped (fun k => xc V n s k) (wa V) (ba V) l) (rate V l))
def input (n : Fin 128) (l : Fin 256) (s : Fin 8) : EReal :=
  weight (decay V n l s) * Ideal.logistic (grouped (fun k => xc V n s k) (wx V) (bx V) l) * xc V n s l

/-- The state after row `s`. -/
def state (n : Fin 128) (s : Fin 8) (l : Fin 256) : EReal := run (decay V n l) (input V n l) (start V n l) (s.val + 1)

theorem v59_at (n : Fin 128) (s : Fin 8) (l : Fin 256) : res_main_v59 V (ix3 n s l) = decay V n l s := by
  unfold res_main_v59 decay
  rw [← v58_at]
  pointwise

theorem input_at (n : Fin 128) (s : Fin 8) (l : Fin 256) : res_main_v72 V (ix3 n s l) = input V n l s := v72_at V n s l

theorem v78_at (n : Fin 128) (l : Fin 256) : res_main_v78 V (ix2 n l) = state V n 0 l := by
  unfold res_main_v78
  pointwise
  rw [v59_at, input_at]
  rfl

theorem v84_at (n : Fin 128) (l : Fin 256) : res_main_v84 V (ix2 n l) = state V n 1 l := by
  unfold res_main_v84
  pointwise
  rw [v59_at, input_at, v78_at]
  rfl

theorem v90_at (n : Fin 128) (l : Fin 256) : res_main_v90 V (ix2 n l) = state V n 2 l := by
  unfold res_main_v90
  pointwise
  rw [v59_at, input_at, v84_at]
  rfl

theorem v96_at (n : Fin 128) (l : Fin 256) : res_main_v96 V (ix2 n l) = state V n 3 l := by
  unfold res_main_v96
  pointwise
  rw [v59_at, input_at, v90_at]
  rfl

theorem v102_at (n : Fin 128) (l : Fin 256) : res_main_v102 V (ix2 n l) = state V n 4 l := by
  unfold res_main_v102
  pointwise
  rw [v59_at, input_at, v96_at]
  rfl

theorem v108_at (n : Fin 128) (l : Fin 256) : res_main_v108 V (ix2 n l) = state V n 5 l := by
  unfold res_main_v108
  pointwise
  rw [v59_at, input_at, v102_at]
  rfl

theorem v114_at (n : Fin 128) (l : Fin 256) : res_main_v114 V (ix2 n l) = state V n 6 l := by
  unfold res_main_v114
  pointwise
  rw [v59_at, input_at, v108_at]
  rfl

theorem v129_at (n : Fin 128) (s : Fin 8) (l : Fin 256) : res_main_v129 V (ix3 n s l) = state V n s l := by
  unfold res_main_v129
  obtain ⟨s, hs⟩ := s
  interval_cases s
  · pointwise
    exact v78_at V n l
  · pointwise
    exact v84_at V n l
  · pointwise
    exact v90_at V n l
  · pointwise
    exact v96_at V n l
  · pointwise
    exact v102_at V n l
  · pointwise
    exact v108_at V n l
  · pointwise
    exact v114_at V n l
  · pointwise
    rw [v59_at, input_at, v114_at]
    rfl

/-- The result arrays. -/
theorem normed_at (n : Fin 128) (s : Fin 8) (l : Fin 256) : (mulf (mulf (res_main_v129 V) (broadcastInDim S128x8x256 ![0, 1, 2] bcast_S128x8x1_S128x8x256_0_1_2 (Host.rsqrt (addf (Host.divf (broadcastInDim S128x8x1 ![0, 1] bcast_S128x8_S128x8x1_0_1 (Host.reduceAdd (mulf (res_main_v129 V) (res_main_v129 V)) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32)))))) (broadcastInDim S128x8x256 ![0, 1, 2] bcast_S1x1x256_S128x8x256_0_1_2 (broadcastInDim S1x1x256 ![2] bcast_S256_S1x1x256_2 (V (Proc.devRef .tc main_arg10)))) : FVec Ideal S128x8x256 .f32) (ix3 n s l) =
    state V n s l * Ideal.rsqrt (Ideal.div (∑ q : Fin 256, state V n s q * state V n s q) (Ideal.ofBits .f32 0x43800000#32) + Ideal.ofBits .f32 0x358637BD#32) * gains V l := by
  unfold gains
  pointwise
  simp only [v129_at]

theorem carried_at (n : Fin 128) (s : Fin 1) (l : Fin 256) : (broadcastInDim S128x1x256 ![0, 2] bcast_S128x256_S128x1x256_0_2 (res_main_v96 V) : FVec Ideal S128x1x256 .f32) (ix3 n s l) = state V n 3 l := by
  rw [← v96_at]
  pointwise

end Cert.Lru.Ref

end
-- ==== Proof.LruTie.lean ====
/- The recurrence kernel's states against the reference's. -/
module

public import proofs.«01_k».proof.Proof.LruFinal
public import proofs.«01_k».proof.Proof.LruRef

@[expose] public section

set_option maxRecDepth 16384

noncomputable section

namespace Cert.Lru

open Idealize.ShloMosaic Idealize.ShloMosaic.TcCoe

/-- A column of the block-diagonal table reads the 64 channels of its group. -/
theorem lin_diag (x : Fin 256 → EReal) (w : Fin 4 → Fin 64 → Fin 64 → EReal) (b : Fin 256 → EReal) (l : Fin 256) :
    lin x (diag w) b l = Ref.grouped x w b l := by
  unfold lin Ref.grouped
  congr 1
  rw [← Fintype.sum_equiv (finProdFinEquiv (m := 4) (n := 64)) (fun p => x (finProdFinEquiv p) * diag w (finProdFinEquiv p) l) _ (fun _ => rfl),
    Fintype.sum_prod_type]
  have hl : l.val / 64 < 4 := by omega
  rw [Finset.sum_eq_single (⟨l.val / 64, hl⟩ : Fin 4)]
  · refine Finset.sum_congr rfl fun j _ => ?_
    have e : (finProdFinEquiv ((⟨l.val / 64, hl⟩ : Fin 4), j) : Fin 256) = ⟨l.val / 64 * 64 + j.val, by omega⟩ :=
      Fin.ext (show j.val + 64 * (l.val / 64) = l.val / 64 * 64 + j.val by omega)
    have d : diag w ⟨l.val / 64 * 64 + j.val, by omega⟩ l = w ⟨l.val / 64, hl⟩ j ⟨l.val % 64, by omega⟩ := by
      unfold diag
      rw [if_pos (show (l.val / 64 * 64 + j.val) / 64 = l.val / 64 by omega)]
      exact congrArg₂ (fun g k => w g k _) (Fin.ext (show (l.val / 64 * 64 + j.val) / 64 = l.val / 64 by omega))
        (Fin.ext (show (l.val / 64 * 64 + j.val) % 64 = j.val by omega))
    rw [e, d, mul_comm]
  · intro g _ hg
    refine Finset.sum_eq_zero fun j _ => ?_
    have e : (finProdFinEquiv (g, j) : Fin 256).val = j.val + 64 * g.val := rfl
    unfold diag
    rw [if_neg, mul_zero]
    rw [e]
    intro h
    exact hg (Fin.ext (by show g.val = l.val / 64; omega))
  · intro h
    exact absurd (Finset.mem_univ _) h

variable (m : (ℓ : Loc Cert.Kernel4Ideal.nD Cert.Kernel4Ideal.τ Cert.Kernel4Ideal.sig) → Buf (Elt Ideal) ℓ) (c : Dev Cert.Kernel4Ideal.nD)
  (V : Valuation Cert.Reference4Ideal.τ Cert.Reference4Ideal.sig (Elt Ideal))

theorem state_eq (h0 : Ref.xs V = xs m c) (h1 : Ref.before V = before m c) (h2 : Ref.start V = start m c) (h3 : Ref.taps V = taps m c)
    (h4 : Ref.tapBias V = tapBias m c) (h5 : Ref.wa V = wa m c) (h6 : Ref.ba V = ba m c) (h7 : Ref.wx V = wx m c) (h8 : Ref.bx V = bx m c)
    (h9 : Ref.rate V = rate m c) (n : Fin 128) (s : Fin 8) (l : Fin 256) : Ref.state V n s l = states m c n s l := by
  unfold states statesOf
  rw [scan_eq _ _ _ (fun q => ?_)]
  · unfold Ref.state
    rw [h2]
    congr 1
    · funext q
      unfold Ref.decay decayOf
      rw [lin_diag, h5, h6, h9]
      unfold Ref.xc
      rw [h0, h1, h3, h4]
    · funext q
      unfold Ref.input Ref.decay inputOf decayOf
      rw [lin_diag, lin_diag, h5, h6, h7, h8, h9]
      unfold Ref.xc
      rw [h0, h1, h3, h4]
  · obtain ⟨r, r0, -, hr⟩ := exp_real _ (logDecay_nonpos (lin (fun k => conv (fun j => taps m c j k) (tapBias m c k) (fun j => before m c n j k) (fun j => xs m c n j k) q) (diag (wa m c)) (ba m c) l) (rate m c l))
    exact ⟨r, r0, hr⟩

end Cert.Lru

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.AttnTie
public import proofs.«01_k».proof.Proof.OutProjKernel
public import proofs.«01_k».proof.Proof.OutProjRef
public import proofs.«01_k».proof.Proof.InProjTie
public import proofs.«01_k».proof.Proof.LruTie
public import proofs.«01_k».proof.Proof.Gen.Kernel4Ideal.Value
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.Proof

open Idealize.ShloMosaic Idealize.ShloMosaic.TcCoe Idealize.SL.Sem

theorem frame_kernel_ideal : Cert.quiescent_KernelIdeal (hKernelIdeal := Cert.KernelIdeal.Gen.facts) :=
  fun m ρ _ => Cert.KernelIdeal.Gen.frame m ρ

theorem frame_reference_ideal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The attention: both programs leave the same array. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  refine ⟨fun c => Cert.Attn.result m c, ?_, ?_⟩
  · refine (θ_run _ _ _).mono (fun r h c => ?_) (Cert.KernelIdeal.Value.run_blocks m g)
    obtain ⟨ho, hr⟩ := h c
    exact ⟨ho.trans (Cert.Attn.final m c), hr⟩
  · refine (θ_run _ _ _).mono (fun r h c => ?_) (Cert.ReferenceIdeal.Value.run m' g')
    obtain ⟨ho, hr⟩ := h c
    refine ⟨ho.trans ?_, hr⟩
    obtain ⟨a0, a1, a2, a3⟩ := hagree c
    obtain ⟨r0, r1, r2⟩ := @Cert.Attn.real_args Cert.Pre_finite_scores.Gen.facts _ _ _ _ (hpre c)
    funext i
    obtain ⟨b, s, l, rfl⟩ : ∃ (b : Fin 16) (s : Fin 2048) (l : Fin 256), i = ix3 b s l := ⟨i 0, i 1, i 2, eq_ix3 i⟩
    refine (Cert.Attn.Ref.norm_at _ _ b s l).trans ?_
    obtain ⟨n, r, rfl⟩ : ∃ (n : Fin 16) (r : Fin 128), s = Cert.Attn.seqRow n r :=
      ⟨⟨s.val / 128, by omega⟩, ⟨s.val % 128, by omega⟩, Fin.ext (by simp only [Cert.Attn.seqRow]; omega)⟩
    have hm := fun x => Cert.Attn.mixed_eq m c (Idealize.ShloMosaic.StableHlo.launchContents m' c)
      (fun b s l => congrFun a0 (ix3 b s l)) (funext fun k => funext fun h => congrFun a1 (ix2 k h)) (funext fun h => congrFun a2 (ix1 h))
      (fun b s l hl => r0 b s ⟨l.val, hl⟩) r1 r2 b n r x
    have hn : (fun x => Idealize.ShloMosaic.StableHlo.launchContents m' c (Proc.devRef .tc Cert.ReferenceIdeal.main_arg3) (ix1 x)) = Cert.Attn.norm m c :=
      funext fun x => congrFun a3 (ix1 x)
    rw [hn, funext hm]
    exact (Cert.Attn.result_at m c b n r l).symm

theorem frame_reference2_ideal : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_reference3_ideal : Cert.quiescent_Reference3Ideal (hReference3Ideal := Cert.Reference3Ideal.Gen.facts) :=
  fun m ρ _ => (θ_run Cert.Reference3Ideal.defs _ _).mono
    (fun r h => ⟨fun c => (h c).2.2.2.2.2, Idealize.ShloMosaic.sem_eq_zero_of_no_sems (by decide) r.2⟩)
    (Cert.Reference3Ideal.Value.run (F := Ideal) m ρ)

/-- The output projection: both programs leave the same array. -/
theorem out_projection : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.OutProj.result m c, ?_, ?_⟩
  · refine (θ_run _ _ _).mono (fun r h c => ?_) (Cert.Kernel2Ideal.Value.run_blocks m g)
    obtain ⟨ho, hr⟩ := h c
    exact ⟨ho.trans (Cert.OutProj.final m c), hr⟩
  · refine (θ_run _ _ _).mono (fun r h c => ?_) (Cert.Reference2Ideal.Value.run m' g')
    obtain ⟨ho, hr⟩ := h c
    refine ⟨ho.trans ?_, hr⟩
    obtain ⟨a0, a1, a2, a3, a4, a5, a6, a7, a8, a9, a10⟩ := hagree c
    rw [Cert.OutProj.Ref.res_eq, a0, a1, a2, a3, a4, a5, a6, a7, a8, a9, a10]
    funext i
    obtain ⟨R, n, rfl⟩ : ∃ (R : Fin 32768) (n : Fin 1024), i = ix2 R n := ⟨i 0, i 1, eq_ix2 i⟩
    exact Cert.OutProj.Ref.out_at _ _ _ _ _ _ _ _ _ _ _ R n

/-- The input projection: both programs leave the same five arrays. -/
theorem in_projection : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.InProj.result3 m c, fun c => Cert.InProj.result4 m c, fun c => Cert.InProj.result5 m c,
    fun c => Cert.InProj.result6 m c, fun c => Cert.InProj.result7 m c, ?_, ?_⟩
  · refine (θ_run _ _ _).mono (fun r h c => ?_) (Cert.Kernel3Ideal.Value.run_blocks m g)
    obtain ⟨h3, h4, h5, h6, h7, hr⟩ := h c
    exact ⟨h3.trans (Cert.InProj.final3 m c), h4.trans (Cert.InProj.final4 m c), h5.trans (Cert.InProj.final5 m c),
      h6.trans (Cert.InProj.final6 m c), h7.trans (Cert.InProj.final7 m c), hr⟩
  · refine (θ_run _ _ _).mono (fun r h c => ?_) (Cert.Reference3Ideal.Value.run m' g')
    obtain ⟨h0, h1, h2, h3, h4, hr⟩ := h c
    obtain ⟨a0, a1, a2⟩ := hagree c
    rw [a0, a1, a2] at h0 h1 h2 h3 h4
    have hz := fun (R : Fin 32768) (n : Fin 3152) => Cert.InProj.Ref.projected_at
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (Cert.Proj.imageOf R) (Cert.Proj.placeOf R) n
    refine ⟨h0.trans ?_, h1.trans ?_, h2.trans ?_, h3.trans ?_, h4.trans ?_, hr⟩
    all_goals funext i
    · obtain ⟨R, l, rfl⟩ : ∃ (R : Fin 32768) (l : Fin 256), i = ix2 R l := ⟨i 0, i 1, eq_ix2 i⟩
      exact (Cert.InProj.Ref.out0_at _ R l).trans (Cert.InProj.tie0 m c _ hz R l)
    · obtain ⟨R, l, rfl⟩ : ∃ (R : Fin 32768) (l : Fin 512), i = ix2 R l := ⟨i 0, i 1, eq_ix2 i⟩
      exact (Cert.InProj.Ref.out1_at _ R l).trans (Cert.InProj.tie1 m c _ hz R l)
    · obtain ⟨R, l, rfl⟩ : ∃ (R : Fin 32768) (l : Fin 512), i = ix2 R l := ⟨i 0, i 1, eq_ix2 i⟩
      exact (Cert.InProj.Ref.out2_at _ R l).trans (Cert.InProj.tie2 m c _ hz R l)
    · obtain ⟨R, l, rfl⟩ : ∃ (R : Fin 32768) (l : Fin 896), i = ix2 R l := ⟨i 0, i 1, eq_ix2 i⟩
      exact (Cert.InProj.Ref.out3_at _ R l).trans (Cert.InProj.tie3 m c _ hz R l)
    · obtain ⟨R, l, rfl⟩ : ∃ (R : Fin 32768) (l : Fin 1024), i = ix2 R l := ⟨i 0, i 1, eq_ix2 i⟩
      exact (Cert.InProj.Ref.out4_at _ R l).trans (Cert.InProj.tie4 m c _ hz R l)

theorem frame_reference4_ideal : Cert.quiescent_Reference4Ideal (hReference4Ideal := Cert.Reference4Ideal.Gen.facts) :=
  fun m ρ _ => (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The recurrence: both programs leave the same normalised states and the same carried state. -/
theorem recurrence : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Lru.normed m c, fun c => Cert.Lru.carried m c, ?_, ?_⟩
  · refine (θ_run _ _ _).mono (fun r h c => ?_) (Cert.Kernel4Ideal.Value.run_blocks m g)
    obtain ⟨h0, h1, hr⟩ := h c
    exact ⟨h0.trans (Cert.Lru.final_normed m c), h1.trans (Cert.Lru.final_carried m c), hr⟩
  · refine (θ_run _ _ _).mono (fun r h c => ?_) (Cert.Reference4Ideal.Value.run m' g')
    obtain ⟨h0, h1, hr⟩ := h c
    obtain ⟨a0, a1, a2, a3, a4, a5, a6, a7, a8, a9, a10⟩ := hagree c
    have hs := Cert.Lru.state_eq m c (Idealize.ShloMosaic.StableHlo.launchContents m' c)
      (funext fun n => funext fun s => funext fun l => congrFun a0 (ix3 n s l)) (funext fun n => funext fun k => funext fun l => congrFun a1 (ix3 n k l))
      (funext fun n => funext fun l => congrFun a2 (ix2 n l)) (funext fun k => funext fun l => congrFun a3 (ix2 k l)) (funext fun l => congrFun a4 (ix1 l))
      (funext fun k => funext fun i => funext fun j => congrFun a5 (ix3 k i j)) (funext fun l => congrFun a6 (ix1 l))
      (funext fun k => funext fun i => funext fun j => congrFun a7 (ix3 k i j)) (funext fun l => congrFun a8 (ix1 l)) (funext fun l => congrFun a9 (ix1 l))
    refine ⟨h0.trans ?_, h1.trans ?_, hr⟩
    all_goals funext i
    · obtain ⟨n, s, l, rfl⟩ : ∃ (n : Fin 128) (s : Fin 8) (l : Fin 256), i = ix3 n s l := ⟨i 0, i 1, i 2, eq_ix3 i⟩
      refine (Cert.Lru.Ref.normed_at _ n s l).trans ?_
      have hg : Cert.Lru.Ref.gains (Idealize.ShloMosaic.StableHlo.launchContents m' c) l = Cert.Lru.gains m c l := congrFun a10 (ix1 l)
      simp only [hs, hg]
      rfl
    · obtain ⟨n, s, l, rfl⟩ : ∃ (n : Fin 128) (s : Fin 1) (l : Fin 256), i = ix3 n s l := ⟨i 0, i 1, i 2, eq_ix3 i⟩
      exact (Cert.Lru.Ref.carried_at _ n s l).trans (hs n 3 l)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.Gen.facts,
  fun m ρ _ => Cert.Kernel.Gen.frame m ρ, frame_kernel_ideal, fun m ρ _ => Cert.KernelIdeal.Gen.frame m ρ,
  frame_reference_ideal, fun m ρ _ => frame_reference_ideal m ρ trivial,
  fun m ρ _ => Cert.Kernel2.Gen.frame m ρ, fun m ρ _ => Cert.Kernel2Ideal.Gen.frame m ρ, frame_reference2_ideal,
  fun m ρ _ => Cert.Kernel3.Gen.frame m ρ, fun m ρ _ => Cert.Kernel3Ideal.Gen.frame m ρ, frame_reference3_ideal,
  fun m ρ _ => Cert.Kernel4.Gen.frame m ρ, fun m ρ _ => Cert.Kernel4Ideal.Gen.frame m ρ, frame_reference4_ideal,
  trivial, attention, trivial, out_projection, trivial, in_projection, trivial, recurrence⟩

end Cert.Proof

end
